-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutIdeal_odd_finite [hPre_odd_finite : Cert.Pre_odd_finite.Facts] (m : (ℓ : Loc Cert.OddOutIdeal.nD Cert.OddOutIdeal.τ Cert.OddOutIdeal.sig) → Buf (Elt Ideal) ℓ) : Prop :=
  ∀ c : Dev Cert.OddOutIdeal.nD,
    (Cert.Pre_odd_finite.fn (F := Ideal) (m ((c.tc : Thread Cert.OddOutIdeal.nD Cert.OddOutIdeal.τ).loc Cert.OddOutIdeal.main_arg0)) (m ((c.tc : Thread Cert.OddOutIdeal.nD Cert.OddOutIdeal.τ).loc Cert.OddOutIdeal.main_arg1)) (m ((c.tc : Thread Cert.OddOutIdeal.nD Cert.OddOutIdeal.τ).loc Cert.OddOutIdeal.main_arg2)) (m ((c.tc : Thread Cert.OddOutIdeal.nD Cert.OddOutIdeal.τ).loc Cert.OddOutIdeal.main_arg3)) (m ((c.tc : Thread Cert.OddOutIdeal.nD Cert.OddOutIdeal.τ).loc Cert.OddOutIdeal.main_arg4))) = (fun _ => 1#1)

def Pre_OddOutRefIdeal (m : (ℓ : Loc Cert.OddOutRefIdeal.nD Cert.OddOutRefIdeal.τ Cert.OddOutRefIdeal.sig) → Buf (Elt Ideal) ℓ) : Prop :=
  True

def Pre_OddOutRefIdeal_odd_finite [hPre_odd_finite : Cert.Pre_odd_finite.Facts] (m : (ℓ : Loc Cert.OddOutRefIdeal.nD Cert.OddOutRefIdeal.τ Cert.OddOutRefIdeal.sig) → Buf (Elt Ideal) ℓ) : Prop :=
  ∀ c : Dev Cert.OddOutRefIdeal.nD,
    (Cert.Pre_odd_finite.fn (F := Ideal) (m ((c.tc : Thread Cert.OddOutRefIdeal.nD Cert.OddOutRefIdeal.τ).loc Cert.OddOutRefIdeal.main_arg0)) (m ((c.tc : Thread Cert.OddOutRefIdeal.nD Cert.OddOutRefIdeal.τ).loc Cert.OddOutRefIdeal.main_arg1)) (m ((c.tc : Thread Cert.OddOutRefIdeal.nD Cert.OddOutRefIdeal.τ).loc Cert.OddOutRefIdeal.main_arg2)) (m ((c.tc : Thread Cert.OddOutRefIdeal.nD Cert.OddOutRefIdeal.τ).loc Cert.OddOutRefIdeal.main_arg3)) (m ((c.tc : Thread Cert.OddOutRefIdeal.nD Cert.OddOutRefIdeal.τ).loc Cert.OddOutRefIdeal.main_arg4))) = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInIdeal_even_finite [hPre_even_finite : Cert.Pre_even_finite.Facts] (m : (ℓ : Loc Cert.EvenInIdeal.nD Cert.EvenInIdeal.τ Cert.EvenInIdeal.sig) → Buf (Elt Ideal) ℓ) : Prop :=
  ∀ c : Dev Cert.EvenInIdeal.nD,
    (Cert.Pre_even_finite.fn (F := Ideal) (m ((c.tc : Thread Cert.EvenInIdeal.nD Cert.EvenInIdeal.τ).loc Cert.EvenInIdeal.main_arg0)) (m ((c.tc : Thread Cert.EvenInIdeal.nD Cert.EvenInIdeal.τ).loc Cert.EvenInIdeal.main_arg1)) (m ((c.tc : Thread Cert.EvenInIdeal.nD Cert.EvenInIdeal.τ).loc Cert.EvenInIdeal.main_arg2))) = (fun _ => 1#1)

def Pre_EvenInRefIdeal (m : (ℓ : Loc Cert.EvenInRefIdeal.nD Cert.EvenInRefIdeal.τ Cert.EvenInRefIdeal.sig) → Buf (Elt Ideal) ℓ) : Prop :=
  True

def Pre_EvenInRefIdeal_even_finite [hPre_even_finite : Cert.Pre_even_finite.Facts] (m : (ℓ : Loc Cert.EvenInRefIdeal.nD Cert.EvenInRefIdeal.τ Cert.EvenInRefIdeal.sig) → Buf (Elt Ideal) ℓ) : Prop :=
  ∀ c : Dev Cert.EvenInRefIdeal.nD,
    (Cert.Pre_even_finite.fn (F := Ideal) (m ((c.tc : Thread Cert.EvenInRefIdeal.nD Cert.EvenInRefIdeal.τ).loc Cert.EvenInRefIdeal.main_arg0)) (m ((c.tc : Thread Cert.EvenInRefIdeal.nD Cert.EvenInRefIdeal.τ).loc Cert.EvenInRefIdeal.main_arg1)) (m ((c.tc : Thread Cert.EvenInRefIdeal.nD Cert.EvenInRefIdeal.τ).loc Cert.EvenInRefIdeal.main_arg2))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4))
      ∧ r.2.sem = fun _ => 0)

def quiescent_OddOutIdeal_pre_odd_finite [hOddOutIdeal : Cert.OddOutIdeal.Facts] [hPre_odd_finite : Cert.Pre_odd_finite.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal_odd_finite m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4))
      ∧ r.2.sem = fun _ => 0)

def quiescent_OddOutRefIdeal_pre_odd_finite [hOddOutRefIdeal : Cert.OddOutRefIdeal.Facts] [hPre_odd_finite : Cert.Pre_odd_finite.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal_odd_finite m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInIdeal_pre_even_finite [hEvenInIdeal : Cert.EvenInIdeal.Facts] [hPre_even_finite : Cert.Pre_even_finite.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal_even_finite m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2))
      ∧ r.2.sem = fun _ => 0)

def quiescent_EvenInRefIdeal_pre_even_finite [hEvenInRefIdeal : Cert.EvenInRefIdeal.Facts] [hPre_even_finite : Cert.Pre_even_finite.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal_even_finite m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10)
      ∧ r.2.mem ((c.tc : Thread Cert.Mid.nD Cert.Mid.τ).loc Cert.Mid.main_arg11) = m ((c.tc : Thread Cert.Mid.nD Cert.Mid.τ).loc Cert.Mid.main_arg11)
      ∧ r.2.mem ((c.tc : Thread Cert.Mid.nD Cert.Mid.τ).loc Cert.Mid.main_arg12) = m ((c.tc : Thread Cert.Mid.nD Cert.Mid.τ).loc Cert.Mid.main_arg12))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
      ∧ r.2.mem ((c.tc : Thread Cert.MidIdeal.nD Cert.MidIdeal.τ).loc Cert.MidIdeal.main_arg12) = m ((c.tc : Thread Cert.MidIdeal.nD Cert.MidIdeal.τ).loc Cert.MidIdeal.main_arg12))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10)
      ∧ r.2.mem ((c.tc : Thread Cert.MidRefIdeal.nD Cert.MidRefIdeal.τ).loc Cert.MidRefIdeal.main_arg11) = m ((c.tc : Thread Cert.MidRefIdeal.nD Cert.MidRefIdeal.τ).loc Cert.MidRefIdeal.main_arg11)
      ∧ r.2.mem ((c.tc : Thread Cert.MidRefIdeal.nD Cert.MidRefIdeal.τ).loc Cert.MidRefIdeal.main_arg12) = m ((c.tc : Thread Cert.MidRefIdeal.nD Cert.MidRefIdeal.τ).loc Cert.MidRefIdeal.main_arg12))
      ∧ r.2.sem = fun _ => 0)

def preserves_Attn_AttnIdeal : Prop :=
  IdealRules.named_const.Statement Cert.AttnIdeal.κ "q_scale" .f32 0x3E0293EE#32 (((11863283 / 134217728) * (Real.log 2)⁻¹ : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v31)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v31) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v21) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_OddOut_OddOutIdeal : Prop :=
  True

def algebraic_OddOutIdeal_OddOutRefIdeal_pre_odd_finite [hOddOutIdeal : Cert.OddOutIdeal.Facts] [hOddOutRefIdeal : Cert.OddOutRefIdeal.Facts] [hPre_odd_finite : Cert.Pre_odd_finite.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal_odd_finite m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)) →
    ∃ (v0 : (c : Dev Cert.OddOutIdeal.nD) → Buf (Elt Ideal) ((c.tc : Thread Cert.OddOutIdeal.nD Cert.OddOutIdeal.τ).loc Cert.OddOutIdeal.main_v3)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v3) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v20) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4))

def preserves_EvenIn_EvenInIdeal : Prop :=
  True

def algebraic_EvenInIdeal_EvenInRefIdeal_pre_even_finite [hEvenInIdeal : Cert.EvenInIdeal.Facts] [hEvenInRefIdeal : Cert.EvenInRefIdeal.Facts] [hPre_even_finite : Cert.Pre_even_finite.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal_even_finite m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)) →
    ∃ (v0 : (c : Dev Cert.EvenInIdeal.nD) → Buf (Elt Ideal) ((c.tc : Thread Cert.EvenInIdeal.nD Cert.EvenInIdeal.τ).loc Cert.EvenInIdeal.main_v4_0)) (v1 : (c : Dev Cert.EvenInIdeal.nD) → Buf (Elt Ideal) ((c.tc : Thread Cert.EvenInIdeal.nD Cert.EvenInIdeal.τ).loc Cert.EvenInIdeal.main_v4_1)) (v2 : (c : Dev Cert.EvenInIdeal.nD) → Buf (Elt Ideal) ((c.tc : Thread Cert.EvenInIdeal.nD Cert.EvenInIdeal.τ).loc Cert.EvenInIdeal.main_v4_2)) (v3 : (c : Dev Cert.EvenInIdeal.nD) → Buf (Elt Ideal) ((c.tc : Thread Cert.EvenInIdeal.nD Cert.EvenInIdeal.τ).loc Cert.EvenInIdeal.main_v4_3)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v4_0) = v0 c
          ∧ r.2.mem ((c.tc : Thread Cert.EvenInIdeal.nD Cert.EvenInIdeal.τ).loc Cert.EvenInIdeal.main_v4_1) = v1 c
          ∧ r.2.mem ((c.tc : Thread Cert.EvenInIdeal.nD Cert.EvenInIdeal.τ).loc Cert.EvenInIdeal.main_v4_2) = v2 c
          ∧ r.2.mem ((c.tc : Thread Cert.EvenInIdeal.nD Cert.EvenInIdeal.τ).loc Cert.EvenInIdeal.main_v4_3) = v3 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v27) = v0 c
          ∧ r.2.mem ((c.tc : Thread Cert.EvenInRefIdeal.nD Cert.EvenInRefIdeal.τ).loc Cert.EvenInRefIdeal.main_v29) = v1 c
          ∧ r.2.mem ((c.tc : Thread Cert.EvenInRefIdeal.nD Cert.EvenInRefIdeal.τ).loc Cert.EvenInRefIdeal.main_v31) = v2 c
          ∧ r.2.mem ((c.tc : Thread Cert.EvenInRefIdeal.nD Cert.EvenInRefIdeal.τ).loc Cert.EvenInRefIdeal.main_v33) = v3 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)
      ∧ m' ((c.tc : Thread Cert.MidRefIdeal.nD Cert.MidRefIdeal.τ).loc Cert.MidRefIdeal.main_arg9) = m ((c.tc : Thread Cert.MidIdeal.nD Cert.MidIdeal.τ).loc Cert.MidIdeal.main_arg9)
      ∧ m' ((c.tc : Thread Cert.MidRefIdeal.nD Cert.MidRefIdeal.τ).loc Cert.MidRefIdeal.main_arg10) = m ((c.tc : Thread Cert.MidIdeal.nD Cert.MidIdeal.τ).loc Cert.MidIdeal.main_arg10)
      ∧ m' ((c.tc : Thread Cert.MidRefIdeal.nD Cert.MidRefIdeal.τ).loc Cert.MidRefIdeal.main_arg11) = m ((c.tc : Thread Cert.MidIdeal.nD Cert.MidIdeal.τ).loc Cert.MidIdeal.main_arg11)
      ∧ m' ((c.tc : Thread Cert.MidRefIdeal.nD Cert.MidRefIdeal.τ).loc Cert.MidRefIdeal.main_arg12) = m ((c.tc : Thread Cert.MidIdeal.nD Cert.MidIdeal.τ).loc Cert.MidIdeal.main_arg12)) →
    ∃ (v0 : (c : Dev Cert.MidIdeal.nD) → Buf (Elt Ideal) ((c.tc : Thread Cert.MidIdeal.nD Cert.MidIdeal.τ).loc Cert.MidIdeal.main_v19_0)) (v1 : (c : Dev Cert.MidIdeal.nD) → Buf (Elt Ideal) ((c.tc : Thread Cert.MidIdeal.nD Cert.MidIdeal.τ).loc Cert.MidIdeal.main_v19_1)) (v2 : (c : Dev Cert.MidIdeal.nD) → Buf (Elt Ideal) ((c.tc : Thread Cert.MidIdeal.nD Cert.MidIdeal.τ).loc Cert.MidIdeal.main_v19_2)) (v3 : (c : Dev Cert.MidIdeal.nD) → Buf (Elt Ideal) ((c.tc : Thread Cert.MidIdeal.nD Cert.MidIdeal.τ).loc Cert.MidIdeal.main_v19_3)) (v4 : (c : Dev Cert.MidIdeal.nD) → Buf (Elt Ideal) ((c.tc : Thread Cert.MidIdeal.nD Cert.MidIdeal.τ).loc Cert.MidIdeal.main_v19_4)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v19_0) = v0 c
          ∧ r.2.mem ((c.tc : Thread Cert.MidIdeal.nD Cert.MidIdeal.τ).loc Cert.MidIdeal.main_v19_1) = v1 c
          ∧ r.2.mem ((c.tc : Thread Cert.MidIdeal.nD Cert.MidIdeal.τ).loc Cert.MidIdeal.main_v19_2) = v2 c
          ∧ r.2.mem ((c.tc : Thread Cert.MidIdeal.nD Cert.MidIdeal.τ).loc Cert.MidIdeal.main_v19_3) = v3 c
          ∧ r.2.mem ((c.tc : Thread Cert.MidIdeal.nD Cert.MidIdeal.τ).loc Cert.MidIdeal.main_v19_4) = v4 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
          ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
          ∧ r.2.mem ((c.tc : Thread Cert.MidIdeal.nD Cert.MidIdeal.τ).loc Cert.MidIdeal.main_arg12) = m ((c.tc : Thread Cert.MidIdeal.nD Cert.MidIdeal.τ).loc Cert.MidIdeal.main_arg12))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v163) = v0 c
          ∧ r.2.mem ((c.tc : Thread Cert.MidRefIdeal.nD Cert.MidRefIdeal.τ).loc Cert.MidRefIdeal.main_v164) = v1 c
          ∧ r.2.mem ((c.tc : Thread Cert.MidRefIdeal.nD Cert.MidRefIdeal.τ).loc Cert.MidRefIdeal.main_v165) = v2 c
          ∧ r.2.mem ((c.tc : Thread Cert.MidRefIdeal.nD Cert.MidRefIdeal.τ).loc Cert.MidRefIdeal.main_v166) = v3 c
          ∧ r.2.mem ((c.tc : Thread Cert.MidRefIdeal.nD Cert.MidRefIdeal.τ).loc Cert.MidRefIdeal.main_v168) = v4 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9)
          ∧ r.2.mem ((c.tc : Thread Cert.MidRefIdeal.nD Cert.MidRefIdeal.τ).loc Cert.MidRefIdeal.main_arg10) = m' ((c.tc : Thread Cert.MidRefIdeal.nD Cert.MidRefIdeal.τ).loc Cert.MidRefIdeal.main_arg10)
          ∧ r.2.mem ((c.tc : Thread Cert.MidRefIdeal.nD Cert.MidRefIdeal.τ).loc Cert.MidRefIdeal.main_arg11) = m' ((c.tc : Thread Cert.MidRefIdeal.nD Cert.MidRefIdeal.τ).loc Cert.MidRefIdeal.main_arg11)
          ∧ r.2.mem ((c.tc : Thread Cert.MidRefIdeal.nD Cert.MidRefIdeal.τ).loc Cert.MidRefIdeal.main_arg12) = m' ((c.tc : Thread Cert.MidRefIdeal.nD Cert.MidRefIdeal.τ).loc Cert.MidRefIdeal.main_arg12))

def Claim : Prop :=
  ∃ (hAttn : Cert.Attn.Facts) (hAttnIdeal : Cert.AttnIdeal.Facts) (hAttnRefIdeal : Cert.AttnRefIdeal.Facts) (hOddOut : Cert.OddOut.Facts) (hOddOutIdeal : Cert.OddOutIdeal.Facts) (hOddOutRefIdeal : Cert.OddOutRefIdeal.Facts) (hEvenIn : Cert.EvenIn.Facts) (hEvenInIdeal : Cert.EvenInIdeal.Facts) (hEvenInRefIdeal : Cert.EvenInRefIdeal.Facts) (hMid : Cert.Mid.Facts) (hMidIdeal : Cert.MidIdeal.Facts) (hMidRefIdeal : Cert.MidRefIdeal.Facts) (hPre_attn_finite : Cert.Pre_attn_finite.Facts) (hPre_odd_finite : Cert.Pre_odd_finite.Facts) (hPre_even_finite : Cert.Pre_even_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_OddOut (hOddOut := hOddOut)
    ∧ quiescent_OddOutIdeal (hOddOutIdeal := hOddOutIdeal)
    ∧ quiescent_OddOutIdeal_pre_odd_finite (hOddOutIdeal := hOddOutIdeal) (hPre_odd_finite := hPre_odd_finite)
    ∧ quiescent_OddOutRefIdeal (hOddOutRefIdeal := hOddOutRefIdeal)
    ∧ quiescent_OddOutRefIdeal_pre_odd_finite (hOddOutRefIdeal := hOddOutRefIdeal) (hPre_odd_finite := hPre_odd_finite)
    ∧ quiescent_EvenIn (hEvenIn := hEvenIn)
    ∧ quiescent_EvenInIdeal (hEvenInIdeal := hEvenInIdeal)
    ∧ quiescent_EvenInIdeal_pre_even_finite (hEvenInIdeal := hEvenInIdeal) (hPre_even_finite := hPre_even_finite)
    ∧ quiescent_EvenInRefIdeal (hEvenInRefIdeal := hEvenInRefIdeal)
    ∧ quiescent_EvenInRefIdeal_pre_even_finite (hEvenInRefIdeal := hEvenInRefIdeal) (hPre_even_finite := hPre_even_finite)
    ∧ quiescent_Mid (hMid := hMid)
    ∧ quiescent_MidIdeal (hMidIdeal := hMidIdeal)
    ∧ quiescent_MidRefIdeal (hMidRefIdeal := hMidRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_OddOut_OddOutIdeal
    ∧ algebraic_OddOutIdeal_OddOutRefIdeal_pre_odd_finite (hOddOutIdeal := hOddOutIdeal) (hOddOutRefIdeal := hOddOutRefIdeal) (hPre_odd_finite := hPre_odd_finite)
    ∧ preserves_EvenIn_EvenInIdeal
    ∧ algebraic_EvenInIdeal_EvenInRefIdeal_pre_even_finite (hEvenInIdeal := hEvenInIdeal) (hEvenInRefIdeal := hEvenInRefIdeal) (hPre_even_finite := hPre_even_finite)
    ∧ preserves_Mid_MidIdeal
    ∧ algebraic_MidIdeal_MidRefIdeal (hMidIdeal := hMidIdeal) (hMidRefIdeal := hMidRefIdeal)
-- ==== Pre_attn_finite.lean ====
abbrev S2x8192x8x128 : Shape := ⟨4, ![2, 8192, 8, 128]⟩
abbrev S2x8192x2x128 : Shape := ⟨4, ![2, 8192, 2, 128]⟩
abbrev S1x128 : Shape := ⟨2, ![1, 128]⟩
abbrev S_ : Shape := ⟨0, ![]⟩

class Facts : Prop where
  bcast_S_S2x8192x8x128 : S_.BroadcastsInDim S2x8192x8x128 (![] : Fin 0 → Fin S2x8192x8x128.rank)
  reducesTo_S2x8192x8x128_S_d0_1_2_3 : S2x8192x8x128.ReducesTo [0, 1, 2, 3] S_
  h_S_ : 0 < S_.numel
  bcast_S_S2x8192x2x128 : S_.BroadcastsInDim S2x8192x2x128 (![] : Fin 0 → Fin S2x8192x2x128.rank)
  reducesTo_S2x8192x2x128_S_d0_1_2_3 : S2x8192x2x128.ReducesTo [0, 1, 2, 3] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  main_v18

def fn {F : FTy → Type} [FloatOps F] (main_arg0 : FVec F S2x8192x8x128 .f32) (main_arg1 : FVec F S2x8192x2x128 .f32) (main_arg2 : FVec F S2x8192x2x128 .f32) (main_arg3 : FVec F S1x128 .f32) (main_arg4 : FVec F S1x128 .f32) : IVec S_ 1 :=
  let main_v0 : FVec F S2x8192x8x128 .f32 := Host.absf main_arg0
  let main_cst : FVec F S_ .f32 := constant S_ .f32 0x7F800000#32
  let main_v1 : FVec F S2x8192x8x128 .f32 := broadcastInDim S2x8192x8x128 ![] bcast_S_S2x8192x8x128 main_cst
  let main_v2 : IVec S2x8192x8x128 1 := cmpf .olt main_v0 main_v1
  let main_c : IVec S_ 1 := constantI S_ 1 1#1
  let main_v3 : IVec S_ 1 := (fun x v => Host.reduce IntOp.andi x v reducesTo_S2x8192x8x128_S_d0_1_2_3 h_S_) main_v2 main_c
  let main_v4 : FVec F S2x8192x2x128 .f32 := Host.absf main_arg1
  let main_cst_0 : FVec F S_ .f32 := constant S_ .f32 0x7F800000#32
  let main_v5 : FVec F S2x8192x2x128 .f32 := broadcastInDim S2x8192x2x128 ![] bcast_S_S2x8192x2x128 main_cst_0
  let main_v6 : IVec S2x8192x2x128 1 := cmpf .olt main_v4 main_v5
  let main_c_1 : IVec S_ 1 := constantI S_ 1 1#1
  let main_v7 : IVec S_ 1 := (fun x v => Host.reduce IntOp.andi x v reducesTo_S2x8192x2x128_S_d0_1_2_3 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_v13 main_v16
-- ==== Pre_even_finite.lean ====
abbrev S2x8192x1024 : Shape := ⟨3, ![2, 8192, 1024]⟩
abbrev S1x1024 : Shape := ⟨2, ![1, 1024]⟩
abbrev S1x1024x3072 : Shape := ⟨3, ![1, 1024, 3072]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1x1024x3072 : S_.BroadcastsInDim S1x1024x3072 (![] : Fin 0 → Fin S1x1024x3072.rank)
  reducesTo_S1x1024x3072_S_d0_1_2 : S1x1024x3072.ReducesTo [0, 1, 2] S_

variable [Facts]

def fn {F : FTy → Type} [FloatOps F] (main_arg0 : FVec F S2x8192x1024 .f32) (main_arg1 : FVec F S1x1024 .f32) (main_arg2 : FVec F S1x1024x3072 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1x1024x3072 .f32 := Host.absf main_arg2
  let main_cst_2 : FVec F S_ .f32 := constant S_ .f32 0x7F800000#32
  let main_v10 : FVec F S1x1024x3072 .f32 := broadcastInDim S1x1024x3072 ![] bcast_S_S1x1024x3072 main_cst_2
  let main_v11 : IVec S1x1024x3072 1 := cmpf .olt main_v9 main_v10
  let main_c_3 : IVec S_ 1 := constantI S_ 1 1#1
  let main_v12 : IVec S_ 1 := (fun x v => Host.reduce IntOp.andi x v reducesTo_S1x1024x3072_S_d0_1_2 h_S_) main_v11 main_c_3
  let main_v13 : IVec S_ 1 := andi main_v8 main_v12
  main_v13
-- ==== Pre_odd_finite.lean ====
abbrev S16384x1024 : Shape := ⟨2, ![16384, 1024]⟩
abbrev S2x8192x1024 : Shape := ⟨3, ![2, 8192, 1024]⟩
abbrev S1x1024x1024 : Shape := ⟨3, ![1, 1024, 1024]⟩
abbrev S1024 : Shape := ⟨1, ![1024]⟩
abbrev S_ : Shape := ⟨0, ![]⟩

class Facts : Prop where
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) (main_arg1 : FVec F S2x8192x1024 .bf16) (main_arg2 : FVec F S16384x1024 .bf16) (main_arg3 : FVec F S1x1024x1024 .f32) (main_arg4 : FVec F S1024 .f32) : IVec S_ 1 :=
  let main_v0 : FVec F S16384x1024 .f32 := (extf .f32 · bitsLt_bf16_f32) main_arg2
  let main_v1 : FVec F S16384x1024 .f32 := Host.absf main_v0
  let main_cst : FVec F S_ .f32 := constant S_ .f32 0x7F800000#32
  let main_v2 : FVec F S16384x1024 .f32 := broadcastInDim S16384x1024 ![] bcast_S_S16384x1024 main_cst
  let main_v3 : IVec S16384x1024 1 := cmpf .olt main_v1 main_v2
  let main_c : IVec S_ 1 := constantI S_ 1 1#1
  let main_v4 : IVec S_ 1 := (fun x v => Host.reduce IntOp.andi x v reducesTo_S16384x1024_S_d0_1 h_S_) main_v3 main_c
  main_v4
-- ==== Attn.lean ====
abbrev S2x8192x8x128 : Shape := ⟨4, ![2, 8192, 8, 128]⟩
abbrev S2x8192x2x128 : Shape := ⟨4, ![2, 8192, 2, 128]⟩
abbrev S1x128 : Shape := ⟨2, ![1, 128]⟩
abbrev S_ : Shape := ⟨0, ![]⟩
abbrev S2x8x128x8192 : Shape := ⟨4, ![2, 8, 128, 8192]⟩
abbrev S2x2x8192x128 : Shape := ⟨4, ![2, 2, 8192, 128]⟩
abbrev S2x2x16x8192 : Shape := ⟨4, ![2, 2, 16, 8192]⟩
abbrev S2x8x256x8192 : Shape := ⟨4, ![2, 8, 256, 8192]⟩
abbrev S2x2x8192x256 : Shape := ⟨4, ![2, 2, 8192, 256]⟩
abbrev S2x2x128x8192 : Shape := ⟨4, ![2, 2, 128, 8192]⟩
abbrev S2x2x144x8192 : Shape := ⟨4, ![2, 2, 144, 8192]⟩
abbrev S2x8192x1024 : Shape := ⟨3, ![2, 8192, 1024]⟩
abbrev S1x4x256x512 : Shape := ⟨4, ![1, 4, 256, 512]⟩
abbrev S1x1x8192x256 : Shape := ⟨4, ![1, 1, 8192, 256]⟩
abbrev S1x1x144x8192 : Shape := ⟨4, ![1, 1, 144, 8192]⟩
abbrev S1x512x512 : Shape := ⟨3, ![1, 512, 512]⟩
abbrev S4x144x512 : Shape := ⟨3, ![4, 144, 512]⟩
abbrev S1x1x128 : Shape := ⟨3, ![1, 1, 128]⟩
abbrev S1 : Shape := ⟨1, ![1]⟩
abbrev S1x1x1 : Shape := ⟨3, ![1, 1, 1]⟩
abbrev S1x1x256x512 : Shape := ⟨4, ![1, 1, 256, 512]⟩
abbrev S256x512 : Shape := ⟨2, ![256, 512]⟩
abbrev S128x512 : Shape := ⟨2, ![128, 512]⟩
abbrev S256x2048 : Shape := ⟨2, ![256, 2048]⟩
abbrev S144x2048 : Shape := ⟨2, ![144, 2048]⟩
abbrev S1x1x512x256 : Shape := ⟨4, ![1, 1, 512, 256]⟩
abbrev S512x256 : Shape := ⟨2, ![512, 256]⟩
abbrev S1x1x144x512 : Shape := ⟨4, ![1, 1, 144, 512]⟩
abbrev S144x512 : Shape := ⟨2, ![144, 512]⟩
abbrev S512x2048 : Shape := ⟨2, ![512, 2048]⟩
abbrev S1x144x512 : Shape := ⟨3, ![1, 144, 512]⟩
abbrev S1x512 : Shape := ⟨2, ![1, 512]⟩
abbrev S512x512 : Shape := ⟨2, ![512, 512]⟩
abbrev S512 : Shape := ⟨1, ![512]⟩
abbrev S512x128 : Shape := ⟨2, ![512, 128]⟩
abbrev S1x512x128 : Shape := ⟨3, ![1, 512, 128]⟩

abbrev nBuf : Space → Nat
  | .hbm => 47
  | .vmem => 11
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x2x128, .f32⟩
  | .hbm, ⟨2, _⟩ => ⟨S2x8192x2x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S1x128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S2x8x128x8192, .i32⟩
  | .hbm, ⟨15, _⟩ => ⟨S_, .i32⟩
  | .hbm, ⟨16, _⟩ => ⟨S2x8x128x8192, .i32⟩
  | .hbm, ⟨17, _⟩ => ⟨S2x8x128x8192, .i1⟩
  | .hbm, ⟨18, _⟩ => ⟨S2x8x128x8192, .f32⟩
  | .hbm, ⟨19, _⟩ => ⟨S2x8x128x8192, .bf16⟩
  | .hbm, ⟨20, _⟩ => ⟨S2x2x8192x128, .i32⟩
  | .hbm, ⟨21, _⟩ => ⟨S_, .i32⟩
  | .hbm, ⟨22, _⟩ => ⟨S2x2x8192x128, .i32⟩
  | .hbm, ⟨23, _⟩ => ⟨S2x2x8192x128, .i1⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S2x2x8192x128, .f32⟩
  | .hbm, ⟨28, _⟩ => ⟨S2x2x8192x128, .f32⟩
  | .hbm, ⟨29, _⟩ => ⟨S2x2x8192x128, .f32⟩
  | .hbm, ⟨30, _⟩ => ⟨S2x2x8192x128, .bf16⟩
  | .hbm, ⟨31, _⟩ => ⟨S2x2x16x8192, .i32⟩
  | .hbm, ⟨32, _⟩ => ⟨S_, .i32⟩
  | .hbm, ⟨33, _⟩ => ⟨S2x2x16x8192, .i32⟩
  | .hbm, ⟨34, _⟩ => ⟨S2x2x16x8192, .i1⟩
  | .hbm, ⟨35, _⟩ => ⟨S2x2x16x8192, .f32⟩
  | .hbm, ⟨36, _⟩ => ⟨S2x2x16x8192, .bf16⟩
  | .hbm, ⟨37, _⟩ => ⟨S2x8x128x8192, .f32⟩
  | .hbm, ⟨38, _⟩ => ⟨S2x8x128x8192, .bf16⟩
  | .hbm, ⟨39, _⟩ => ⟨S2x8x256x8192, .bf16⟩
  | .hbm, ⟨40, _⟩ => ⟨S2x2x8192x128, .f32⟩
  | .hbm, ⟨41, _⟩ => ⟨S2x2x8192x128, .bf16⟩
  | .hbm, ⟨42, _⟩ => ⟨S2x2x8192x256, .bf16⟩
  | .hbm, ⟨43, _⟩ => ⟨S2x2x128x8192, .f32⟩
  | .hbm, ⟨44, _⟩ => ⟨S2x2x128x8192, .bf16⟩
  | .hbm, ⟨45, _⟩ => ⟨S2x2x144x8192, .bf16⟩
  | .hbm, ⟨46, _⟩ => ⟨S2x8192x1024, .bf16⟩
  | .local _ .vmem, ⟨0, _⟩ => ⟨S1x4x256x512, .bf16⟩
  | .local _ .vmem, ⟨1, _⟩ => ⟨S1x4x256x512, .bf16⟩
  | .local _ .vmem, ⟨2, _⟩ => ⟨S1x1x8192x256, .bf16⟩
  | .local _ .vmem, ⟨3, _⟩ => ⟨S1x1x8192x256, .bf16⟩
  | .local _ .vmem, ⟨4, _⟩ => ⟨S1x1x144x8192, .bf16⟩
  | .local _ .vmem, ⟨5, _⟩ => ⟨S1x1x144x8192, .bf16⟩
  | .local _ .vmem, ⟨6, _⟩ => ⟨S1x128, .f32⟩
  | .local _ .vmem, ⟨7, _⟩ => ⟨S1x128, .f32⟩
  | .local _ .vmem, ⟨8, _⟩ => ⟨S1x512x512, .bf16⟩
  | .local _ .vmem, ⟨9, _⟩ => ⟨S1x512x512, .bf16⟩
  | .local _ .vmem, ⟨10, _⟩ => ⟨S4x144x512, .f32⟩
  | _, _ => ⟨S2x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![2, 2, 16], ![false, false, false]⟩

def k0_mult1 : BitVec 32 :=
  let c0_i32_46 : BitVec 32 := 0#32
  let c512_i32 : BitVec 32 := 512#32
  let v102 : BitVec 32 := Scalar.muli c0_i32_46 c512_i32
  v102
def k0_off1 (c0_i32_46 : BitVec 32) : Fin 4 → Nat :=
  let c0_47 : Index := 0#32
  let c0_48 : Index := 0#32
  let c512_i32 : BitVec 32 := 512#32
  let v102 : BitVec 32 := Scalar.muli c0_i32_46 c512_i32
  let v103 : BitVec 32 := v102
  let v104 : Index := Scalar.indexCast v103
  let c0_49 : Index := 0#32
  ![0, 0, v104.toNat, 0]
def k0_off2 (c0_i32_46 : BitVec 32) : Fin 4 → Nat :=
  let c0_50 : Index := 0#32
  let c0_51 : Index := 0#32
  let c0_52 : Index := 0#32
  let c512_i32 : BitVec 32 := 512#32
  let v102 : BitVec 32 := Scalar.muli c0_i32_46 c512_i32
  let v103 : BitVec 32 := v102
  let v107 : Index := Scalar.indexCast v103
  ![0, 0, 0, v107.toNat]
def k0_mult2 : BitVec 32 :=
  let c1_i32 : BitVec 32 := 1#32
  let c512_i32_55 : BitVec 32 := 512#32
  let v115 : BitVec 32 := Scalar.muli c1_i32 c512_i32_55
  v115
def k0_mult3 : BitVec 32 :=
  let c2_i32 : BitVec 32 := 2#32
  let c512_i32_64 : BitVec 32 := 512#32
  let v128 : BitVec 32 := Scalar.muli c2_i32 c512_i32_64
  v128
def k0_mult4 : BitVec 32 :=
  let c3_i32 : BitVec 32 := 3#32
  let c512_i32_73 : BitVec 32 := 512#32
  let v141 : BitVec 32 := Scalar.muli c3_i32 c512_i32_73
  v141
def k0_mult5 : BitVec 32 :=
  let c4_i32 : BitVec 32 := 4#32
  let c512_i32_82 : BitVec 32 := 512#32
  let v154 : BitVec 32 := Scalar.muli c4_i32 c512_i32_82
  v154
def k0_mult6 : BitVec 32 :=
  let c5_i32 : BitVec 32 := 5#32
  let c512_i32_91 : BitVec 32 := 512#32
  let v167 : BitVec 32 := Scalar.muli c5_i32 c512_i32_91
  v167
def k0_mult7 : BitVec 32 :=
  let c6_i32 : BitVec 32 := 6#32
  let c512_i32_100 : BitVec 32 := 512#32
  let v180 : BitVec 32 := Scalar.muli c6_i32 c512_i32_100
  v180
def k0_mult8 : BitVec 32 :=
  let c7_i32 : BitVec 32 := 7#32
  let c512_i32_109 : BitVec 32 := 512#32
  let v193 : BitVec 32 := Scalar.muli c7_i32 c512_i32_109
  v193
def k0_mult9 : BitVec 32 :=
  let c8_i32 : BitVec 32 := 8#32
  let c512_i32_118 : BitVec 32 := 512#32
  let v206 : BitVec 32 := Scalar.muli c8_i32 c512_i32_118
  v206
def k0_mult10 : BitVec 32 :=
  let c9_i32 : BitVec 32 := 9#32
  let c512_i32_127 : BitVec 32 := 512#32
  let v219 : BitVec 32 := Scalar.muli c9_i32 c512_i32_127
  v219
def k0_mult11 : BitVec 32 :=
  let c10_i32 : BitVec 32 := 10#32
  let c512_i32_136 : BitVec 32 := 512#32
  let v232 : BitVec 32 := Scalar.muli c10_i32 c512_i32_136
  v232
def k0_mult12 : BitVec 32 :=
  let c11_i32 : BitVec 32 := 11#32
  let c512_i32_145 : BitVec 32 := 512#32
  let v245 : BitVec 32 := Scalar.muli c11_i32 c512_i32_145
  v245
def k0_mult13 : BitVec 32 :=
  let c12_i32 : BitVec 32 := 12#32
  let c512_i32_154 : BitVec 32 := 512#32
  let v258 : BitVec 32 := Scalar.muli c12_i32 c512_i32_154
  v258
def k0_mult14 : BitVec 32 :=
  let c13_i32 : BitVec 32 := 13#32
  let c512_i32_163 : BitVec 32 := 512#32
  let v271 : BitVec 32 := Scalar.muli c13_i32 c512_i32_163
  v271
def k0_mult15 : BitVec 32 :=
  let c14_i32 : BitVec 32 := 14#32
  let c512_i32_172 : BitVec 32 := 512#32
  let v284 : BitVec 32 := Scalar.muli c14_i32 c512_i32_172
  v284
def k0_mult16 : BitVec 32 :=
  let c15_i32 : BitVec 32 := 15#32
  let c512_i32_181 : BitVec 32 := 512#32
  let v297 : BitVec 32 := Scalar.muli c15_i32 c512_i32_181
  v297
@[reducible] def k0_t1_loop : Scf.Loop 32 :=
  let c0_i32_32 : BitVec 32 := 0#32
  let c16_i32 : BitVec 32 := 16#32
  let v75 : BitVec 32 := Scalar.addi c0_i32_32 c16_i32
  let c1_i32 : BitVec 32 := 1#32
  ⟨c0_i32_32, v75, c1_i32⟩
def k0_mult17 (k0_t1 : Fin k0_t1_loop.trips) : BitVec 32 :=
  let c0_i32_32 : BitVec 32 := 0#32
  let c1_i32 : BitVec 32 := 1#32
  let arg10 : BitVec 32 := Scf.iv c0_i32_32 c1_i32 k0_t1
  let c512_i32 : BitVec 32 := 512#32
  let v128 : BitVec 32 := Scalar.muli arg10 c512_i32
  v128
def k0_off3 (k0_t1 : Fin k0_t1_loop.trips) : Fin 4 → Nat :=
  let c0_79 : Index := 0#32
  let c0_80 : Index := 0#32
  let c0_i32_32 : BitVec 32 := 0#32
  let c1_i32 : BitVec 32 := 1#32
  let arg10 : BitVec 32 := Scf.iv c0_i32_32 c1_i32 k0_t1
  let c512_i32 : BitVec 32 := 512#32
  let v128 : BitVec 32 := Scalar.muli arg10 c512_i32
  let v129 : BitVec 32 := v128
  let v130 : Index := Scalar.indexCast v129
  let c0_81 : Index := 0#32
  ![0, 0, v130.toNat, 0]
def k0_off4 (k0_t1 : Fin k0_t1_loop.trips) : Fin 4 → Nat :=
  let c0_82 : Index := 0#32
  let c0_83 : Index := 0#32
  let c0_84 : Index := 0#32
  let c0_i32_32 : BitVec 32 := 0#32
  let c1_i32 : BitVec 32 := 1#32
  let arg10 : BitVec 32 := Scf.iv c0_i32_32 c1_i32 k0_t1
  let c512_i32 : BitVec 32 := 512#32
  let v128 : BitVec 32 := Scalar.muli arg10 c512_i32
  let v129 : BitVec 32 := v128
  let v133 : Index := Scalar.indexCast v129
  ![0, 0, 0, v133.toNat]
@[reducible] def k0_t2_loop : Scf.Loop 32 :=
  let c0_i32_44 : BitVec 32 := 0#32
  let c16_i32_45 : BitVec 32 := 16#32
  let v91 : BitVec 32 := Scalar.addi c0_i32_44 c16_i32_45
  let c1_i32_46 : BitVec 32 := 1#32
  ⟨c0_i32_44, v91, c1_i32_46⟩
def k0_mult18 (k0_t2 : Fin k0_t2_loop.trips) : BitVec 32 :=
  let c0_i32_44 : BitVec 32 := 0#32
  let c1_i32_46 : BitVec 32 := 1#32
  let arg10 : BitVec 32 := Scf.iv c0_i32_44 c1_i32_46 k0_t2
  let c512_i32 : BitVec 32 := 512#32
  let v128 : BitVec 32 := Scalar.muli arg10 c512_i32
  v128
def k0_off5 (k0_t2 : Fin k0_t2_loop.trips) : Fin 4 → Nat :=
  let c0_79 : Index := 0#32
  let c0_80 : Index := 0#32
  let c0_i32_44 : BitVec 32 := 0#32
  let c1_i32_46 : BitVec 32 := 1#32
  let arg10 : BitVec 32 := Scf.iv c0_i32_44 c1_i32_46 k0_t2
  let c512_i32 : BitVec 32 := 512#32
  let v128 : BitVec 32 := Scalar.muli arg10 c512_i32
  let v129 : BitVec 32 := v128
  let v130 : Index := Scalar.indexCast v129
  let c0_81 : Index := 0#32
  ![0, 0, v130.toNat, 0]
def k0_off6 (k0_t2 : Fin k0_t2_loop.trips) : Fin 4 → Nat :=
  let c0_82 : Index := 0#32
  let c0_83 : Index := 0#32
  let c0_84 : Index := 0#32
  let c0_i32_44 : BitVec 32 := 0#32
  let c1_i32_46 : BitVec 32 := 1#32
  let arg10 : BitVec 32 := Scf.iv c0_i32_44 c1_i32_46 k0_t2
  let c512_i32 : BitVec 32 := 512#32
  let v128 : BitVec 32 := Scalar.muli arg10 c512_i32
  let v129 : BitVec 32 := v128
  let v133 : Index := Scalar.indexCast v129
  ![0, 0, 0, v133.toNat]
@[reducible] def k0_t3_loop : Scf.Loop 32 :=
  let c0_i32_58 : BitVec 32 := 0#32
  let c16_i32_59 : BitVec 32 := 16#32
  let v107 : BitVec 32 := Scalar.addi c0_i32_58 c16_i32_59
  let c1_i32_60 : BitVec 32 := 1#32
  ⟨c0_i32_58, v107, c1_i32_60⟩
def k0_mult19 (k0_t3 : Fin k0_t3_loop.trips) : BitVec 32 :=
  let c0_i32_58 : BitVec 32 := 0#32
  let c1_i32_60 : BitVec 32 := 1#32
  let arg10 : BitVec 32 := Scf.iv c0_i32_58 c1_i32_60 k0_t3
  let c512_i32 : BitVec 32 := 512#32
  let v128 : BitVec 32 := Scalar.muli arg10 c512_i32
  v128
def k0_off7 (k0_t3 : Fin k0_t3_loop.trips) : Fin 4 → Nat :=
  let c0_79 : Index := 0#32
  let c0_80 : Index := 0#32
  let c0_i32_58 : BitVec 32 := 0#32
  let c1_i32_60 : BitVec 32 := 1#32
  let arg10 : BitVec 32 := Scf.iv c0_i32_58 c1_i32_60 k0_t3
  let c512_i32 : BitVec 32 := 512#32
  let v128 : BitVec 32 := Scalar.muli arg10 c512_i32
  let v129 : BitVec 32 := v128
  let v130 : Index := Scalar.indexCast v129
  let c0_81 : Index := 0#32
  ![0, 0, v130.toNat, 0]
def k0_off8 (k0_t3 : Fin k0_t3_loop.trips) : Fin 4 → Nat :=
  let c0_82 : Index := 0#32
  let c0_83 : Index := 0#32
  let c0_84 : Index := 0#32
  let c0_i32_58 : BitVec 32 := 0#32
  let c1_i32_60 : BitVec 32 := 1#32
  let arg10 : BitVec 32 := Scf.iv c0_i32_58 c1_i32_60 k0_t3
  let c512_i32 : BitVec 32 := 512#32
  let v128 : BitVec 32 := Scalar.muli arg10 c512_i32
  let v129 : BitVec 32 := v128
  let v133 : Index := Scalar.indexCast v129
  ![0, 0, 0, v133.toNat]
@[reducible] def k0_t4_loop : Scf.Loop 32 :=
  let c0_i32_72 : BitVec 32 := 0#32
  let c16_i32_73 : BitVec 32 := 16#32
  let v123 : BitVec 32 := Scalar.addi c0_i32_72 c16_i32_73
  let c1_i32_74 : BitVec 32 := 1#32
  ⟨c0_i32_72, v123, c1_i32_74⟩
def k0_mult20 (k0_t4 : Fin k0_t4_loop.trips) : BitVec 32 :=
  let c0_i32_72 : BitVec 32 := 0#32
  let c1_i32_74 : BitVec 32 := 1#32
  let arg10 : BitVec 32 := Scf.iv c0_i32_72 c1_i32_74 k0_t4
  let c512_i32 : BitVec 32 := 512#32
  let v128 : BitVec 32 := Scalar.muli arg10 c512_i32
  v128
def k0_off9 (k0_t4 : Fin k0_t4_loop.trips) : Fin 4 → Nat :=
  let c0_79 : Index := 0#32
  let c0_80 : Index := 0#32
  let c0_i32_72 : BitVec 32 := 0#32
  let c1_i32_74 : BitVec 32 := 1#32
  let arg10 : BitVec 32 := Scf.iv c0_i32_72 c1_i32_74 k0_t4
  let c512_i32 : BitVec 32 := 512#32
  let v128 : BitVec 32 := Scalar.muli arg10 c512_i32
  let v129 : BitVec 32 := v128
  let v130 : Index := Scalar.indexCast v129
  let c0_81 : Index := 0#32
  ![0, 0, v130.toNat, 0]
def k0_off10 (k0_t4 : Fin k0_t4_loop.trips) : Fin 4 → Nat :=
  let c0_82 : Index := 0#32
  let c0_83 : Index := 0#32
  let c0_84 : Index := 0#32
  let c0_i32_72 : BitVec 32 := 0#32
  let c1_i32_74 : BitVec 32 := 1#32
  let arg10 : BitVec 32 := Scf.iv c0_i32_72 c1_i32_74 k0_t4
  let c512_i32 : BitVec 32 := 512#32
  let v128 : BitVec 32 := Scalar.muli arg10 c512_i32
  let v129 : BitVec 32 := v128
  let v133 : Index := Scalar.indexCast v129
  ![0, 0, 0, v133.toNat]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x144x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnIdeal.lean ====
variable {F : FTy → Type} [FloatOps F] [Named F]
def κ : String → Option EReal := fun
  | "q_scale" => some (((11863283 / 134217728) * (Real.log 2)⁻¹ : ℝ) : EReal)
  | _ => none
-- ==== AttnRefIdeal.lean ====
abbrev S2x8192x8x128 : Shape := ⟨4, ![2, 8192, 8, 128]⟩
abbrev S2x8192x2x128 : Shape := ⟨4, ![2, 8192, 2, 128]⟩
abbrev S1x128 : Shape := ⟨2, ![1, 128]⟩
abbrev S2x8192x2x4x128 : Shape := ⟨5, ![2, 8192, 2, 4, 128]⟩
abbrev S2x2x4x8192x128 : Shape := ⟨5, ![2, 2, 4, 8192, 128]⟩
abbrev S2x2x8192x128 : Shape := ⟨4, ![2, 2, 8192, 128]⟩
abbrev S2x2x4x8192x8192 : Shape := ⟨5, ![2, 2, 4, 8192, 8192]⟩
abbrev S_ : Shape := ⟨0, ![]⟩
abbrev S2x2x4x8192 : Shape := ⟨4, ![2, 2, 4, 8192]⟩
abbrev S2x2x4x8192x1 : Shape := ⟨5, ![2, 2, 4, 8192, 1]⟩
abbrev S2x8192x1024 : Shape := ⟨3, ![2, 8192, 1024]⟩

abbrev nBuf : Space → Nat
  | .hbm => 31
  | .vmem => 0
  | .smem => 0
  | _ => 0

abbrev bufTy : (tb : Table) → Fin (tcTables nBuf tb) → BufTy
  | .hbm, ⟨0, _⟩ => ⟨S2x8192x8x128, .f32⟩
  | .hbm, ⟨1, _⟩ => ⟨S2x8192x2x128, .f32⟩
  | .hbm, ⟨2, _⟩ => ⟨S2x8192x2x128, .f32⟩
  | .hbm, ⟨3, _⟩ => ⟨S1x128, .f32⟩
  | .hbm, ⟨4, _⟩ => ⟨S1x128, .f32⟩
  | .hbm, ⟨5, _⟩ => ⟨S2x8192x2x4x128, .f32⟩
  | .hbm, ⟨6, _⟩ => ⟨S2x2x4x8192x128, .f32⟩
  | .hbm, ⟨7, _⟩ => ⟨S2x2x8192x128, .f32⟩
  | .hbm, ⟨8, _⟩ => ⟨S2x2x8192x128, .f32⟩
  | .hbm, ⟨9, _⟩ => ⟨S2x2x4x8192x8192, .f32⟩
  | .hbm, ⟨10, _⟩ => ⟨S_, .f32⟩
  | .hbm, ⟨11, _⟩ => ⟨S2x2x4x8192x8192, .f32⟩
  | .hbm, ⟨12, _⟩ => ⟨S2x2x4x8192x8192, .f32⟩
  | .hbm, ⟨13, _⟩ => ⟨S_, .f32⟩
  | .hbm, ⟨14, _⟩ => ⟨S2x2x4x8192, .f32⟩
  | .hbm, ⟨15, _⟩ => ⟨S_, .f32⟩
  | .hbm, ⟨16, _⟩ => ⟨S2x2x4x8192, .f32⟩
  | .hbm, ⟨17, _⟩ => ⟨S2x2x4x8192, .f32⟩
  | .hbm, ⟨18, _⟩ => ⟨S2x2x4x8192x1, .f32⟩
  | .hbm, ⟨19, _⟩ => ⟨S2x2x4x8192x8192, .f32⟩
  | .hbm, ⟨20, _⟩ => ⟨S2x2x4x8192x8192, .f32⟩
  | .hbm, ⟨21, _⟩ => ⟨S2x2x4x8192x8192, .f32⟩
  | .hbm, ⟨22, _⟩ => ⟨S_, .f32⟩
  | .hbm, ⟨23, _⟩ => ⟨S2x2x4x8192, .f32⟩
  | .hbm, ⟨24, _⟩ => ⟨S2x2x4x8192x1, .f32⟩
  | .hbm, ⟨25, _⟩ => ⟨S2x2x4x8192x8192, .f32⟩
  | .hbm, ⟨26, _⟩ => ⟨S2x2x4x8192x8192, .f32⟩
  | .hbm, ⟨27, _⟩ => ⟨S2x2x4x8192x128, .f32⟩
  | .hbm, ⟨28, _⟩ => ⟨S2x8192x2x4x128, .f32⟩
  | .hbm, ⟨29, _⟩ => ⟨S2x8192x1024, .f32⟩
  | .hbm, ⟨30, _⟩ => ⟨S2x8192x1024, .bf16⟩
  | _, _ => ⟨S2x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== OddOut.lean ====
abbrev S16384x1024 : Shape := ⟨2, ![16384, 1024]⟩
abbrev S2x8192x1024 : Shape := ⟨3, ![2, 8192, 1024]⟩
abbrev S1x1024x1024 : Shape := ⟨3, ![1, 1024, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S2x8192x1024, .bf16⟩
  | .hbm, ⟨2, _⟩ => ⟨S16384x1024, .bf16⟩
  | .hbm, ⟨3, _⟩ => ⟨S1x1024x1024, .f32⟩
  | .hbm, ⟨4, _⟩ => ⟨S1024, .f32⟩
  | .hbm, ⟨5, _⟩ => ⟨S16384x1024, .bf16⟩
  | .hbm, ⟨6, _⟩ => ⟨S1024x1024, .f32⟩
  | .hbm, ⟨7, _⟩ => ⟨S1x1024, .f32⟩
  | .hbm, ⟨8, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OddOutRefIdeal.lean ====
abbrev S16384x1024 : Shape := ⟨2, ![16384, 1024]⟩
abbrev S2x8192x1024 : Shape := ⟨3, ![2, 8192, 1024]⟩
abbrev S1x1024x1024 : Shape := ⟨3, ![1, 1024, 1024]⟩
abbrev S1024 : Shape := ⟨1, ![1024]⟩
abbrev S_ : Shape := ⟨0, ![]⟩
abbrev S1024x1024 : Shape := ⟨2, ![1024, 1024]⟩
abbrev S16384 : Shape := ⟨1, ![16384]⟩
abbrev S16384x1 : Shape := ⟨2, ![16384, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S2x8192x1024, .bf16⟩
  | .hbm, ⟨2, _⟩ => ⟨S16384x1024, .bf16⟩
  | .hbm, ⟨3, _⟩ => ⟨S1x1024x1024, .f32⟩
  | .hbm, ⟨4, _⟩ => ⟨S1024, .f32⟩
  | .hbm, ⟨5, _⟩ => ⟨S16384x1024, .bf16⟩
  | .hbm, ⟨6, _⟩ => ⟨S16384x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S1024x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩

abbrev nD : Nat := 1
abbrev τ : Topo := Topo.v7x

variable {F : FTy → Type} [FloatOps F]
-- ==== EvenIn.lean ====
abbrev S2x8192x1024 : Shape := ⟨3, ![2, 8192, 1024]⟩
abbrev S1x1024 : Shape := ⟨2, ![1, 1024]⟩
abbrev S1x1024x3072 : Shape := ⟨3, ![1, 1024, 3072]⟩
abbrev S16384x1024 : Shape := ⟨2, ![16384, 1024]⟩
abbrev S1024 : Shape := ⟨1, ![1024]⟩
abbrev S1024x3072 : Shape := ⟨2, ![1024, 3072]⟩
abbrev S16384x512 : Shape := ⟨2, ![16384, 512]⟩
abbrev S1024x1024 : Shape := ⟨2, ![1024, 1024]⟩
abbrev S1024x512 : Shape := ⟨2, ![1024, 512]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3072, .f32⟩
  | .hbm, ⟨3, _⟩ => ⟨S16384x1024, .f32⟩
  | .hbm, ⟨4, _⟩ => ⟨S1024, .f32⟩
  | .hbm, ⟨5, _⟩ => ⟨S1x1024, .f32⟩
  | .hbm, ⟨6, _⟩ => ⟨S1024x3072, .f32⟩
  | .hbm, ⟨7, _⟩ => ⟨S16384x512, .bf16⟩
  | .hbm, ⟨8, _⟩ => ⟨S16384x512, .bf16⟩
  | .hbm, ⟨9, _⟩ => ⟨S16384x512, .bf16⟩
  | .hbm, ⟨10, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x3072, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x3072, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== EvenInRefIdeal.lean ====
abbrev S2x8192x1024 : Shape := ⟨3, ![2, 8192, 1024]⟩
abbrev S1x1024 : Shape := ⟨2, ![1, 1024]⟩
abbrev S1x1024x3072 : Shape := ⟨3, ![1, 1024, 3072]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x3072 : Shape := ⟨2, ![1024, 3072]⟩
abbrev S2x8192x3072 : Shape := ⟨3, ![2, 8192, 3072]⟩
abbrev S2x8192x512 : Shape := ⟨3, ![2, 8192, 512]⟩
abbrev S16384x512 : Shape := ⟨2, ![16384, 512]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x3072, .f32⟩
  | .hbm, ⟨3, _⟩ => ⟨S1024, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S1024x3072, .f32⟩
  | .hbm, ⟨21, _⟩ => ⟨S2x8192x3072, .f32⟩
  | .hbm, ⟨22, _⟩ => ⟨S2x8192x512, .f32⟩
  | .hbm, ⟨23, _⟩ => ⟨S2x8192x512, .f32⟩
  | .hbm, ⟨24, _⟩ => ⟨S2x8192x512, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S2x8192x512, .f32⟩
  | .hbm, ⟨29, _⟩ => ⟨S2x8192x512, .f32⟩
  | .hbm, ⟨30, _⟩ => ⟨S2x8192x512, .f32⟩
  | .hbm, ⟨31, _⟩ => ⟨S_, .f32⟩
  | .hbm, ⟨32, _⟩ => ⟨S2x8192x512, .f32⟩
  | .hbm, ⟨33, _⟩ => ⟨S2x8192x512, .f32⟩
  | .hbm, ⟨34, _⟩ => ⟨S_, .f32⟩
  | .hbm, ⟨35, _⟩ => ⟨S2x8192x512, .f32⟩
  | .hbm, ⟨36, _⟩ => ⟨S2x8192x512, .f32⟩
  | .hbm, ⟨37, _⟩ => ⟨S2x8192x512, .f32⟩
  | .hbm, ⟨38, _⟩ => ⟨S2x8192x512, .f32⟩
  | .hbm, ⟨39, _⟩ => ⟨S2x8192x512, .f32⟩
  | .hbm, ⟨40, _⟩ => ⟨S2x8192x512, .f32⟩
  | .hbm, ⟨41, _⟩ => ⟨S_, .f32⟩
  | .hbm, ⟨42, _⟩ => ⟨S2x8192x512, .f32⟩
  | .hbm, ⟨43, _⟩ => ⟨S2x8192x512, .f32⟩
  | .hbm, ⟨44, _⟩ => ⟨S_, .f32⟩
  | .hbm, ⟨45, _⟩ => ⟨S2x8192x512, .f32⟩
  | .hbm, ⟨46, _⟩ => ⟨S2x8192x512, .f32⟩
  | .hbm, ⟨47, _⟩ => ⟨S2x8192x512, .f32⟩
  | .hbm, ⟨48, _⟩ => ⟨S16384x512, .f32⟩
  | .hbm, ⟨49, _⟩ => ⟨S16384x512, .bf16⟩
  | .hbm, ⟨50, _⟩ => ⟨S16384x512, .f32⟩
  | .hbm, ⟨51, _⟩ => ⟨S16384x512, .bf16⟩
  | .hbm, ⟨52, _⟩ => ⟨S16384x512, .f32⟩
  | .hbm, ⟨53, _⟩ => ⟨S16384x512, .bf16⟩
  | .hbm, ⟨54, _⟩ => ⟨S16384x512, .f32⟩
  | .hbm, ⟨55, _⟩ => ⟨S16384x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v23 : Ref sig .tc := ⟨.hbm, 37, rfl⟩
abbrev main_v24 : Ref sig .tc := ⟨.hbm, 38, rfl⟩
abbrev main_call1_v0 : Ref sig .tc := ⟨.hbm, 39, rfl⟩
abbrev main_call1_v1 : Ref sig .tc := ⟨.hbm, 40, rfl⟩
abbrev main_call1_cst : Ref sig .tc := ⟨.hbm, 41, rfl⟩
abbrev main_call1_v2 : Ref sig .tc := ⟨.hbm, 42, rfl⟩
abbrev main_call1_v3 : Ref sig .tc := ⟨.hbm, 43, rfl⟩
abbrev main_call1_cst_0 : Ref sig .tc := ⟨.hbm, 44, rfl⟩
abbrev main_call1_v4 : Ref sig .tc := ⟨.hbm, 45, rfl⟩
abbrev main_call1_v5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩

abbrev nD : Nat := 1
abbrev τ : Topo := Topo.v7x

variable {F : FTy → Type} [FloatOps F]
-- ==== Mid.lean ====
abbrev S2x8192x1024 : Shape := ⟨3, ![2, 8192, 1024]⟩
abbrev S16384x512 : Shape := ⟨2, ![16384, 512]⟩
abbrev S1x3x512 : Shape := ⟨3, ![1, 3, 512]⟩
abbrev S1x1024x1024 : Shape := ⟨3, ![1, 1024, 1024]⟩
abbrev S1x1024 : Shape := ⟨2, ![1, 1024]⟩
abbrev S1x1024x2560 : Shape := ⟨3, ![1, 1024, 2560]⟩
abbrev S1x128 : Shape := ⟨2, ![1, 128]⟩
abbrev S8192x64 : Shape := ⟨2, ![8192, 64]⟩
abbrev S8192x64x1 : Shape := ⟨3, ![8192, 64, 1]⟩
abbrev S8192x64x2 : Shape := ⟨3, ![8192, 64, 2]⟩
abbrev S8192x128 : Shape := ⟨2, ![8192, 128]⟩
abbrev S16384x1024 : Shape := ⟨2, ![16384, 1024]⟩
abbrev S3x512 : Shape := ⟨2, ![3, 512]⟩
abbrev S1024x1024 : Shape := ⟨2, ![1024, 1024]⟩
abbrev S1024 : Shape := ⟨1, ![1024]⟩
abbrev S1024x2560 : Shape := ⟨2, ![1024, 2560]⟩
abbrev S128 : Shape := ⟨1, ![128]⟩
abbrev S2x8x256x8192 : Shape := ⟨4, ![2, 8, 256, 8192]⟩
abbrev S2x2x8192x256 : Shape := ⟨4, ![2, 2, 8192, 256]⟩
abbrev S2x2x144x8192 : Shape := ⟨4, ![2, 2, 144, 8192]⟩
abbrev S512x1024 : Shape := ⟨2, ![512, 1024]⟩
abbrev S512x512 : Shape := ⟨2, ![512, 512]⟩
abbrev S8x512 : Shape := ⟨2, ![8, 512]⟩
abbrev S512x128 : Shape := ⟨2, ![512, 128]⟩
abbrev S1x8x256x512 : Shape := ⟨4, ![1, 8, 256, 512]⟩
abbrev S1x2x512x256 : Shape := ⟨4, ![1, 2, 512, 256]⟩
abbrev S1x2x144x512 : Shape := ⟨4, ![1, 2, 144, 512]⟩
abbrev S1x512 : Shape := ⟨2, ![1, 512]⟩
abbrev S256x128 : Shape := ⟨2, ![256, 128]⟩
abbrev S16x256 : Shape := ⟨2, ![16, 256]⟩
abbrev S1x1x128 : Shape := ⟨3, ![1, 1, 128]⟩
abbrev S1 : Shape := ⟨1, ![1]⟩
abbrev S1x1x1 : Shape := ⟨3, ![1, 1, 1]⟩
abbrev S128x256 : Shape := ⟨2, ![128, 256]⟩
abbrev S256x1024 : Shape := ⟨2, ![256, 1024]⟩
abbrev S256 : Shape := ⟨1, ![256]⟩
abbrev S256x1 : Shape := ⟨2, ![256, 1]⟩
abbrev S256x2560 : Shape := ⟨2, ![256, 2560]⟩
abbrev S256x256 : Shape := ⟨2, ![256, 256]⟩
abbrev S1x1x256x256 : Shape := ⟨4, ![1, 1, 256, 256]⟩
abbrev S144x256 : Shape := ⟨2, ![144, 256]⟩
abbrev S1x1x144x256 : Shape := ⟨4, ![1, 1, 144, 256]⟩

abbrev nBuf : Space → Nat
  | .hbm => 37
  | .vmem => 36
  | .smem => 0
  | _ => 0

abbrev bufTy : (tb : Table) → Fin (tcTables nBuf tb) → BufTy
  | .hbm, ⟨0, _⟩ => ⟨S2x8192x1024, .f32⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S1x3x512, .f32⟩
  | .hbm, ⟨6, _⟩ => ⟨S1x1024x1024, .f32⟩
  | .hbm, ⟨7, _⟩ => ⟨S1x1024, .f32⟩
  | .hbm, ⟨8, _⟩ => ⟨S1x1024x2560, .f32⟩
  | .hbm, ⟨9, _⟩ => ⟨S1x128, .f32⟩
  | .hbm, ⟨10, _⟩ => ⟨S1x128, .f32⟩
  | .hbm, ⟨11, _⟩ => ⟨S8192x64, .f32⟩
  | .hbm, ⟨12, _⟩ => ⟨S8192x64, .f32⟩
  | .hbm, ⟨13, _⟩ => ⟨S8192x64x1, .f32⟩
  | .hbm, ⟨14, _⟩ => ⟨S8192x64x1, .f32⟩
  | .hbm, ⟨15, _⟩ => ⟨S8192x64x2, .f32⟩
  | .hbm, ⟨16, _⟩ => ⟨S8192x128, .f32⟩
  | .hbm, ⟨17, _⟩ => ⟨S8192x64, .f32⟩
  | .hbm, ⟨18, _⟩ => ⟨S8192x64x1, .f32⟩
  | .hbm, ⟨19, _⟩ => ⟨S8192x64x1, .f32⟩
  | .hbm, ⟨20, _⟩ => ⟨S8192x64x2, .f32⟩
  | .hbm, ⟨21, _⟩ => ⟨S8192x128, .f32⟩
  | .hbm, ⟨22, _⟩ => ⟨S16384x1024, .f32⟩
  | .hbm, ⟨23, _⟩ => ⟨S3x512, .f32⟩
  | .hbm, ⟨24, _⟩ => ⟨S1024x1024, .f32⟩
  | .hbm, ⟨25, _⟩ => ⟨S1024, .f32⟩
  | .hbm, ⟨26, _⟩ => ⟨S1x1024, .f32⟩
  | .hbm, ⟨27, _⟩ => ⟨S1024x2560, .f32⟩
  | .hbm, ⟨28, _⟩ => ⟨S128, .f32⟩
  | .hbm, ⟨29, _⟩ => ⟨S1x128, .f32⟩
  | .hbm, ⟨30, _⟩ => ⟨S128, .f32⟩
  | .hbm, ⟨31, _⟩ => ⟨S1x128, .f32⟩
  | .hbm, ⟨32, _⟩ => ⟨S16384x1024, .f32⟩
  | .hbm, ⟨33, _⟩ => ⟨S2x8x256x8192, .bf16⟩
  | .hbm, ⟨34, _⟩ => ⟨S2x2x8192x256, .bf16⟩
  | .hbm, ⟨35, _⟩ => ⟨S2x2x144x8192, .bf16⟩
  | .hbm, ⟨36, _⟩ => ⟨S16384x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S8x512, .bf16⟩
  | .local _ .vmem, ⟨5, _⟩ => ⟨S8x512, .bf16⟩
  | .local _ .vmem, ⟨6, _⟩ => ⟨S8x512, .bf16⟩
  | .local _ .vmem, ⟨7, _⟩ => ⟨S8x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S3x512, .f32⟩
  | .local _ .vmem, ⟨15, _⟩ => ⟨S1024x1024, .f32⟩
  | .local _ .vmem, ⟨16, _⟩ => ⟨S1x1024, .f32⟩
  | .local _ .vmem, ⟨17, _⟩ => ⟨S1024x2560, .f32⟩
  | .local _ .vmem, ⟨18, _⟩ => ⟨S1x128, .f32⟩
  | .local _ .vmem, ⟨19, _⟩ => ⟨S1x128, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x1024, .f32⟩
  | .local _ .vmem, ⟨25, _⟩ => ⟨S512x1024, .f32⟩
  | .local _ .vmem, ⟨26, _⟩ => ⟨S1x8x256x512, .bf16⟩
  | .local _ .vmem, ⟨27, _⟩ => ⟨S1x8x256x512, .bf16⟩
  | .local _ .vmem, ⟨28, _⟩ => ⟨S1x2x512x256, .bf16⟩
  | .local _ .vmem, ⟨29, _⟩ => ⟨S1x2x512x256, .bf16⟩
  | .local _ .vmem, ⟨30, _⟩ => ⟨S1x2x144x512, .bf16⟩
  | .local _ .vmem, ⟨31, _⟩ => ⟨S1x2x144x512, .bf16⟩
  | .local _ .vmem, ⟨32, _⟩ => ⟨S512x1024, .bf16⟩
  | .local _ .vmem, ⟨33, _⟩ => ⟨S512x1024, .bf16⟩
  | .local _ .vmem, ⟨34, _⟩ => ⟨S1024x1024, .bf16⟩
  | .local _ .vmem, ⟨35, _⟩ => ⟨S1024x2560, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v19_3 : Ref sig .tc := ⟨.hbm, 35, rfl⟩
abbrev main_v19_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c64_i32 : BitVec 32 := 64#32
  let v2 : BitVec 32 := Scalar.muli v1 c64_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let v2 : BitVec 32 := Scalar.addi v1 c1_i32
  let c64_i32 : BitVec 32 := 64#32
  let v3 : BitVec 32 := Scalar.muli v2 c64_i32
  let c2047_i32 : BitVec 32 := 2047#32
  let v4 : BitVec 32 := Scalar.minsi v3 c2047_i32
  let c0_i32 : BitVec 32 := 0#32
  let c0_i32_0 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x2x512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2x144x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== MidRefIdeal.lean ====
abbrev S2x8192x1024 : Shape := ⟨3, ![2, 8192, 1024]⟩
abbrev S16384x512 : Shape := ⟨2, ![16384, 512]⟩
abbrev S1x3x512 : Shape := ⟨3, ![1, 3, 512]⟩
abbrev S1x1024x1024 : Shape := ⟨3, ![1, 1024, 1024]⟩
abbrev S1x1024 : Shape := ⟨2, ![1, 1024]⟩
abbrev S1x1024x2560 : Shape := ⟨3, ![1, 1024, 2560]⟩
abbrev S1x128 : Shape := ⟨2, ![1, 128]⟩
abbrev S8192x64 : Shape := ⟨2, ![8192, 64]⟩
abbrev S2x8192x512 : Shape := ⟨3, ![2, 8192, 512]⟩
abbrev S3x512 : Shape := ⟨2, ![3, 512]⟩
abbrev S_ : Shape := ⟨0, ![]⟩
abbrev S2x8194x512 : Shape := ⟨3, ![2, 8194, 512]⟩
abbrev S1x512 : Shape := ⟨2, ![1, 512]⟩
abbrev S512 : Shape := ⟨1, ![512]⟩
abbrev S1x1x512 : Shape := ⟨3, ![1, 1, 512]⟩
abbrev S1024x1024 : Shape := ⟨2, ![1024, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S1024x2560 : Shape := ⟨2, ![1024, 2560]⟩
abbrev S2x8192x2560 : Shape := ⟨3, ![2, 8192, 2560]⟩
abbrev S2x8192x256 : Shape := ⟨3, ![2, 8192, 256]⟩
abbrev S2x8192x8x128 : Shape := ⟨4, ![2, 8192, 8, 128]⟩
abbrev S2x8192x2x128 : Shape := ⟨4, ![2, 8192, 2, 128]⟩
abbrev S128 : Shape := ⟨1, ![128]⟩
abbrev S2x8192x8 : Shape := ⟨3, ![2, 8192, 8]⟩
abbrev S2x8192x8x1 : Shape := ⟨4, ![2, 8192, 8, 1]⟩
abbrev S1x1x1x128 : Shape := ⟨4, ![1, 1, 1, 128]⟩
abbrev S2x8192x8x64x2 : Shape := ⟨5, ![2, 8192, 8, 64, 2]⟩
abbrev S2x8192x8x64x1 : Shape := ⟨5, ![2, 8192, 8, 64, 1]⟩
abbrev S2x8192x8x64 : Shape := ⟨4, ![2, 8192, 8, 64]⟩
abbrev S1x8192x1x64 : Shape := ⟨4, ![1, 8192, 1, 64]⟩
abbrev S2x8192x2 : Shape := ⟨3, ![2, 8192, 2]⟩
abbrev S2x8192x2x1 : Shape := ⟨4, ![2, 8192, 2, 1]⟩
abbrev S2x8192x2x64x2 : Shape := ⟨5, ![2, 8192, 2, 64, 2]⟩
abbrev S2x8192x2x64x1 : Shape := ⟨5, ![2, 8192, 2, 64, 1]⟩
abbrev S2x8192x2x64 : Shape := ⟨4, ![2, 8192, 2, 64]⟩
abbrev S128x1 : Shape := ⟨2, ![128, 1]⟩
abbrev S2x8x128x8192 : Shape := ⟨4, ![2, 8, 128, 8192]⟩
abbrev S2x2x8192x128 : Shape := ⟨4, ![2, 2, 8192, 128]⟩
abbrev S16 : Shape := ⟨1, ![16]⟩
abbrev S16x1 : Shape := ⟨2, ![16, 1]⟩
abbrev S2x2x16x8192 : Shape := ⟨4, ![2, 2, 16, 8192]⟩
abbrev S2x8x256x8192 : Shape := ⟨4, ![2, 8, 256, 8192]⟩
abbrev S2x2x8192x256 : Shape := ⟨4, ![2, 2, 8192, 256]⟩
abbrev S2x2x128x8192 : Shape := ⟨4, ![2, 2, 128, 8192]⟩
abbrev S2x2x144x8192 : Shape := ⟨4, ![2, 2, 144, 8192]⟩
abbrev S16384x1024 : Shape := ⟨2, ![16384, 1024]⟩

abbrev nBuf : Space → Nat
  | .hbm => 204
  | .vmem => 0
  | .smem => 0
  | _ => 0

abbrev hbmTy0_0 (i : Nat) : BufTy := match i % 128 with
  | 0 => ⟨S2x8192x1024, .f32⟩
  | 1 => ⟨S16384x512, .bf16⟩
  | 2 => ⟨S16384x512, .bf16⟩
  | 3 => ⟨S16384x512, .bf16⟩
  | 4 => ⟨S16384x512, .bf16⟩
  | 5 => ⟨S1x3x512, .f32⟩
  | 6 => ⟨S1x1024x1024, .f32⟩
  | 7 => ⟨S1x1024, .f32⟩
  | 8 => ⟨S1x1024x2560, .f32⟩
  | 9 => ⟨S1x128, .f32⟩
  | 10 => ⟨S1x128, .f32⟩
  | 11 => ⟨S8192x64, .f32⟩
  | 12 => ⟨S8192x64, .f32⟩
  | 13 => ⟨S2x8192x512, .bf16⟩
  | 14 => ⟨S2x8192x512, .f32⟩
  | 15 => ⟨S2x8192x512, .bf16⟩
  | 16 => ⟨S2x8192x512, .f32⟩
  | 17 => ⟨S2x8192x512, .bf16⟩
  | 18 => ⟨S2x8192x512, .f32⟩
  | 19 => ⟨S2x8192x512, .bf16⟩
  | 20 => ⟨S2x8192x512, .f32⟩
  | 21 => ⟨S3x512, .f32⟩
  | 22 => ⟨S_, .i32⟩
  | 23 => ⟨S_, .f32⟩
  | 24 => ⟨S2x8194x512, .f32⟩
  | 25 => ⟨S2x8192x512, .f32⟩
  | 26 => ⟨S1x512, .f32⟩
  | 27 => ⟨S512, .f32⟩
  | 28 => ⟨S1x1x512, .f32⟩
  | 29 => ⟨S2x8192x512, .f32⟩
  | 30 => ⟨S2x8192x512, .f32⟩
  | 31 => ⟨S2x8192x512, .f32⟩
  | 32 => ⟨S1x512, .f32⟩
  | 33 => ⟨S512, .f32⟩
  | 34 => ⟨S1x1x512, .f32⟩
  | 35 => ⟨S2x8192x512, .f32⟩
  | 36 => ⟨S2x8192x512, .f32⟩
  | 37 => ⟨S2x8192x512, .f32⟩
  | 38 => ⟨S2x8192x512, .f32⟩
  | 39 => ⟨S1x512, .f32⟩
  | 40 => ⟨S512, .f32⟩
  | 41 => ⟨S1x1x512, .f32⟩
  | 42 => ⟨S2x8192x512, .f32⟩
  | 43 => ⟨S2x8192x512, .f32⟩
  | 44 => ⟨S2x8192x512, .f32⟩
  | 45 => ⟨S2x8192x512, .f32⟩
  | 46 => ⟨S2x8192x512, .f32⟩
  | 47 => ⟨S2x8192x1024, .f32⟩
  | 48 => ⟨S1024x1024, .f32⟩
  | 49 => ⟨S2x8192x1024, .f32⟩
  | 50 => ⟨S2x8192x1024, .f32⟩
  | 51 => ⟨S1024, .f32⟩
  | 52 => ⟨S2x8192x1024, .f32⟩
  | 53 => ⟨S_, .f32⟩
  | 54 => ⟨S2x8192, .f32⟩
  | 55 => ⟨S2x8192x1, .f32⟩
  | 56 => ⟨S_, .f32⟩
  | 57 => ⟨S2x8192x1, .f32⟩
  | 58 => ⟨S2x8192x1, .f32⟩
  | 59 => ⟨S_, .f32⟩
  | 60 => ⟨S2x8192x1, .f32⟩
  | 61 => ⟨S2x8192x1, .f32⟩
  | 62 => ⟨S2x8192x1, .f32⟩
  | 63 => ⟨S2x8192x1024, .f32⟩
  | 64 => ⟨S2x8192x1024, .f32⟩
  | 65 => ⟨S1x1x1024, .f32⟩
  | 66 => ⟨S2x8192x1024, .f32⟩
  | 67 => ⟨S2x8192x1024, .f32⟩
  | 68 => ⟨S1024x2560, .f32⟩
  | 69 => ⟨S2x8192x2560, .f32⟩
  | 70 => ⟨S2x8192x1024, .f32⟩
  | 71 => ⟨S2x8192x256, .f32⟩
  | 72 => ⟨S2x8192x256, .f32⟩
  | 73 => ⟨S2x8192x1024, .f32⟩
  | 74 => ⟨S2x8192x8x128, .f32⟩
  | 75 => ⟨S2x8192x2x128, .f32⟩
  | 76 => ⟨S2x8192x2x128, .f32⟩
  | 77 => ⟨S128, .f32⟩
  | 78 => ⟨S2x8192x8x128, .f32⟩
  | 79 => ⟨S_, .f32⟩
  | 80 => ⟨S2x8192x8, .f32⟩
  | 81 => ⟨S2x8192x8x1, .f32⟩
  | 82 => ⟨S_, .f32⟩
  | 83 => ⟨S2x8192x8x1, .f32⟩
  | 84 => ⟨S2x8192x8x1, .f32⟩
  | 85 => ⟨S_, .f32⟩
  | 86 => ⟨S2x8192x8x1, .f32⟩
  | 87 => ⟨S2x8192x8x1, .f32⟩
  | 88 => ⟨S2x8192x8x1, .f32⟩
  | 89 => ⟨S2x8192x8x128, .f32⟩
  | 90 => ⟨S2x8192x8x128, .f32⟩
  | 91 => ⟨S1x1x1x128, .f32⟩
  | 92 => ⟨S2x8192x8x128, .f32⟩
  | 93 => ⟨S2x8192x8x128, .f32⟩
  | 94 => ⟨S2x8192x8x64x2, .f32⟩
  | 95 => ⟨S2x8192x8x64x1, .f32⟩
  | 96 => ⟨S2x8192x8x64, .f32⟩
  | 97 => ⟨S2x8192x8x64x1, .f32⟩
  | 98 => ⟨S2x8192x8x64, .f32⟩
  | 99 => ⟨S1x8192x1x64, .f32⟩
  | 100 => ⟨S1x8192x1x64, .f32⟩
  | 101 => ⟨S2x8192x8x64, .f32⟩
  | 102 => ⟨S2x8192x8x64, .f32⟩
  | 103 => ⟨S2x8192x8x64, .f32⟩
  | 104 => ⟨S2x8192x8x64, .f32⟩
  | 105 => ⟨S2x8192x8x64, .f32⟩
  | 106 => ⟨S2x8192x8x64, .f32⟩
  | 107 => ⟨S2x8192x8x64, .f32⟩
  | 108 => ⟨S2x8192x8x64, .f32⟩
  | 109 => ⟨S2x8192x8x64, .f32⟩
  | 110 => ⟨S2x8192x8x64, .f32⟩
  | 111 => ⟨S2x8192x8x64x1, .f32⟩
  | 112 => ⟨S2x8192x8x64x1, .f32⟩
  | 113 => ⟨S2x8192x8x64x2, .f32⟩
  | 114 => ⟨S2x8192x8x128, .f32⟩
  | 115 => ⟨S128, .f32⟩
  | 116 => ⟨S2x8192x2x128, .f32⟩
  | 117 => ⟨S_, .f32⟩
  | 118 => ⟨S2x8192x2, .f32⟩
  | 119 => ⟨S2x8192x2x1, .f32⟩
  | 120 => ⟨S_, .f32⟩
  | 121 => ⟨S2x8192x2x1, .f32⟩
  | 122 => ⟨S2x8192x2x1, .f32⟩
  | 123 => ⟨S_, .f32⟩
  | 124 => ⟨S2x8192x2x1, .f32⟩
  | 125 => ⟨S2x8192x2x1, .f32⟩
  | 126 => ⟨S2x8192x2x1, .f32⟩
  | 127 => ⟨S2x8192x2x128, .f32⟩
  | _ => ⟨S2x8192x1024, .f32⟩

abbrev hbmTy0_1 (i : Nat) : BufTy := match i % 128 with
  | 0 => ⟨S2x8192x2x128, .f32⟩
  | 1 => ⟨S1x1x1x128, .f32⟩
  | 2 => ⟨S2x8192x2x128, .f32⟩
  | 3 => ⟨S2x8192x2x128, .f32⟩
  | 4 => ⟨S2x8192x2x64x2, .f32⟩
  | 5 => ⟨S2x8192x2x64x1, .f32⟩
  | 6 => ⟨S2x8192x2x64, .f32⟩
  | 7 => ⟨S2x8192x2x64x1, .f32⟩
  | 8 => ⟨S2x8192x2x64, .f32⟩
  | 9 => ⟨S1x8192x1x64, .f32⟩
  | 10 => ⟨S1x8192x1x64, .f32⟩
  | 11 => ⟨S2x8192x2x64, .f32⟩
  | 12 => ⟨S2x8192x2x64, .f32⟩
  | 13 => ⟨S2x8192x2x64, .f32⟩
  | 14 => ⟨S2x8192x2x64, .f32⟩
  | 15 => ⟨S2x8192x2x64, .f32⟩
  | 16 => ⟨S2x8192x2x64, .f32⟩
  | 17 => ⟨S2x8192x2x64, .f32⟩
  | 18 => ⟨S2x8192x2x64, .f32⟩
  | 19 => ⟨S2x8192x2x64, .f32⟩
  | 20 => ⟨S2x8192x2x64, .f32⟩
  | 21 => ⟨S2x8192x2x64x1, .f32⟩
  | 22 => ⟨S2x8192x2x64x1, .f32⟩
  | 23 => ⟨S2x8192x2x64x2, .f32⟩
  | 24 => ⟨S2x8192x2x128, .f32⟩
  | 25 => ⟨S128, .f32⟩
  | 26 => ⟨S128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S_, .f32⟩
  | 34 => ⟨S_, .f32⟩
  | 35 => ⟨S_, .f32⟩
  | 36 => ⟨S128, .i32⟩
  | 37 => ⟨S_, .i32⟩
  | 38 => ⟨S128, .i32⟩
  | 39 => ⟨S128, .i1⟩
  | 40 => ⟨S128x1, .i1⟩
  | 41 => ⟨S128x1, .f32⟩
  | 42 => ⟨S2x8x128x8192, .f32⟩
  | 43 => ⟨S128, .i32⟩
  | 44 => ⟨S_, .i32⟩
  | 45 => ⟨S128, .i32⟩
  | 46 => ⟨S128, .i1⟩
  | 47 => ⟨S_, .f32⟩
  | 48 => ⟨S_, .f32⟩
  | 49 => ⟨S_, .f32⟩
  | 50 => ⟨S128, .f32⟩
  | 51 => ⟨S128, .f32⟩
  | 52 => ⟨S128, .f32⟩
  | 53 => ⟨S2x2x8192x128, .f32⟩
  | 54 => ⟨S16, .i32⟩
  | 55 => ⟨S_, .i32⟩
  | 56 => ⟨S16, .i32⟩
  | 57 => ⟨S16, .i1⟩
  | 58 => ⟨S16x1, .i1⟩
  | 59 => ⟨S16x1, .f32⟩
  | 60 => ⟨S2x2x16x8192, .f32⟩
  | 61 => ⟨S_, .f32⟩
  | 62 => ⟨S2x8192x8x128, .f32⟩
  | 63 => ⟨S2x8192x8x128, .f32⟩
  | 64 => ⟨S2x8x128x8192, .f32⟩
  | 65 => ⟨S2x8x256x8192, .f32⟩
  | 66 => ⟨S2x2x8192x128, .f32⟩
  | 67 => ⟨S2x2x8192x256, .f32⟩
  | 68 => ⟨S2x2x128x8192, .f32⟩
  | 69 => ⟨S2x2x144x8192, .f32⟩
  | 70 => ⟨S16384x1024, .f32⟩
  | 71 => ⟨S2x8x256x8192, .bf16⟩
  | 72 => ⟨S2x2x8192x256, .bf16⟩
  | 73 => ⟨S2x2x144x8192, .bf16⟩
  | 74 => ⟨S16384x1024, .f32⟩
  | 75 => ⟨S16384x1024, .bf16⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_call0_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst : Ref sig .tc := ⟨.hbm, 53, rfl⟩
abbrev main_v38 : Ref sig .tc := ⟨.hbm, 54, rfl⟩
abbrev main_v39 : Ref sig .tc := ⟨.hbm, 55, rfl⟩
abbrev main_cst_0 : Ref sig .tc := ⟨.hbm, 56, rfl⟩
abbrev main_v40 : Ref sig .tc := ⟨.hbm, 57, rfl⟩
abbrev main_v41 : Ref sig .tc := ⟨.hbm, 58, rfl⟩
abbrev main_cst_1 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_2 : Ref sig .tc := ⟨.hbm, 79, rfl⟩
abbrev main_v61 : Ref sig .tc := ⟨.hbm, 80, rfl⟩
abbrev main_v62 : Ref sig .tc := ⟨.hbm, 81, rfl⟩
abbrev main_cst_3 : Ref sig .tc := ⟨.hbm, 82, rfl⟩
abbrev main_v63 : Ref sig .tc := ⟨.hbm, 83, rfl⟩
abbrev main_v64 : Ref sig .tc := ⟨.hbm, 84, rfl⟩
abbrev main_cst_4 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_5 : Ref sig .tc := ⟨.hbm, 117, rfl⟩
abbrev main_v96 : Ref sig .tc := ⟨.hbm, 118, rfl⟩
abbrev main_v97 : Ref sig .tc := ⟨.hbm, 119, rfl⟩
abbrev main_cst_6 : Ref sig .tc := ⟨.hbm, 120, rfl⟩
abbrev main_v98 : Ref sig .tc := ⟨.hbm, 121, rfl⟩
abbrev main_v99 : Ref sig .tc := ⟨.hbm, 122, rfl⟩
abbrev main_cst_7 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_cst_8 : Ref sig .tc := ⟨.hbm, 155, rfl⟩
abbrev main_v131 : Ref sig .tc := ⟨.hbm, 156, rfl⟩
abbrev main_cst_9 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_cst_10 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_c_11 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_c_12 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_cst_13 : Ref sig .tc := ⟨.hbm, 176, rfl⟩
abbrev main_call1_v0 : Ref sig .tc := ⟨.hbm, 177, rfl⟩
abbrev main_call1_v1 : Ref sig .tc := ⟨.hbm, 178, rfl⟩
abbrev main_call1_v2 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_c_14 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_cst_15 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩

abbrev nD : Nat := 1
abbrev τ : Topo := Topo.v7x

variable {F : FTy → Type} [FloatOps F]
-- ==== Proof.AttnIdealBounded.lean ====
module

public import proofs.«01_k».proof.Proof.Gen.AttnIdeal.Frame
public import proofs.«01_k».proof.Proof.Gen.AttnIdeal.Loops
public import Idealize.ShloMosaic.Lib.Claim
public import Idealize.ShloMosaic.Lib.WholeRead

/-! One grid point of the attention kernel, run twice: once where the shift is small enough to be used for every
score (the sixteen key chunks in one straight line), once where each head keeps its own running maximum (four
loops). Each run finds the pieces that the body stores in the output block. -/

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The comparison of the shift with its limit, as the body makes it from the two gains. -/
abbrev fits (g3 g4 : Vec F S1x128 .f32) : BitVec 1 :=
  Scalar.cmpf .ole (k0_pay41 g3 g4) (Scalar.ofBits .f32 0x42480000#32)

/-- The first branch is taken. -/
abbrev bounded (g3 g4 : Vec F S1x128 .f32) : Prop :=
  Scalar.cmpi .ne (Scalar.extui (fits g3 g4) : BitVec 32) 0#32 = 1#1

/-- The second branch is taken. -/
abbrev online (g3 g4 : Vec F S1x128 .f32) : Prop :=
  Scalar.cmpi .ne (Scalar.extui (Scalar.xori (fits g3 g4) 1#1) : BitVec 32) 0#32 = 1#1

/-- The two branches exclude each other, and one of them is taken. -/
theorem online_iff (g3 g4 : Vec F S1x128 .f32) : online g3 g4 ↔ ¬ bounded g3 g4 := by
  unfold online bounded
  generalize fits g3 g4 = b
  revert b; decide

set_option maxHeartbeats 4000000 in
/-- The body where the shift is used: what it stores in the output block, as pieces. -/
def runBounded (c : Dev nD) (i : grid0.Coords)
    (a3 : Memref sig .tc .vmem S1x4x256x512 .bf16) (h3 : a3.IsWhole) (a4 : Memref sig .tc .vmem S1x1x8192x256 .bf16) (h4 : a4.IsWhole)
    (a5 : Memref sig .tc .vmem S1x1x144x8192 .bf16) (h5 : a5.IsWhole) (a6 : Memref sig .tc .vmem S1x128 .f32) (h6 : a6.IsWhole)
    (a7 : Memref sig .tc .vmem S1x128 .f32) (h7 : a7.IsWhole) (a8 : Memref sig .tc .vmem S1x512x512 .bf16) (h8 : a8.IsWhole)
    (a9 : Memref sig .tc .vmem S4x144x512 .f32) (h9 : a9.IsWhole)
    (x0 : Vec F S1x4x256x512 .bf16) (x1 : Vec F S1x1x8192x256 .bf16) (x2 : Vec F S1x1x144x8192 .bf16)
    (x3 x4 : Vec F S1x128 .f32) (hb : bounded x3 x4) (ho : ¬ online x3 x4) :
    { L : List (View.Piece (Elt F) S1x512x512 .bf16) //
      ∀ (E : Set ℕ) (K : PUnit → sProp 𝕄),
        iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4
            ∗ (∃ d, owns (c : Thread nD τ) a8 fullShare d) ∗ (∃ d, owns (c : Thread nD τ) a9 fullShare d)
            ∗ (iprop(owns (c : Thread nD τ) a3 fullShare x0 ∗ owns (c : Thread nD τ) a4 fullShare x1 ∗ owns (c : Thread nD τ) a5 fullShare x2
                ∗ owns (c : Thread nD τ) a6 fullShare x3 ∗ owns (c : Thread nD τ) a7 fullShare x4
                ∗ (∃ f, a8.view.loc (c : Thread nD τ) ↦[a8.view.set]{fullShare} a8.view.writes (Elt F) f L)
                ∗ (∃ d, owns (c : Thread nD τ) a9 fullShare d)) -∗ K ⟨⟩))
          ⊢ wp frame (wpE (defs₀ (F := F)) Variants.none c none) E (cc0_gqa_attention i a3 h3 a4 h4 a5 h5 a6 h6 a7 h7 a8 h8 a9 h9) K } := by
  refine ⟨?_, fun E K => ?run⟩
  case run =>
    simp only [cc0_gqa_attention_eq_skeleton]; unfold cc0_gqa_attention_skel
    simp only [k0_part10_eq_skeleton]; unfold k0_part10_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := h3.eq_unread hf0; obtain rfl := h4.eq_unread hf1; obtain rfl := h5.eq_unread hf2
    obtain rfl := h6.eq_unread hf3; obtain rfl := h7.eq_unread hf4
    have e3 : View.readAt (Elt F) a6.view (Rect.unit (s := S1x128) ![0, 0] S1x128.size inb_S1x128_S1x128_0_0).toLoadRect (h6.unread x3) = x3 := by
      funext x; rw [h6.readAt_unread]; congr 1; funext a; fin_cases a <;> simp [LoadRect.idx] <;> rfl
    have e4 : View.readAt (Elt F) a7.view (Rect.unit (s := S1x128) ![0, 0] S1x128.size inb_S1x128_S1x128_0_0).toLoadRect (h7.unread x4) = x4 := by
      funext x; rw [h7.readAt_unread]; congr 1; funext a; fin_cases a <;> simp [LoadRect.idx] <;> rfl
    rw [← e3, ← e4] at hb ho
    sl_exec (disch := first | sl_exact hb | sl_exact ho)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]; · iexists _; iexact H5
    iexists _; iexists _; isplitr
    swap; · iexact HS
    ipureintro; rfl

end Cert.AttnIdeal.Hand

end
-- ==== Proof.AttnIdealOnline.lean ====
module

public import proofs.«01_k».proof.Proof.AttnIdealBounded
public import Idealize.ShloMosaic.Lib.Claim
public import Idealize.ShloMosaic.Lib.WholeRead

/-! One grid point of the attention kernel, run twice: once where the shift is small enough to be used for every
score (the sixteen key chunks in one straight line), once where each head keeps its own running maximum (four
loops). Each run finds the pieces that the body stores in the output block. -/

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where each head keeps its own maximum: what it stores in the output block, as pieces. -/
def runOnline (c : Dev nD) (i : grid0.Coords)
    (a3 : Memref sig .tc .vmem S1x4x256x512 .bf16) (h3 : a3.IsWhole) (a4 : Memref sig .tc .vmem S1x1x8192x256 .bf16) (h4 : a4.IsWhole)
    (a5 : Memref sig .tc .vmem S1x1x144x8192 .bf16) (h5 : a5.IsWhole) (a6 : Memref sig .tc .vmem S1x128 .f32) (h6 : a6.IsWhole)
    (a7 : Memref sig .tc .vmem S1x128 .f32) (h7 : a7.IsWhole) (a8 : Memref sig .tc .vmem S1x512x512 .bf16) (h8 : a8.IsWhole)
    (a9 : Memref sig .tc .vmem S4x144x512 .f32) (h9 : a9.IsWhole)
    (x0 : Vec F S1x4x256x512 .bf16) (x1 : Vec F S1x1x8192x256 .bf16) (x2 : Vec F S1x1x144x8192 .bf16)
    (x3 x4 : Vec F S1x128 .f32) (hb : ¬ bounded x3 x4) (ho : online x3 x4) :
    { L : List (View.Piece (Elt F) S1x512x512 .bf16) //
      ∀ (E : Set ℕ) (K : PUnit → sProp 𝕄),
        iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare x4
            ∗ (∃ d, owns (c : Thread nD τ) a8 fullShare d) ∗ (∃ d, owns (c : Thread nD τ) a9 fullShare d)
            ∗ (iprop(owns (c : Thread nD τ) a3 fullShare x0 ∗ owns (c : Thread nD τ) a4 fullShare x1 ∗ owns (c : Thread nD τ) a5 fullShare x2
                ∗ owns (c : Thread nD τ) a6 fullShare x3 ∗ owns (c : Thread nD τ) a7 fullShare x4
                ∗ (∃ f, a8.view.loc (c : Thread nD τ) ↦[a8.view.set]{fullShare} a8.view.writes (Elt F) f L)
                ∗ (∃ d, owns (c : Thread nD τ) a9 fullShare d)) -∗ K ⟨⟩))
          ⊢ wp frame (wpE (defs₀ (F := F)) Variants.none c none) E (cc0_gqa_attention i a3 h3 a4 h4 a5 h5 a6 h6 a7 h7 a8 h8 a9 h9) K } := by
  refine ⟨?_, fun E K => ?run⟩
  case run =>
    simp only [cc0_gqa_attention_eq_skeleton]; unfold cc0_gqa_attention_skel
    simp only [k0_part10_eq_skeleton]; unfold k0_part10_skel
    simp only [k0_part1_eq_skeleton, k0_part2_eq_skeleton, k0_part3_eq_skeleton, k0_part4_eq_skeleton, k0_part5_eq_skeleton,
      k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds, %fs, -, HS⟩, Hk⟩
    obtain rfl := h3.eq_unread hf0; obtain rfl := h4.eq_unread hf1; obtain rfl := h5.eq_unread hf2
    obtain rfl := h6.eq_unread hf3; obtain rfl := h7.eq_unread hf4
    have e3 : View.readAt (Elt F) a6.view (Rect.unit (s := S1x128) ![0, 0] S1x128.size inb_S1x128_S1x128_0_0).toLoadRect (h6.unread x3) = x3 := by
      funext x; rw [h6.readAt_unread]; congr 1; funext a; fin_cases a <;> simp [LoadRect.idx] <;> rfl
    have e4 : View.readAt (Elt F) a7.view (Rect.unit (s := S1x128) ![0, 0] S1x128.size inb_S1x128_S1x128_0_0).toLoadRect (h7.unread x4) = x4 := by
      funext x; rw [h7.readAt_unread]; congr 1; funext a; fin_cases a <;> simp [LoadRect.idx] <;> rfl
    rw [← e3, ← e4] at hb ho
    sl_exec (disch := first | sl_exact hb | sl_exact ho)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]; · iexists _; iexact H5
    iexists _; iexists _; isplitr
    swap; · iexact HS
    ipureintro; rfl

end Cert.AttnIdeal.Hand

end
-- ==== Proof.AttnIdealFrame.lean ====
/- The idealized attention kernel runs to its end, leaves its arguments and every semaphore counter at zero. -/
module

public import proofs.«01_k».proof.Proof.AttnIdealOnline

/-! The attention kernel's frame: what each grid point leaves in the output block (by the branch it takes), the
pipeline's proof data, the body's triple at every point, the whole run, and the frame claim. -/

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The output block as a view. -/
abbrev outV : View sig .tc .vmem S1x512x512 .bf16 := (Memref.whole cc0_stg5_0 : Memref sig .tc .vmem S1x512x512 .bf16).view

/-- The staging memrefs of a point, and that each is whole. -/
abbrev g0 (t : Fin cfg0.N) : Memref sig .tc .vmem S1x4x256x512 .bf16 := win0_0.stage (cfg0.slots t 0)
abbrev w0 (t : Fin cfg0.N) : (g0 t).IsWhole := hstage0_0 ((cfg0.slots t 0).cast nbuf0_0)
abbrev g1 (t : Fin cfg0.N) : Memref sig .tc .vmem S1x1x8192x256 .bf16 := win0_1.stage (cfg0.slots t 1)
abbrev w1 (t : Fin cfg0.N) : (g1 t).IsWhole := hstage0_1 ((cfg0.slots t 1).cast nbuf0_1)
abbrev g2 (t : Fin cfg0.N) : Memref sig .tc .vmem S1x1x144x8192 .bf16 := win0_2.stage (cfg0.slots t 2)
abbrev w2 (t : Fin cfg0.N) : (g2 t).IsWhole := hstage0_2 ((cfg0.slots t 2).cast nbuf0_2)
abbrev g3 (t : Fin cfg0.N) : Memref sig .tc .vmem S1x128 .f32 := win0_3.stage (cfg0.slots t 3)
abbrev w3 (t : Fin cfg0.N) : (g3 t).IsWhole := hstage0_3 ((cfg0.slots t 3).cast nbuf0_3)
abbrev g4 (t : Fin cfg0.N) : Memref sig .tc .vmem S1x128 .f32 := win0_4.stage (cfg0.slots t 4)
abbrev w4 (t : Fin cfg0.N) : (g4 t).IsWhole := hstage0_4 ((cfg0.slots t 4).cast nbuf0_4)
abbrev g5 (t : Fin cfg0.N) : Memref sig .tc .vmem S1x512x512 .bf16 := win0_5.stage (cfg0.slots t 5)
abbrev w5 (t : Fin cfg0.N) : (g5 t).IsWhole := hstage0_5 ((cfg0.slots t 5).cast nbuf0_5)
/-- The scratch. -/
abbrev scr : Memref sig .tc .vmem S4x144x512 .f32 := Memref.whole cc0_scratch0

/-- The run at a point that uses the shift. -/
abbrev runB (c : Dev nD) (t : Fin cfg0.N) (h : bounded (iblk m c 3 t) (iblk m c 4 t)) :=
  runBounded c (grid0.coords t) (g0 t) (w0 t) (g1 t) (w1 t) (g2 t) (w2 t) (g3 t) (w3 t) (g4 t) (w4 t) (g5 t) (w5 t) scr
    (Memref.isWhole_whole _) (iblk m c 0 t) (iblk m c 1 t) (iblk m c 2 t) (iblk m c 3 t) (iblk m c 4 t) h
    (fun h' => (online_iff _ _).mp h' h)

/-- The run at a point that does not. -/
abbrev runO (c : Dev nD) (t : Fin cfg0.N) (h : ¬ bounded (iblk m c 3 t) (iblk m c 4 t)) :=
  runOnline c (grid0.coords t) (g0 t) (w0 t) (g1 t) (w1 t) (g2 t) (w2 t) (g3 t) (w3 t) (g4 t) (w4 t) (g5 t) (w5 t) scr
    (Memref.isWhole_whole _) (iblk m c 0 t) (iblk m c 1 t) (iblk m c 2 t) (iblk m c 3 t) (iblk m c 4 t) h
    ((online_iff _ _).mpr h)

theorem coverB (c : Dev nD) (t : Fin cfg0.N) (h : bounded (iblk m c 3 t) (iblk m c 4 t)) (y : S1x512x512.Idx) :
    ∃ pc ∈ (runB m c t h).1, y ∈ pc.1.set :=
  View.cover_of_tiledL (runB m c t h).1 ![1, 512, 128] (by sl_kernel_rfl) y

theorem coverO (c : Dev nD) (t : Fin cfg0.N) (h : ¬ bounded (iblk m c 3 t) (iblk m c 4 t)) (y : S1x512x512.Idx) :
    ∃ pc ∈ (runO m c t h).1, y ∈ pc.1.set :=
  View.cover_of_tiledL (runO m c t h).1 ![1, 512, 128] (by sl_kernel_rfl) y

/-- What a point that uses the shift leaves in the output block. -/
def outB (c : Dev nD) (t : Fin cfg0.N) (h : bounded (iblk m c 3 t) (iblk m c 4 t)) : Vec F S1x512x512 .bf16 :=
  outV.read (Elt F) (outV.writes (Elt F) outV.junk (runB m c t h).1)

/-- What a point that does not leaves in it. -/
def outO (c : Dev nD) (t : Fin cfg0.N) (h : ¬ bounded (iblk m c 3 t) (iblk m c 4 t)) : Vec F S1x512x512 .bf16 :=
  outV.read (Elt F) (outV.writes (Elt F) outV.junk (runO m c t h).1)

open Classical in
/-- What a point leaves in the output block. -/
def out (c : Dev nD) (t : Fin cfg0.N) : Vec F S1x512x512 .bf16 :=
  if h : bounded (iblk m c 3 t) (iblk m c 4 t) then outB m c t h else outO m c t h

theorem out_bounded (c : Dev nD) (t : Fin cfg0.N) (h : bounded (iblk m c 3 t) (iblk m c 4 t)) : out m c t = outB m c t h :=
  dif_pos h

theorem out_online (c : Dev nD) (t : Fin cfg0.N) (h : ¬ bounded (iblk m c 3 t) (iblk m c 4 t)) : out m c t = outO m c t h :=
  dif_neg h

/-- The region invariant with the scratch as a memref at some contents. -/
theorem region_eq (c : Dev nD) :
    (Pipeline.ΦA spec0 c : sProp 𝕄)
      = iprop(iprop((∃ d, owns (c : Thread nD τ) scr fullShare d)) ∗ (∃ r, prngReg c r)) := by
  unfold Pipeline.ΦA; rw [scopedRest0_eq]; simp only [scr, owns_whole]; try rfl

/-- The pipeline's proof data: every input's block in place, the output at what the point leaves, the scratch at
anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = out m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (g0 t) fullShare ((dats m 0 c).before 0 t d))
    ∗ (∃ d, owns (c : Thread nD τ) (g1 t) fullShare ((dats m 0 c).before 1 t d))
    ∗ (∃ d, owns (c : Thread nD τ) (g2 t) fullShare ((dats m 0 c).before 2 t d))
    ∗ (∃ d, owns (c : Thread nD τ) (g3 t) fullShare ((dats m 0 c).before 3 t d))
    ∗ (∃ d, owns (c : Thread nD τ) (g4 t) fullShare ((dats m 0 c).before 4 t d))
    ∗ (∃ d, owns (c : Thread nD τ) (g5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (g0 t) fullShare ((dats m 0 c).after 0 t)
    ∗ owns (c : Thread nD τ) (g1 t) fullShare ((dats m 0 c).after 1 t)
    ∗ owns (c : Thread nD τ) (g2 t) fullShare ((dats m 0 c).after 2 t)
    ∗ owns (c : Thread nD τ) (g3 t) fullShare ((dats m 0 c).after 3 t)
    ∗ owns (c : Thread nD τ) (g4 t) fullShare ((dats m 0 c).after 4 t)
    ∗ owns (c : Thread nD τ) (g5 t) fullShare ((dats m 0 c).after 5 t))

set_option maxHeartbeats 3200000 in
/-- The body at any point, by the branch it takes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = Pipeline.ΦA spec0 c from rfl, show (dats m 0 c).Φ t.castSucc = Pipeline.ΦA spec0 c from rfl,
    region_eq]
  by_cases h : bounded (iblk m c 3 t) (iblk m c 4 t)
  · rw [out_bounded m c t h]
    iintro ⟨⟨HS, Hg⟩, Ho, ⟨%d0, H0⟩, ⟨%d1, H1⟩, ⟨%d2, H2⟩, ⟨%d3, H3⟩, ⟨%d4, H4⟩, ⟨%d5, H5⟩⟩
    iapply ((runB m c t h).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    unfold owns outB; iexists _; isplitr
    swap; · iexact H5
    ipureintro; exact View.read_writes_of_cover _ _ _ _ _ (coverB m c t h)
  · rw [out_online m c t h]
    iintro ⟨⟨HS, Hg⟩, Ho, ⟨%d0, H0⟩, ⟨%d1, H1⟩, ⟨%d2, H2⟩, ⟨%d3, H3⟩, ⟨%d4, H4⟩, ⟨%d5, H5⟩⟩
    iapply ((runO m c t h).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, ⟨%e5, H5⟩, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    unfold owns outO; iexists _; isplitr
    swap; · iexact H5
    ipureintro; exact View.read_writes_of_cover _ _ _ _ _ (coverO m c t h)

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

theorem hin (c : Dev nD) : Pipeline.ΦA spec0 c ⊢ (dats m 0 c).Φ 0 :=
  Idealize.SL.BI.Entails.refl _

theorem hout (c : Dev nD) : (dats m 0 c).Φ (Fin.last cfg0.N) ⊢ Pipeline.ΦA spec0 c :=
  Idealize.SL.BI.Entails.refl _

set_option backward.isDefEq.respectTransparency.types false in
/-- The whole run: the arrays end at what the proof data say, and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_quiescent m ρ)

/-- The frame: the arguments end as they began and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.AttnIdeal.Hand

end
-- ==== Proof.AttnIdealPay.lean ====
/- The attention kernel's stored values at an index: the scores, one chunk's step of either branch, the head's output. -/
module

public import proofs.«01_k».proof.Proof.AttnIdealFrame
public import Idealize.ShloMosaic.Lib.Pipeline.ValueKit
public import Idealize.ShloMosaic.Lib.Pointwise

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic

/-- The score's scale. -/
def qsc : EReal := (Named.named κ "q_scale" 0x3E0293EE#32 : Ideal .f32)

theorem qsc_eq : qsc = ((11863283 / 134217728 * (Real.log 2)⁻¹ : ℝ) : EReal) := rfl

/-- A score: the scaled product of the first 128 entries and the plain product of the rest. -/
def dotq (x k : Fin 256 → EReal) : EReal :=
  ∑ e : Fin 128, k ⟨e, by omega⟩ * (x ⟨e, by omega⟩ * qsc) + ∑ e : Fin 128, k ⟨128 + e, by omega⟩ * x ⟨128 + e, by omega⟩

variable (X X0 X1 X2 X3 : Vec Ideal S1x1x256x512 .bf16) (K : Vec Ideal S1x1x512x256 .bf16) (V : Vec Ideal S1x1x144x512 .bf16)

/-- The scores of one head, one chunk. -/
theorem scores0 (j r : Fin 512) :
    k0_pay20 (F := Ideal) X K (ix2 j r) = dotq (fun e => X (ix4 0 0 e r)) (fun e => K (ix4 0 0 j e)) := by
  pointwise [k0_pay20]; rfl
theorem scores1 (j r : Fin 512) :
    k0_pay26 (F := Ideal) X K (ix2 j r) = dotq (fun e => X (ix4 0 0 e r)) (fun e => K (ix4 0 0 j e)) := by
  pointwise [k0_pay26]; rfl
theorem scores2 (j r : Fin 512) :
    k0_pay32 (F := Ideal) X K (ix2 j r) = dotq (fun e => X (ix4 0 0 e r)) (fun e => K (ix4 0 0 j e)) := by
  pointwise [k0_pay32]; rfl
theorem scores3 (j r : Fin 512) :
    k0_pay38 (F := Ideal) X K (ix2 j r) = dotq (fun e => X (ix4 0 0 e r)) (fun e => K (ix4 0 0 j e)) := by
  pointwise [k0_pay38]; rfl

/-- One chunk of the online form: the new maximum. -/
def stepM (X : Vec Ideal S1x1x256x512 .bf16) (K : Vec Ideal S1x1x512x256 .bf16) (r : Fin 512) (m : EReal) : EReal :=
  max m (Finset.univ.fold max ⊥ fun j : Fin 512 => dotq (fun e => X (ix4 0 0 e r)) (fun e => K (ix4 0 0 j e)))

/-- One chunk of the online form: the new accumulator, `m'` the new maximum. -/
def stepA (X : Vec Ideal S1x1x256x512 .bf16) (K : Vec Ideal S1x1x512x256 .bf16) (V : Vec Ideal S1x1x144x512 .bf16)
    (a : Fin 144) (r : Fin 512) (m m' acc : EReal) : EReal :=
  Ideal.exp2 (m - m') * acc
    + ∑ j : Fin 512, V (ix4 0 0 a j) * Ideal.exp2 (dotq (fun e => X (ix4 0 0 e r)) (fun e => K (ix4 0 0 j e)) - m')

theorem neg_inf : Ideal.ofBits .f32 0xFF800000#32 = ⊥ := by simp [Ideal.ofBits, Ideal.ieee]

variable (m : FVec Ideal S1x512 .f32) (acc : FVec Ideal S144x512 .f32)

theorem max0 (r : Fin 512) : k0_pay21 (F := Ideal) X m K (ix2 0 r) = stepM X K r (m (ix2 0 r)) := by
  pointwise [k0_pay21]; simp only [scores0, neg_inf]; rfl
theorem max1 (r : Fin 512) : k0_pay27 (F := Ideal) X m K (ix2 0 r) = stepM X K r (m (ix2 0 r)) := by
  pointwise [k0_pay27]; simp only [scores1, neg_inf]; rfl
theorem max2 (r : Fin 512) : k0_pay33 (F := Ideal) X m K (ix2 0 r) = stepM X K r (m (ix2 0 r)) := by
  pointwise [k0_pay33]; simp only [scores2, neg_inf]; rfl
theorem max3 (r : Fin 512) : k0_pay39 (F := Ideal) X m K (ix2 0 r) = stepM X K r (m (ix2 0 r)) := by
  pointwise [k0_pay39]; simp only [scores3, neg_inf]; rfl

theorem acc0 (a : Fin 144) (r : Fin 512) : k0_pay22 (F := Ideal) X m acc K V (ix2 a r)
    = stepA X K V a r (m (ix2 0 r)) (stepM X K r (m (ix2 0 r))) (acc (ix2 a r)) := by
  pointwise [k0_pay22]; simp only [scores0, max0]; rfl
theorem acc1 (a : Fin 144) (r : Fin 512) : k0_pay28 (F := Ideal) X m acc K V (ix2 a r)
    = stepA X K V a r (m (ix2 0 r)) (stepM X K r (m (ix2 0 r))) (acc (ix2 a r)) := by
  pointwise [k0_pay28]; simp only [scores1, max1]; rfl
theorem acc2 (a : Fin 144) (r : Fin 512) : k0_pay34 (F := Ideal) X m acc K V (ix2 a r)
    = stepA X K V a r (m (ix2 0 r)) (stepM X K r (m (ix2 0 r))) (acc (ix2 a r)) := by
  pointwise [k0_pay34]; simp only [scores2, max2]; rfl
theorem acc3 (a : Fin 144) (r : Fin 512) : k0_pay40 (F := Ideal) X m acc K V (ix2 a r)
    = stepA X K V a r (m (ix2 0 r)) (stepM X K r (m (ix2 0 r))) (acc (ix2 a r)) := by
  pointwise [k0_pay40]; simp only [scores3, max3]; rfl

/-- The online form starts at `-∞` and at zero. -/
theorem start (r : Fin 512) (a : Fin 144) :
    (k0_pay18 (F := Ideal) (ix2 0 r) = ⊥ ∧ k0_pay19 (F := Ideal) (ix2 a r) = 0)
    ∧ (k0_pay24 (F := Ideal) (ix2 0 r) = ⊥ ∧ k0_pay25 (F := Ideal) (ix2 a r) = 0)
    ∧ (k0_pay30 (F := Ideal) (ix2 0 r) = ⊥ ∧ k0_pay31 (F := Ideal) (ix2 a r) = 0)
    ∧ (k0_pay36 (F := Ideal) (ix2 0 r) = ⊥ ∧ k0_pay37 (F := Ideal) (ix2 a r) = 0) := by
  refine ⟨⟨?_, ?_⟩, ⟨?_, ?_⟩, ⟨?_, ?_⟩, ?_, ?_⟩
  · pointwise [k0_pay18]; exact neg_inf
  · pointwise [k0_pay19]
  · pointwise [k0_pay24]; exact neg_inf
  · pointwise [k0_pay25]
  · pointwise [k0_pay30]; exact neg_inf
  · pointwise [k0_pay31]
  · pointwise [k0_pay36]; exact neg_inf
  · pointwise [k0_pay37]

/-- One chunk of the bounded form, all four heads side by side. -/
def bstep (Q : FVec Ideal S256x2048 .bf16) (A : FVec Ideal S144x2048 .f32) (K : Vec Ideal S1x1x512x256 .bf16)
    (V : Vec Ideal S1x1x144x512 .bf16) : FVec Ideal S144x2048 .f32 :=
  k0_pay42 (F := Ideal) Q A (k0_pay16 K) (k0_pay17 V)

theorem bstep_at (Q : FVec Ideal S256x2048 .bf16) (A : FVec Ideal S144x2048 .f32) (a : Fin 144) (n : Fin 2048) :
    bstep Q A K V (ix2 a n) = A (ix2 a n)
      + ∑ j : Fin 512, V (ix4 0 0 a j) * Ideal.exp2 (∑ e : Fin 256, K (ix4 0 0 j e) * Q (ix2 e n)) := by
  unfold bstep; pointwise [k0_pay42, k0_pay16, k0_pay17]; rfl

/-- The scores against the four heads' scaled queries side by side, by the head. -/
theorem q_sum0 (k : Fin 256 → EReal) (r : Fin 512) :
    ∑ e : Fin 256, k e * k0_pay4 (F := Ideal) X0 X1 X2 X3 (ix2 e ⟨r, by omega⟩) = dotq (fun e => X0 (ix4 0 0 e r)) k := by
  pointwise [k0_pay4]; rfl
theorem q_sum1 (k : Fin 256 → EReal) (r : Fin 512) :
    ∑ e : Fin 256, k e * k0_pay4 (F := Ideal) X0 X1 X2 X3 (ix2 e ⟨512 + r, by omega⟩) = dotq (fun e => X1 (ix4 0 0 e r)) k := by
  pointwise [k0_pay4]; rfl
theorem q_sum2 (k : Fin 256 → EReal) (r : Fin 512) :
    ∑ e : Fin 256, k e * k0_pay4 (F := Ideal) X0 X1 X2 X3 (ix2 e ⟨1024 + r, by omega⟩) = dotq (fun e => X2 (ix4 0 0 e r)) k := by
  pointwise [k0_pay4]
  simp only [show ¬ (1024 + (r : ℕ) < 512) by omega, show ¬ (1024 + (r : ℕ) - 512 < 512) by omega, show (r : ℕ) < 512 from r.isLt, show 1024 + (r : ℕ) - 512 - 512 = r by omega, ↓reduceDIte]
  rfl
theorem q_sum3 (k : Fin 256 → EReal) (r : Fin 512) :
    ∑ e : Fin 256, k e * k0_pay4 (F := Ideal) X0 X1 X2 X3 (ix2 e ⟨1536 + r, by omega⟩) = dotq (fun e => X3 (ix4 0 0 e r)) k := by
  pointwise [k0_pay4]
  simp only [show ¬ (1536 + (r : ℕ) < 512) by omega, show ¬ (1536 + (r : ℕ) - 512 < 512) by omega, show ¬ (1536 + (r : ℕ) - 512 - 512 < 512) by omega, show 1536 + (r : ℕ) - 512 - 512 - 512 = r by omega, ↓reduceDIte]
  rfl

/-- What the bounded form stores for each head: that head's columns. -/
theorem cut0 (Q : FVec Ideal S256x2048 .bf16) (A : FVec Ideal S144x2048 .f32) (a : Fin 144) (r : Fin 512) :
    k0_pay43 (F := Ideal) Q A (k0_pay16 K) (k0_pay17 V) (ix3 0 a r) = bstep Q A K V (ix2 a ⟨r, by omega⟩) := by
  pointwise [k0_pay43]; rfl
theorem cut1 (Q : FVec Ideal S256x2048 .bf16) (A : FVec Ideal S144x2048 .f32) (a : Fin 144) (r : Fin 512) :
    k0_pay44 (F := Ideal) Q A (k0_pay16 K) (k0_pay17 V) (ix3 0 a r) = bstep Q A K V (ix2 a ⟨512 + r, by omega⟩) := by
  pointwise [k0_pay44]; rfl
theorem cut2 (Q : FVec Ideal S256x2048 .bf16) (A : FVec Ideal S144x2048 .f32) (a : Fin 144) (r : Fin 512) :
    k0_pay45 (F := Ideal) Q A (k0_pay16 K) (k0_pay17 V) (ix3 0 a r) = bstep Q A K V (ix2 a ⟨1024 + r, by omega⟩) := by
  pointwise [k0_pay45]; rfl
theorem cut3 (Q : FVec Ideal S256x2048 .bf16) (A : FVec Ideal S144x2048 .f32) (a : Fin 144) (r : Fin 512) :
    k0_pay46 (F := Ideal) Q A (k0_pay16 K) (k0_pay17 V) (ix3 0 a r) = bstep Q A K V (ix2 a ⟨1536 + r, by omega⟩) := by
  pointwise [k0_pay46]; rfl

/-- What the online form stores for each head: its accumulator. -/
theorem put (a : Fin 144) (r : Fin 512) :
    k0_pay23 (F := Ideal) acc (ix3 0 a r) = acc (ix2 a r) ∧ k0_pay29 (F := Ideal) acc (ix3 0 a r) = acc (ix2 a r)
    ∧ k0_pay35 (F := Ideal) acc (ix3 0 a r) = acc (ix2 a r) ∧ k0_pay47 (F := Ideal) acc (ix3 0 a r) = acc (ix2 a r) := by
  refine ⟨?_, ?_, ?_, ?_⟩
  · pointwise [k0_pay23]
  · pointwise [k0_pay29]
  · pointwise [k0_pay35]
  · pointwise [k0_pay47]

theorem zero_at (a : Fin 144) (n : Fin 2048) : k0_pay5 (F := Ideal) (ix2 a n) = 0 := by pointwise [k0_pay5]

/-- The bounded form's payloads as chunks added one after another. -/
theorem chain (Q : FVec Ideal S256x2048 .bf16) (A : FVec Ideal S144x2048 .f32) (K0 K1 K2 : Vec Ideal S1x1x512x256 .bf16)
    (V0 V1 V2 : Vec Ideal S1x1x144x512 .bf16) :
    k0_pay6 Q A K0 V0 K1 V1 = bstep Q (bstep Q A K0 V0) K1 V1
    ∧ k0_pay8 Q A (k0_pay7 K0) V0 K1 V1 K2 V2 = bstep Q (bstep Q (bstep Q A K0 V0) K1 V1) K2 V2
    ∧ k0_pay9 Q A K0 V0 K1 V1 = bstep Q (bstep Q A K0 V0) K1 V1
    ∧ k0_pay12 Q A (k0_pay10 V0) (k0_pay11 Q K0) K1 V1 K2 V2 = bstep Q (bstep Q (bstep Q A K0 V0) K1 V1) K2 V2
    ∧ k0_pay14 Q A (k0_pay13 K0) V0 K1 V1 K2 V2 = bstep Q (bstep Q (bstep Q A K0 V0) K1 V1) K2 V2
    ∧ k0_pay15 Q A K0 V0 K1 V1 = bstep Q (bstep Q A K0 V0) K1 V1 := ⟨rfl, rfl, rfl, rfl, rfl, rfl⟩

/-- The rows of an accumulator divided by its row 128, transposed. -/
theorem fin0 (A : Vec Ideal S1x144x512 .f32) (r : Fin 512) (d : Fin 128) :
    k0_pay48 (F := Ideal) A (ix3 0 r d) = Ideal.div (A (ix3 0 ⟨d, by omega⟩ r)) (A (ix3 0 128 r)) := by
  pointwise [k0_pay48]
theorem fin1 (A : Vec Ideal S1x144x512 .f32) (r : Fin 512) (d : Fin 128) :
    k0_pay1 (F := Ideal) (k0_pay49 A) (k0_pay50 A) (ix3 0 r d) = Ideal.div (A (ix3 0 ⟨d, by omega⟩ r)) (A (ix3 0 128 r)) := by
  pointwise [k0_pay1, k0_pay49, k0_pay50]
theorem fin2 (A : Vec Ideal S1x144x512 .f32) (r : Fin 512) (d : Fin 128) :
    k0_pay2 (F := Ideal) A (ix3 0 r d) = Ideal.div (A (ix3 0 ⟨d, by omega⟩ r)) (A (ix3 0 128 r)) := by
  pointwise [k0_pay2]
theorem fin3 (A : Vec Ideal S1x144x512 .f32) (r : Fin 512) (d : Fin 128) :
    k0_pay3 (F := Ideal) A (ix3 0 r d) = Ideal.div (A (ix3 0 ⟨d, by omega⟩ r)) (A (ix3 0 128 r)) := by
  pointwise [k0_pay3]

end Cert.AttnIdeal.Hand

end
-- ==== Proof.Softmax.lean ====
/- Quotients of weighted sums over the extended reals, as a softmax takes them: finite scores, arbitrary values. -/
module

public import Idealize.ShloMosaic.PureOps.Ideal
public import Mathlib.Analysis.SpecialFunctions.Pow.Real

@[expose] public section

noncomputable section

namespace Cert.Soft

open Idealize.ShloMosaic

variable {ι : Type*}

/-- A finite sum of reals is the same sum taken in the extended reals. -/
theorem coe_sum (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite nonnegative factor passes into a sum of extended reals, from the right. -/
theorem sum_mul_coe (s : Finset ι) (V : ι → EReal) (c : ℝ) (hc : 0 ≤ c) :
    (∑ i ∈ s, V i) * (c : EReal) = ∑ i ∈ s, V i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- The weight `2 ^ (s j - c)` of a finite score. -/
theorem exp2_sub (s c : ℝ) : Ideal.exp2 ((s : EReal) - (c : EReal)) = ((2 : ℝ) ^ (s - c) : ℝ) := by
  rw [← EReal.coe_sub]; rfl

/-- Changing the subtracted value from `μ` to `M` multiplies a weighted sum by `2 ^ (μ - M)`. -/
theorem rescale (t : Finset ι) (V : ι → EReal) (s : ι → ℝ) (μ M : ℝ) :
    Ideal.exp2 ((μ : EReal) - (M : EReal)) * ∑ j ∈ t, V j * Ideal.exp2 ((s j : EReal) - (μ : EReal))
      = ∑ j ∈ t, V j * Ideal.exp2 ((s j : EReal) - (M : EReal)) := by
  rw [mul_comm, exp2_sub, sum_mul_coe _ _ _ (by positivity)]
  refine Finset.sum_congr rfl fun j _ => ?_
  rw [exp2_sub, exp2_sub, mul_assoc, ← EReal.coe_mul, ← Real.rpow_add (by norm_num)]
  congr 3; ring

/-- The share of index `j` among the scores `s`, to the base two. -/
def share {n : ℕ} (s : Fin n → ℝ) (j : Fin n) : ℝ := (2 : ℝ) ^ s j / ∑ i, (2 : ℝ) ^ s i

theorem sum_pow_pos {n : ℕ} (hn : 0 < n) (s : Fin n → ℝ) : 0 < ∑ i, (2 : ℝ) ^ s i :=
  Finset.sum_pos (fun _ _ => by positivity) ⟨⟨0, hn⟩, Finset.mem_univ _⟩

/-- A common value subtracted from every score changes no share. -/
theorem share_sub {n : ℕ} (s : Fin n → ℝ) (c : ℝ) (j : Fin n) : share (fun i => s i - c) j = share s j := by
  have h (i) : (2 : ℝ) ^ (s i - c) = 2 ^ s i * 2 ^ (-c) := by rw [← Real.rpow_add (by norm_num)]; rfl
  unfold share
  simp only [h, ← Finset.sum_mul]
  exact mul_div_mul_right _ _ (by positivity)

/-- The weighted sum divided by the sum of the weights is the sum of the values by their shares. -/
theorem quotient {n : ℕ} (hn : 0 < n) (V : Fin n → EReal) (s : Fin n → ℝ) (c : ℝ) :
    Ideal.div (∑ j, V j * Ideal.exp2 ((s j : EReal) - (c : EReal))) (∑ j, Ideal.exp2 ((s j : EReal) - (c : EReal)))
      = ∑ j, V j * (share s j : EReal) := by
  simp only [exp2_sub, ← coe_sum]
  have hpos := sum_pow_pos hn fun i => s i - c
  rw [Ideal.div_coe hpos.ne', sum_mul_coe _ _ _ (by positivity)]
  refine Finset.sum_congr rfl fun j _ => ?_
  rw [mul_assoc, ← EReal.coe_mul, ← share_sub s c j]
  unfold share
  congr 2; ring

/-- The same with nothing subtracted. -/
theorem quotient_zero {n : ℕ} (hn : 0 < n) (V : Fin n → EReal) (s : Fin n → ℝ) :
    Ideal.div (∑ j, V j * Ideal.exp2 (s j : EReal)) (∑ j, Ideal.exp2 (s j : EReal)) = ∑ j, V j * (share s j : EReal) := by
  have h := quotient hn V s 0
  simpa using h

/-- The natural exponentials, the largest score subtracted, have the shares of the scores over the logarithm of two. -/
theorem exp_quotient {n : ℕ} (hn : 0 < n) (y : Fin n → ℝ) (M : ℝ) (j : Fin n) :
    Ideal.div (Ideal.exp ((y j : EReal) - (M : EReal))) (∑ i, Ideal.exp ((y i : EReal) - (M : EReal)))
      = (share (fun i => y i * (Real.log 2)⁻¹) j : EReal) := by
  have hl : Real.log 2 ≠ 0 := (Real.log_pos (by norm_num)).ne'
  have h (i) : Real.exp (y i - M) = (2 : ℝ) ^ (y i * (Real.log 2)⁻¹ - M * (Real.log 2)⁻¹) := by
    rw [Real.rpow_def_of_pos (by norm_num), ← sub_mul, mul_comm (Real.log 2), mul_assoc, inv_mul_cancel₀ hl, mul_one]
  have hpos := sum_pow_pos hn fun i => y i * (Real.log 2)⁻¹ - M * (Real.log 2)⁻¹
  simp only [← EReal.coe_sub, Ideal.exp_coe, ← coe_sum, h]
  rw [Ideal.div_coe hpos.ne', ← EReal.coe_mul, ← share_sub _ (M * (Real.log 2)⁻¹) j]
  unfold share
  congr 1; ring

/-- The largest of finitely many finite values, above a value that is not `+∞`, is finite. -/
theorem fold_max_real {n : ℕ} (hn : 0 < n) (b : EReal) (hb : b ≠ ⊤) (f : Fin n → EReal) (hf : ∀ i, ∃ r : ℝ, f i = r) :
    ∃ r : ℝ, Finset.univ.fold max b f = r := by
  have h1 : Finset.univ.fold max b f < ⊤ := by
    rw [Finset.fold_max_lt]
    refine ⟨lt_top_iff_ne_top.mpr hb, fun i _ => ?_⟩
    obtain ⟨r, hr⟩ := hf i
    rw [hr]; exact EReal.coe_lt_top r
  have h2 : ⊥ < Finset.univ.fold max b f := by
    rw [Finset.lt_fold_max]
    obtain ⟨r, hr⟩ := hf ⟨0, hn⟩
    exact Or.inr ⟨⟨0, hn⟩, Finset.mem_univ _, by rw [hr]; exact EReal.bot_lt_coe r⟩
  exact ⟨_, (EReal.coe_toReal h1.ne h2.ne').symm⟩

end Cert.Soft

end
-- ==== Proof.Chunks.lean ====
/- Sums taken a chunk at a time: added plainly, and under a running maximum as an online softmax takes them. -/
module

public import proofs.«01_k».proof.Proof.Softmax

@[expose] public section

noncomputable section

namespace Cert.Soft

open Idealize.ShloMosaic

/-- Chunks of `T` terms added one after another give the whole sum. -/
theorem chunks {N T M : ℕ} (hM : T * N = M) (f : ℕ → EReal) (A : ℕ → EReal) (h0 : A 0 = 0)
    (hA : ∀ n < N, A (n + 1) = A n + ∑ j : Fin T, f (T * n + j)) : A N = ∑ j : Fin M, f j := by
  have key : ∀ n ≤ N, A n = ∑ j ∈ Finset.range (T * n), f j := by
    intro n
    induction n with
    | zero => intro _; simp [h0]
    | succ n ih =>
      intro hn
      rw [hA n (by omega), ih (by omega), Nat.mul_succ, Finset.sum_range_add,
        ← Fin.sum_univ_eq_sum_range (fun j => f (T * n + j)) T]
  rw [key N le_rfl, hM, Fin.sum_univ_eq_sum_range]

variable {ι : Type*}

/-- The running form: after all chunks the accumulators are the whole weighted sums, at the maximum found. -/
theorem online {N T M : ℕ} (hM : T * N = M) (hT : 0 < T) (hN : 0 < N) (s : ℕ → ℝ) (W : ι → ℕ → EReal)
    (m : ℕ → EReal) (A : ι → ℕ → EReal) (hm0 : m 0 = ⊥) (hA0 : ∀ a, A a 0 = 0)
    (hm : ∀ n < N, m (n + 1) = max (m n) (Finset.univ.fold max ⊥ fun j : Fin T => ((s (T * n + j) : ℝ) : EReal)))
    (hA : ∀ a, ∀ n < N, A a (n + 1) = Ideal.exp2 (m n - m (n + 1)) * A a n
      + ∑ j : Fin T, W a (T * n + j) * Ideal.exp2 (((s (T * n + j) : ℝ) : EReal) - m (n + 1))) :
    ∃ μ : ℝ, ∀ a, A a N = ∑ j : Fin M, W a j * Ideal.exp2 (((s j : ℝ) : EReal) - (μ : EReal)) := by
  have top (n) (hn : n < N) (hb : m n ≠ ⊤) : ∃ μ : ℝ, m (n + 1) = μ := by
    obtain ⟨ν, hν⟩ := fold_max_real hT ⊥ bot_ne_top (fun j : Fin T => ((s (T * n + j) : ℝ) : EReal)) fun j => ⟨_, rfl⟩
    rw [hm n hn, hν]
    induction hx : m n with
    | bot => exact ⟨ν, by simp⟩
    | coe r => exact ⟨max r ν, by exact_mod_cast rfl⟩
    | top => exact absurd hx hb
  have key : ∀ n < N, ∃ μ : ℝ, m (n + 1) = μ ∧ ∀ a, A a (n + 1)
      = ∑ j ∈ Finset.range (T * (n + 1)), W a j * Ideal.exp2 (((s j : ℝ) : EReal) - (μ : EReal)) := by
    intro n
    induction n with
    | zero =>
      intro hn
      obtain ⟨μ, hμ⟩ := top 0 hn (by rw [hm0]; exact bot_ne_top)
      refine ⟨μ, hμ, fun a => ?_⟩
      rw [hA a 0 hn, hA0 a, mul_zero, zero_add, hμ]
      simp only [Nat.mul_zero, Nat.zero_add, Nat.mul_one]
      rw [Fin.sum_univ_eq_sum_range (fun j => W a j * Ideal.exp2 (((s j : ℝ) : EReal) - (μ : EReal))) T]
    | succ n ih =>
      intro hn
      obtain ⟨ν, hν, ihA⟩ := ih (by omega)
      obtain ⟨μ, hμ⟩ := top (n + 1) hn (by rw [hν]; exact EReal.coe_ne_top ν)
      refine ⟨μ, hμ, fun a => ?_⟩
      rw [hA a (n + 1) hn, ihA a, hμ, hν, rescale, Nat.mul_succ T (n + 1), Finset.sum_range_add,
        ← Fin.sum_univ_eq_sum_range (fun j => W a (T * (n + 1) + j)
          * Ideal.exp2 (((s (T * (n + 1) + j) : ℝ) : EReal) - (μ : EReal))) T]
  obtain ⟨k, rfl⟩ : ∃ k, N = k + 1 := ⟨N - 1, by omega⟩
  obtain ⟨μ, -, h⟩ := key k (by omega)
  refine ⟨μ, fun a => ?_⟩
  rw [h a, hM, Fin.sum_univ_eq_sum_range (fun j => W a j * Ideal.exp2 (((s j : ℝ) : EReal) - (μ : EReal)))]

end Cert.Soft

end
-- ==== Proof.AttnIdealHeads.lean ====
/- The attention kernel's accumulators of a head, either branch, as weighted sums over all the keys. -/
module

public import proofs.«01_k».proof.Proof.AttnIdealPay
public import proofs.«01_k».proof.Proof.Chunks
public import Idealize.ShloMosaic.Lib.Pipeline.ReadBack

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic

/-- Chunk `n` of the keys. -/
def kc (K : Vec Ideal S1x1x8192x256 .bf16) (n : ℕ) : Vec Ideal S1x1x512x256 .bf16 :=
  View.ld K (Rect.unit (s := S1x1x8192x256) ![0, 0, 512 * (n % 16), 0] ![1, 1, 512, 256] (by
    intro a; have := Nat.mod_lt n (show 0 < 16 by decide); fin_cases a <;> simp <;> omega))

/-- Chunk `n` of the values. -/
def vc (V : Vec Ideal S1x1x144x8192 .bf16) (n : ℕ) : Vec Ideal S1x1x144x512 .bf16 :=
  View.ld V (Rect.unit (s := S1x1x144x8192) ![0, 0, 0, 512 * (n % 16)] ![1, 1, 144, 512] (by
    intro a; have := Nat.mod_lt n (show 0 < 16 by decide); fin_cases a <;> simp <;> omega))

theorem ld_off {S : Shape} {φ : EltTy} {size : Fin S.rank → ℕ} (B : S.Idx → Elt Ideal φ) {o o' : Fin S.rank → ℕ} (h : o = o')
    (i : ∀ a, o a + size a ≤ S.size a) (i' : ∀ a, o' a + size a ≤ S.size a) :
    View.ld B (Rect.unit o size i) = View.ld B (Rect.unit o' size i') := by
  subst h; rfl

/-- Head `g`'s queries. -/
def qc (Q : Vec Ideal S1x4x256x512 .bf16) (g : Fin 4) : Vec Ideal S1x1x256x512 .bf16 :=
  View.ld Q (Rect.unit (s := S1x4x256x512) ![0, g, 0, 0] ![1, 1, 256, 512] (by
    intro a; fin_cases a <;> simp <;> omega))

theorem kc_at (K : Vec Ideal S1x1x8192x256 .bf16) (n : ℕ) (j : Fin 512) (e : Fin 256) :
    kc K n (ix4 0 0 j e) = K (ix4 0 0 ⟨512 * (n % 16) + j, by omega⟩ e) := by
  pointwise [kc]

theorem vc_at (V : Vec Ideal S1x1x144x8192 .bf16) (n : ℕ) (a : Fin 144) (j : Fin 512) :
    vc V n (ix4 0 0 a j) = V (ix4 0 0 a ⟨512 * (n % 16) + j, by omega⟩) := by
  pointwise [vc]

theorem qc_at (Q : Vec Ideal S1x4x256x512 .bf16) (g : Fin 4) (e : Fin 256) (r : Fin 512) :
    qc Q g (ix4 0 0 e r) = Q (ix4 0 g e r) := by
  pointwise [qc]

variable (Q : Vec Ideal S1x4x256x512 .bf16) (K : Vec Ideal S1x1x8192x256 .bf16) (V : Vec Ideal S1x1x144x8192 .bf16)

/-- The score of query `r` of head `g` with key `j`. -/
def score (g : Fin 4) (r : Fin 512) (j : Fin 8192) : EReal :=
  dotq (fun e => Q (ix4 0 g e r)) (fun e => K (ix4 0 0 j e))

/-- The bounded form after `n` chunks. -/
def accB : ℕ → FVec Ideal S144x2048 .f32
  | 0 => k0_pay5
  | n + 1 => bstep (k0_pay4 (qc Q 0) (qc Q 1) (qc Q 2) (qc Q 3)) (accB n) (kc K n) (vc V n)

theorem accB_head0 (a : Fin 144) (r : Fin 512) : accB Q K V 16 (ix2 a ⟨r, by omega⟩)
    = ∑ j : Fin 8192, V (ix4 0 0 a j) * Ideal.exp2 (score Q K 0 r j) := by
  refine (Cert.Soft.chunks (N := 16) (T := 512) (M := 8192) rfl
    (fun j => if h : j < 8192 then V (ix4 0 0 a ⟨j, h⟩) * Ideal.exp2 (score Q K 0 r ⟨j, h⟩) else 0)
    (fun n => accB Q K V n (ix2 a ⟨r, by omega⟩)) (zero_at a _) fun n hn => ?_).trans ?_
  · show bstep _ _ _ _ _ = _
    rw [bstep_at]
    refine Ideal.add_congr rfl (Fin.sum_fin_congr fun j => ?_)
    have hm : n % 16 = n := Nat.mod_eq_of_lt hn
    rw [q_sum0, dif_pos (show 512 * n + (j : ℕ) < 8192 by omega), vc_at]
    simp only [kc_at, qc_at, hm]
    rfl
  · exact Fin.sum_fin_congr fun j => dif_pos j.isLt
theorem accB_head1 (a : Fin 144) (r : Fin 512) : accB Q K V 16 (ix2 a ⟨512 + r, by omega⟩)
    = ∑ j : Fin 8192, V (ix4 0 0 a j) * Ideal.exp2 (score Q K 1 r j) := by
  refine (Cert.Soft.chunks (N := 16) (T := 512) (M := 8192) rfl
    (fun j => if h : j < 8192 then V (ix4 0 0 a ⟨j, h⟩) * Ideal.exp2 (score Q K 1 r ⟨j, h⟩) else 0)
    (fun n => accB Q K V n (ix2 a ⟨512 + r, by omega⟩)) (zero_at a _) fun n hn => ?_).trans ?_
  · show bstep _ _ _ _ _ = _
    rw [bstep_at]
    refine Ideal.add_congr rfl (Fin.sum_fin_congr fun j => ?_)
    have hm : n % 16 = n := Nat.mod_eq_of_lt hn
    rw [q_sum1, dif_pos (show 512 * n + (j : ℕ) < 8192 by omega), vc_at]
    simp only [kc_at, qc_at, hm]
    rfl
  · exact Fin.sum_fin_congr fun j => dif_pos j.isLt
theorem accB_head2 (a : Fin 144) (r : Fin 512) : accB Q K V 16 (ix2 a ⟨1024 + r, by omega⟩)
    = ∑ j : Fin 8192, V (ix4 0 0 a j) * Ideal.exp2 (score Q K 2 r j) := by
  refine (Cert.Soft.chunks (N := 16) (T := 512) (M := 8192) rfl
    (fun j => if h : j < 8192 then V (ix4 0 0 a ⟨j, h⟩) * Ideal.exp2 (score Q K 2 r ⟨j, h⟩) else 0)
    (fun n => accB Q K V n (ix2 a ⟨1024 + r, by omega⟩)) (zero_at a _) fun n hn => ?_).trans ?_
  · show bstep _ _ _ _ _ = _
    rw [bstep_at]
    refine Ideal.add_congr rfl (Fin.sum_fin_congr fun j => ?_)
    have hm : n % 16 = n := Nat.mod_eq_of_lt hn
    rw [q_sum2, dif_pos (show 512 * n + (j : ℕ) < 8192 by omega), vc_at]
    simp only [kc_at, qc_at, hm]
    rfl
  · exact Fin.sum_fin_congr fun j => dif_pos j.isLt
theorem accB_head3 (a : Fin 144) (r : Fin 512) : accB Q K V 16 (ix2 a ⟨1536 + r, by omega⟩)
    = ∑ j : Fin 8192, V (ix4 0 0 a j) * Ideal.exp2 (score Q K 3 r j) := by
  refine (Cert.Soft.chunks (N := 16) (T := 512) (M := 8192) rfl
    (fun j => if h : j < 8192 then V (ix4 0 0 a ⟨j, h⟩) * Ideal.exp2 (score Q K 3 r ⟨j, h⟩) else 0)
    (fun n => accB Q K V n (ix2 a ⟨1536 + r, by omega⟩)) (zero_at a _) fun n hn => ?_).trans ?_
  · show bstep _ _ _ _ _ = _
    rw [bstep_at]
    refine Ideal.add_congr rfl (Fin.sum_fin_congr fun j => ?_)
    have hm : n % 16 = n := Nat.mod_eq_of_lt hn
    rw [q_sum3, dif_pos (show 512 * n + (j : ℕ) < 8192 by omega), vc_at]
    simp only [kc_at, qc_at, hm]
    rfl
  · exact Fin.sum_fin_congr fun j => dif_pos j.isLt

/-- The online form's accumulators, from its recursion over the chunks. -/
theorem online_acc (g : Fin 4) (r : Fin 512) (st : ℕ → FVec Ideal S1x512 .f32 × FVec Ideal S144x512 .f32)
    (σ : Fin 8192 → ℝ) (hσ : ∀ j, score Q K g r j = (σ j : EReal))
    (h0 : (st 0).1 (ix2 0 r) = ⊥) (h0' : ∀ a, (st 0).2 (ix2 a r) = 0)
    (hm : ∀ n < 16, (st (n + 1)).1 (ix2 0 r) = stepM (qc Q g) (kc K n) r ((st n).1 (ix2 0 r)))
    (ha : ∀ a, ∀ n < 16, (st (n + 1)).2 (ix2 a r) = stepA (qc Q g) (kc K n) (vc V n) a r ((st n).1 (ix2 0 r))
      (stepM (qc Q g) (kc K n) r ((st n).1 (ix2 0 r))) ((st n).2 (ix2 a r))) :
    ∃ μ : ℝ, ∀ a, (st 16).2 (ix2 a r)
      = ∑ j : Fin 8192, V (ix4 0 0 a j) * Ideal.exp2 ((σ j : EReal) - (μ : EReal)) := by
  have hs (n) (hn : n < 16) (j : Fin 512) : dotq (fun e => qc Q g (ix4 0 0 e r)) (fun e => kc K n (ix4 0 0 j e))
      = ((if h : 512 * n + j < 8192 then σ ⟨512 * n + j, h⟩ else 0 : ℝ) : EReal) := by
    have hm : n % 16 = n := Nat.mod_eq_of_lt hn
    rw [dif_pos (show 512 * n + (j : ℕ) < 8192 by omega), ← hσ]
    simp only [kc_at, qc_at, hm]
    rfl
  obtain ⟨μ, h⟩ := Cert.Soft.online (N := 16) (T := 512) (M := 8192) rfl (by decide) (by decide)
    (fun j => if h : j < 8192 then σ ⟨j, h⟩ else 0)
    (fun (a : Fin 144) j => if h : j < 8192 then V (ix4 0 0 a ⟨j, h⟩) else 0)
    (fun n => (st n).1 (ix2 0 r)) (fun a n => (st n).2 (ix2 a r)) h0 h0'
    (fun n hn => by
      simp only [hm n hn, stepM, hs n hn])
    (fun a n hn => by
      have hmod : n % 16 = n := Nat.mod_eq_of_lt hn
      simp only [ha a n hn, ← hm n hn]
      simp only [stepA, hs n hn, vc_at, hmod]
      refine Ideal.add_congr rfl (Fin.sum_fin_congr fun j => ?_)
      rw [dif_pos (show 512 * n + (j : ℕ) < 8192 by omega), dif_pos (show 512 * n + (j : ℕ) < 8192 by omega)])
  refine ⟨μ, fun a => (h a).trans (Fin.sum_fin_congr fun j => ?_)⟩
  rw [dif_pos j.isLt, dif_pos j.isLt]

theorem trip0 (𝒱 : Variants) (c : Dev nD) (bd : Option 𝒱.V) (i : grid0.Coords) (arg3 : Memref sig .tc .vmem S1x4x256x512 .bf16) (harg3 : arg3.IsWhole) (arg4 : Memref sig .tc .vmem S1x1x8192x256 .bf16) (harg4 : arg4.IsWhole) (arg5 : Memref sig .tc .vmem S1x1x144x8192 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x512x512 .bf16) (harg8 : arg8.IsWhole) (arg9 : Memref sig .tc .vmem S4x144x512 .f32) (harg9 : arg9.IsWhole) (v64 : Vec Ideal S1x1x256x512 .bf16) (k : Fin k0_t1_loop.trips) (acc : FVec Ideal S1x512 .f32 × FVec Ideal S144x512 .f32) :
    tripR_k0_t1 (F := Ideal) 𝒱 c bd i arg3 harg3 arg4 harg4 arg5 harg5 arg6 harg6 arg7 harg7 arg8 harg8 arg9 harg9 v64 (harg4.unread K) (harg5.unread V) k acc
      = (k0_pay21 v64 acc.1 (kc K k), k0_pay22 v64 acc.1 acc.2 (kc K k) (vc V k)) := by
  have hk : (k : ℕ) % 16 = k := Nat.mod_eq_of_lt (Nat.lt_of_lt_of_le k.isLt k0_t1_abs.2.1)
  unfold tripR_k0_t1 trip_k0_t1
  dsimp only
  have e1 : kc K k = View.ld K (Rect.unit (s := S1x1x8192x256) (k0_off3 k) S1x1x512x256.size (k0_off3_inb k)) :=
    ld_off K (by rw [k0_off3_eq, hk]) _ _
  have e2 : vc V k = View.ld V (Rect.unit (s := S1x1x144x8192) (k0_off4 k) S1x1x144x512.size (k0_off4_inb k)) :=
    ld_off V (by rw [k0_off4_eq, hk]) _ _
  rw [e1, e2]
  simp only [View.readAt_eq_ld, Memref.IsWhole.read_unread]

theorem trip1 (𝒱 : Variants) (c : Dev nD) (bd : Option 𝒱.V) (i : grid0.Coords) (arg3 : Memref sig .tc .vmem S1x4x256x512 .bf16) (harg3 : arg3.IsWhole) (arg4 : Memref sig .tc .vmem S1x1x8192x256 .bf16) (harg4 : arg4.IsWhole) (arg5 : Memref sig .tc .vmem S1x1x144x8192 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x512x512 .bf16) (harg8 : arg8.IsWhole) (arg9 : Memref sig .tc .vmem S4x144x512 .f32) (harg9 : arg9.IsWhole) (v80 : Vec Ideal S1x1x256x512 .bf16) (k : Fin k0_t2_loop.trips) (acc : FVec Ideal S1x512 .f32 × FVec Ideal S144x512 .f32) :
    tripR_k0_t2 (F := Ideal) 𝒱 c bd i arg3 harg3 arg4 harg4 arg5 harg5 arg6 harg6 arg7 harg7 arg8 harg8 arg9 harg9 v80 (harg4.unread K) (harg5.unread V) k acc
      = (k0_pay27 v80 acc.1 (kc K k), k0_pay28 v80 acc.1 acc.2 (kc K k) (vc V k)) := by
  have hk : (k : ℕ) % 16 = k := Nat.mod_eq_of_lt (Nat.lt_of_lt_of_le k.isLt k0_t2_abs.2.1)
  unfold tripR_k0_t2 trip_k0_t2
  dsimp only
  have e1 : kc K k = View.ld K (Rect.unit (s := S1x1x8192x256) (k0_off5 k) S1x1x512x256.size (k0_off5_inb k)) :=
    ld_off K (by rw [k0_off5_eq, hk]) _ _
  have e2 : vc V k = View.ld V (Rect.unit (s := S1x1x144x8192) (k0_off6 k) S1x1x144x512.size (k0_off6_inb k)) :=
    ld_off V (by rw [k0_off6_eq, hk]) _ _
  rw [e1, e2]
  simp only [View.readAt_eq_ld, Memref.IsWhole.read_unread]

theorem trip2 (𝒱 : Variants) (c : Dev nD) (bd : Option 𝒱.V) (i : grid0.Coords) (arg3 : Memref sig .tc .vmem S1x4x256x512 .bf16) (harg3 : arg3.IsWhole) (arg4 : Memref sig .tc .vmem S1x1x8192x256 .bf16) (harg4 : arg4.IsWhole) (arg5 : Memref sig .tc .vmem S1x1x144x8192 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x512x512 .bf16) (harg8 : arg8.IsWhole) (arg9 : Memref sig .tc .vmem S4x144x512 .f32) (harg9 : arg9.IsWhole) (v92_1 : FVec Ideal S144x512 .f32) (v96 : Vec Ideal S1x1x256x512 .bf16) (k : Fin k0_t3_loop.trips) (acc : FVec Ideal S1x512 .f32 × FVec Ideal S144x512 .f32) :
    tripR_k0_t3 (F := Ideal) 𝒱 c bd i arg3 harg3 arg4 harg4 arg5 harg5 arg6 harg6 arg7 harg7 arg8 harg8 arg9 harg9 v92_1 v96 (harg4.unread K) (harg5.unread V) k acc
      = (k0_pay33 v96 acc.1 (kc K k), k0_pay34 v96 acc.1 acc.2 (kc K k) (vc V k)) := by
  have hk : (k : ℕ) % 16 = k := Nat.mod_eq_of_lt (Nat.lt_of_lt_of_le k.isLt k0_t3_abs.2.1)
  unfold tripR_k0_t3 trip_k0_t3
  dsimp only
  have e1 : kc K k = View.ld K (Rect.unit (s := S1x1x8192x256) (k0_off7 k) S1x1x512x256.size (k0_off7_inb k)) :=
    ld_off K (by rw [k0_off7_eq, hk]) _ _
  have e2 : vc V k = View.ld V (Rect.unit (s := S1x1x144x8192) (k0_off8 k) S1x1x144x512.size (k0_off8_inb k)) :=
    ld_off V (by rw [k0_off8_eq, hk]) _ _
  rw [e1, e2]
  simp only [View.readAt_eq_ld, Memref.IsWhole.read_unread]

theorem trip3 (𝒱 : Variants) (c : Dev nD) (bd : Option 𝒱.V) (i : grid0.Coords) (arg3 : Memref sig .tc .vmem S1x4x256x512 .bf16) (harg3 : arg3.IsWhole) (arg4 : Memref sig .tc .vmem S1x1x8192x256 .bf16) (harg4 : arg4.IsWhole) (arg5 : Memref sig .tc .vmem S1x1x144x8192 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x512x512 .bf16) (harg8 : arg8.IsWhole) (arg9 : Memref sig .tc .vmem S4x144x512 .f32) (harg9 : arg9.IsWhole) (v92_1 : FVec Ideal S144x512 .f32) (v112 : Vec Ideal S1x1x256x512 .bf16) (k : Fin k0_t4_loop.trips) (acc : FVec Ideal S1x512 .f32 × FVec Ideal S144x512 .f32) :
    tripR_k0_t4 (F := Ideal) 𝒱 c bd i arg3 harg3 arg4 harg4 arg5 harg5 arg6 harg6 arg7 harg7 arg8 harg8 arg9 harg9 v92_1 v112 (harg4.unread K) (harg5.unread V) k acc
      = (k0_pay39 v112 acc.1 (kc K k), k0_pay40 v112 acc.1 acc.2 (kc K k) (vc V k)) := by
  have hk : (k : ℕ) % 16 = k := Nat.mod_eq_of_lt (Nat.lt_of_lt_of_le k.isLt k0_t4_abs.2.1)
  unfold tripR_k0_t4 trip_k0_t4
  dsimp only
  have e1 : kc K k = View.ld K (Rect.unit (s := S1x1x8192x256) (k0_off9 k) S1x1x512x256.size (k0_off9_inb k)) :=
    ld_off K (by rw [k0_off9_eq, hk]) _ _
  have e2 : vc V k = View.ld V (Rect.unit (s := S1x1x144x8192) (k0_off10 k) S1x1x144x512.size (k0_off10_inb k)) :=
    ld_off V (by rw [k0_off10_eq, hk]) _ _
  rw [e1, e2]
  simp only [View.readAt_eq_ld, Memref.IsWhole.read_unread]

end Cert.AttnIdeal.Hand

end
-- ==== Proof.AttnIdealOutB.lean ====
/- The bounded branch of the attention kernel: the block a grid point leaves, at an index. -/
module

public import proofs.«01_k».proof.Proof.AttnIdealHeads

@[expose] public section
set_option maxRecDepth 16384
noncomputable section
namespace Cert.AttnIdeal.Hand
open Cert.AttnIdeal Cert.AttnIdeal.Gen
open Idealize.ShloMosaic Idealize.ShloMosaic.TcCoe Idealize.ShloMosaic.Tactic
open Idealize.ShloMosaic.Pipeline (Dat Cfg Window)
variable (m : (ℓ : Loc nD τ sig) → Buf (Elt Ideal) ℓ)

/-- The weighted sum of value row `a`, nothing subtracted. -/
def sumB (Q : Vec Ideal S1x4x256x512 .bf16) (K : Vec Ideal S1x1x8192x256 .bf16) (V : Vec Ideal S1x1x144x8192 .bf16)
    (g : Fin 4) (a : Fin 144) (r : Fin 512) : EReal :=
  ∑ j : Fin 8192, V (ix4 0 0 a j) * Ideal.exp2 (score Q K g r j)

set_option maxHeartbeats 1600000 in
theorem outB_eq (c : Dev nD) (t : Fin cfg0.N) (hb : bounded (iblk m c 3 t) (iblk m c 4 t)) (y : S1x512x512.Idx)
    (g : Fin 4) (d : Fin 128) (r : Fin 512) (hr : (y 1 : ℕ) = r) (hd : (y 2 : ℕ) = 128 * g + d) :
    outB m c t hb y = Ideal.div (sumB (iblk m c 0 t) (iblk m c 1 t) (iblk m c 2 t) g ⟨d, by omega⟩ r)
      (sumB (iblk m c 0 t) (iblk m c 1 t) (iblk m c 2 t) g 128 r) := by
  unfold outB runB runBounded
  frame_open
  simp (disch := decide) only [↓ View.readCov_skip, ↓ View.readCov_cons_toLoadRect]
  frame_out
  canon_tiles x h
  case piece0 =>
    obtain rfl : g = 3 := Fin.ext (by omega)
    obtain rfl : x = ix3 0 r d := by blk_ext
    refine (fin3 _ r d).trans (congrArg₂ Ideal.div ?_ ?_)
    · exact (cut3 _ _ _ _ _ r).trans (accB_head3 (iblk m c 0 t) (iblk m c 1 t) (iblk m c 2 t) _ r)
    · exact (cut3 _ _ _ _ _ r).trans (accB_head3 (iblk m c 0 t) (iblk m c 1 t) (iblk m c 2 t) _ r)
  case piece1 =>
    obtain rfl : g = 2 := Fin.ext (by omega)
    obtain rfl : x = ix3 0 r d := by blk_ext
    refine (fin2 _ r d).trans (congrArg₂ Ideal.div ?_ ?_)
    · exact (cut2 _ _ _ _ _ r).trans (accB_head2 (iblk m c 0 t) (iblk m c 1 t) (iblk m c 2 t) _ r)
    · exact (cut2 _ _ _ _ _ r).trans (accB_head2 (iblk m c 0 t) (iblk m c 1 t) (iblk m c 2 t) _ r)
  case piece2 =>
    obtain rfl : g = 1 := Fin.ext (by omega)
    obtain rfl : x = ix3 0 r d := by blk_ext
    refine (fin1 _ r d).trans (congrArg₂ Ideal.div ?_ ?_)
    · exact (cut1 _ _ _ _ _ r).trans (accB_head1 (iblk m c 0 t) (iblk m c 1 t) (iblk m c 2 t) _ r)
    · exact (cut1 _ _ _ _ _ r).trans (accB_head1 (iblk m c 0 t) (iblk m c 1 t) (iblk m c 2 t) _ r)
  case piece3 =>
    obtain rfl : g = 0 := Fin.ext (by omega)
    obtain rfl : x = ix3 0 r d := by blk_ext
    refine (fin0 _ r d).trans (congrArg₂ Ideal.div ?_ ?_)
    · exact (cut0 _ _ _ _ _ r).trans (accB_head0 (iblk m c 0 t) (iblk m c 1 t) (iblk m c 2 t) _ r)
    · exact (cut0 _ _ _ _ _ r).trans (accB_head0 (iblk m c 0 t) (iblk m c 1 t) (iblk m c 2 t) _ r)
end Cert.AttnIdeal.Hand
end
-- ==== Proof.AttnIdealOutO.lean ====
/- The online branch of the attention kernel: the block a grid point leaves, at an index. -/
module

public import proofs.«01_k».proof.Proof.AttnIdealHeads

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.ShloMosaic.Pipeline (Dat Cfg Window)

variable (Q : Vec Ideal S1x4x256x512 .bf16) (K : Vec Ideal S1x1x8192x256 .bf16) (V : Vec Ideal S1x1x144x8192 .bf16)

/-- The weighted sum of value row `a` at the scores `σ`, `μ` subtracted. -/
def sumO (V : Vec Ideal S1x1x144x8192 .bf16) (σ : Fin 8192 → ℝ) (μ : ℝ) (a : Fin 144) : EReal :=
  ∑ j : Fin 8192, V (ix4 0 0 a j) * Ideal.exp2 ((σ j : EReal) - (μ : EReal))

theorem loop0 (𝒱 : Variants) (c : Dev nD) (bd : Option 𝒱.V) (i : grid0.Coords) (arg3 : Memref sig .tc .vmem S1x4x256x512 .bf16) (harg3 : arg3.IsWhole) (arg4 : Memref sig .tc .vmem S1x1x8192x256 .bf16) (harg4 : arg4.IsWhole) (arg5 : Memref sig .tc .vmem S1x1x144x8192 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x512x512 .bf16) (harg8 : arg8.IsWhole) (arg9 : Memref sig .tc .vmem S4x144x512 .f32) (harg9 : arg9.IsWhole)
    (r : Fin 512) (σ : Fin 8192 → ℝ) (hσ : ∀ j, score Q K 0 r j = (σ j : EReal)) :
    ∃ μ : ℝ, ∀ a, (st_k0_t1 (F := Ideal) 𝒱 c bd i arg3 harg3 arg4 harg4 arg5 harg5 arg6 harg6 arg7 harg7 arg8 harg8 arg9 harg9 (qc Q 0) (harg4.unread K) (harg5.unread V) (k0_pay18, k0_pay19) 16).2 (ix2 a r) = sumO V σ μ a := by
  have ht : k0_t1_loop.trips = 16 := by decide
  have hs (n : ℕ) (hn : n < 16) := (st_k0_t1_succ (F := Ideal) 𝒱 c bd i arg3 harg3 arg4 harg4 arg5 harg5 arg6 harg6 arg7 harg7 arg8 harg8 arg9 harg9 (qc Q 0) (harg4.unread K) (harg5.unread V)
    (k0_pay18, k0_pay19) ⟨n, by omega⟩).trans (trip0 K V 𝒱 c bd i arg3 harg3 arg4 harg4 arg5 harg5 arg6 harg6 arg7 harg7 arg8 harg8 arg9 harg9 (qc Q 0) ⟨n, by omega⟩ _)
  refine online_acc Q K V 0 r (fun n => st_k0_t1 (F := Ideal) 𝒱 c bd i arg3 harg3 arg4 harg4 arg5 harg5 arg6 harg6 arg7 harg7 arg8 harg8 arg9 harg9 (qc Q 0) (harg4.unread K) (harg5.unread V) (k0_pay18, k0_pay19) n) σ hσ (start r 0).1.1 (fun a => (start r a).1.2)
    (fun n hn => ?_) (fun a n hn => ?_)
  · exact (congrArg (fun p => p.1 (ix2 0 r)) (hs n hn)).trans (max0 _ _ _ r)
  · exact (congrArg (fun p => p.2 (ix2 a r)) (hs n hn)).trans (acc0 _ _ _ _ _ a r)

theorem loop1 (𝒱 : Variants) (c : Dev nD) (bd : Option 𝒱.V) (i : grid0.Coords) (arg3 : Memref sig .tc .vmem S1x4x256x512 .bf16) (harg3 : arg3.IsWhole) (arg4 : Memref sig .tc .vmem S1x1x8192x256 .bf16) (harg4 : arg4.IsWhole) (arg5 : Memref sig .tc .vmem S1x1x144x8192 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x512x512 .bf16) (harg8 : arg8.IsWhole) (arg9 : Memref sig .tc .vmem S4x144x512 .f32) (harg9 : arg9.IsWhole)
    (r : Fin 512) (σ : Fin 8192 → ℝ) (hσ : ∀ j, score Q K 1 r j = (σ j : EReal)) :
    ∃ μ : ℝ, ∀ a, (st_k0_t2 (F := Ideal) 𝒱 c bd i arg3 harg3 arg4 harg4 arg5 harg5 arg6 harg6 arg7 harg7 arg8 harg8 arg9 harg9 (qc Q 1) (harg4.unread K) (harg5.unread V) (k0_pay24, k0_pay25) 16).2 (ix2 a r) = sumO V σ μ a := by
  have ht : k0_t2_loop.trips = 16 := by decide
  have hs (n : ℕ) (hn : n < 16) := (st_k0_t2_succ (F := Ideal) 𝒱 c bd i arg3 harg3 arg4 harg4 arg5 harg5 arg6 harg6 arg7 harg7 arg8 harg8 arg9 harg9 (qc Q 1) (harg4.unread K) (harg5.unread V)
    (k0_pay24, k0_pay25) ⟨n, by omega⟩).trans (trip1 K V 𝒱 c bd i arg3 harg3 arg4 harg4 arg5 harg5 arg6 harg6 arg7 harg7 arg8 harg8 arg9 harg9 (qc Q 1) ⟨n, by omega⟩ _)
  refine online_acc Q K V 1 r (fun n => st_k0_t2 (F := Ideal) 𝒱 c bd i arg3 harg3 arg4 harg4 arg5 harg5 arg6 harg6 arg7 harg7 arg8 harg8 arg9 harg9 (qc Q 1) (harg4.unread K) (harg5.unread V) (k0_pay24, k0_pay25) n) σ hσ (start r 0).2.1.1 (fun a => (start r a).2.1.2)
    (fun n hn => ?_) (fun a n hn => ?_)
  · exact (congrArg (fun p => p.1 (ix2 0 r)) (hs n hn)).trans (max1 _ _ _ r)
  · exact (congrArg (fun p => p.2 (ix2 a r)) (hs n hn)).trans (acc1 _ _ _ _ _ a r)

theorem loop2 (𝒱 : Variants) (c : Dev nD) (bd : Option 𝒱.V) (i : grid0.Coords) (arg3 : Memref sig .tc .vmem S1x4x256x512 .bf16) (harg3 : arg3.IsWhole) (arg4 : Memref sig .tc .vmem S1x1x8192x256 .bf16) (harg4 : arg4.IsWhole) (arg5 : Memref sig .tc .vmem S1x1x144x8192 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x512x512 .bf16) (harg8 : arg8.IsWhole) (arg9 : Memref sig .tc .vmem S4x144x512 .f32) (harg9 : arg9.IsWhole) (v92_1 : FVec Ideal S144x512 .f32)
    (r : Fin 512) (σ : Fin 8192 → ℝ) (hσ : ∀ j, score Q K 2 r j = (σ j : EReal)) :
    ∃ μ : ℝ, ∀ a, (st_k0_t3 (F := Ideal) 𝒱 c bd i arg3 harg3 arg4 harg4 arg5 harg5 arg6 harg6 arg7 harg7 arg8 harg8 arg9 harg9 v92_1 (qc Q 2) (harg4.unread K) (harg5.unread V) (k0_pay30, k0_pay31) 16).2 (ix2 a r) = sumO V σ μ a := by
  have ht : k0_t3_loop.trips = 16 := by decide
  have hs (n : ℕ) (hn : n < 16) := (st_k0_t3_succ (F := Ideal) 𝒱 c bd i arg3 harg3 arg4 harg4 arg5 harg5 arg6 harg6 arg7 harg7 arg8 harg8 arg9 harg9 v92_1 (qc Q 2) (harg4.unread K) (harg5.unread V)
    (k0_pay30, k0_pay31) ⟨n, by omega⟩).trans (trip2 K V 𝒱 c bd i arg3 harg3 arg4 harg4 arg5 harg5 arg6 harg6 arg7 harg7 arg8 harg8 arg9 harg9 v92_1 (qc Q 2) ⟨n, by omega⟩ _)
  refine online_acc Q K V 2 r (fun n => st_k0_t3 (F := Ideal) 𝒱 c bd i arg3 harg3 arg4 harg4 arg5 harg5 arg6 harg6 arg7 harg7 arg8 harg8 arg9 harg9 v92_1 (qc Q 2) (harg4.unread K) (harg5.unread V) (k0_pay30, k0_pay31) n) σ hσ (start r 0).2.2.1.1 (fun a => (start r a).2.2.1.2)
    (fun n hn => ?_) (fun a n hn => ?_)
  · exact (congrArg (fun p => p.1 (ix2 0 r)) (hs n hn)).trans (max2 _ _ _ r)
  · exact (congrArg (fun p => p.2 (ix2 a r)) (hs n hn)).trans (acc2 _ _ _ _ _ a r)

theorem loop3 (𝒱 : Variants) (c : Dev nD) (bd : Option 𝒱.V) (i : grid0.Coords) (arg3 : Memref sig .tc .vmem S1x4x256x512 .bf16) (harg3 : arg3.IsWhole) (arg4 : Memref sig .tc .vmem S1x1x8192x256 .bf16) (harg4 : arg4.IsWhole) (arg5 : Memref sig .tc .vmem S1x1x144x8192 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x512x512 .bf16) (harg8 : arg8.IsWhole) (arg9 : Memref sig .tc .vmem S4x144x512 .f32) (harg9 : arg9.IsWhole) (v92_1 : FVec Ideal S144x512 .f32)
    (r : Fin 512) (σ : Fin 8192 → ℝ) (hσ : ∀ j, score Q K 3 r j = (σ j : EReal)) :
    ∃ μ : ℝ, ∀ a, (st_k0_t4 (F := Ideal) 𝒱 c bd i arg3 harg3 arg4 harg4 arg5 harg5 arg6 harg6 arg7 harg7 arg8 harg8 arg9 harg9 v92_1 (qc Q 3) (harg4.unread K) (harg5.unread V) (k0_pay36, k0_pay37) 16).2 (ix2 a r) = sumO V σ μ a := by
  have ht : k0_t4_loop.trips = 16 := by decide
  have hs (n : ℕ) (hn : n < 16) := (st_k0_t4_succ (F := Ideal) 𝒱 c bd i arg3 harg3 arg4 harg4 arg5 harg5 arg6 harg6 arg7 harg7 arg8 harg8 arg9 harg9 v92_1 (qc Q 3) (harg4.unread K) (harg5.unread V)
    (k0_pay36, k0_pay37) ⟨n, by omega⟩).trans (trip3 K V 𝒱 c bd i arg3 harg3 arg4 harg4 arg5 harg5 arg6 harg6 arg7 harg7 arg8 harg8 arg9 harg9 v92_1 (qc Q 3) ⟨n, by omega⟩ _)
  refine online_acc Q K V 3 r (fun n => st_k0_t4 (F := Ideal) 𝒱 c bd i arg3 harg3 arg4 harg4 arg5 harg5 arg6 harg6 arg7 harg7 arg8 harg8 arg9 harg9 v92_1 (qc Q 3) (harg4.unread K) (harg5.unread V) (k0_pay36, k0_pay37) n) σ hσ (start r 0).2.2.2.1 (fun a => (start r a).2.2.2.2)
    (fun n hn => ?_) (fun a n hn => ?_)
  · exact (congrArg (fun p => p.1 (ix2 0 r)) (hs n hn)).trans (max3 _ _ _ r)
  · exact (congrArg (fun p => p.2 (ix2 a r)) (hs n hn)).trans (acc3 _ _ _ _ _ a r)

/-- Rows divided by the row of ones are the values by their shares. -/
theorem quot_of (A : Vec Ideal S1x144x512 .f32) (σ : Fin 8192 → ℝ) (hone : ∀ j, V (ix4 0 0 128 j) = 1) (d : Fin 128) (r : Fin 512)
    (h : ∃ μ : ℝ, ∀ a, A (ix3 0 a r) = sumO V σ μ a) :
    Ideal.div (A (ix3 0 ⟨d, by omega⟩ r)) (A (ix3 0 128 r))
      = ∑ j : Fin 8192, V (ix4 0 0 ⟨d, by omega⟩ j) * (Cert.Soft.share σ j : EReal) := by
  obtain ⟨μ, h⟩ := h
  rw [h, h]
  refine Eq.trans (congrArg₂ Ideal.div rfl ?_) (Cert.Soft.quotient (by decide) _ σ μ)
  exact Fin.sum_fin_congr fun j => by rw [hone, one_mul]

variable (m : (ℓ : Loc nD τ sig) → Buf (Elt Ideal) ℓ)

set_option maxHeartbeats 1600000 in
theorem outO_eq (c : Dev nD) (t : Fin cfg0.N) (ho : ¬ bounded (iblk m c 3 t) (iblk m c 4 t)) (y : S1x512x512.Idx)
    (g : Fin 4) (d : Fin 128) (r : Fin 512) (hr : (y 1 : ℕ) = r) (hd : (y 2 : ℕ) = 128 * g + d)
    (σ : Fin 8192 → ℝ) (hσ : ∀ j, score (iblk m c 0 t) (iblk m c 1 t) g r j = (σ j : EReal))
    (hone : ∀ j, iblk m c 2 t (ix4 0 0 128 j : S1x1x144x8192.Idx) = (1 : EReal)) :
    outO m c t ho y = ∑ j : Fin 8192, (show Vec Ideal S1x1x144x8192 .bf16 from iblk m c 2 t) (ix4 0 0 ⟨d, by omega⟩ j)
      * (Cert.Soft.share σ j : EReal) := by
  unfold outO runO runOnline
  frame_open
  simp (disch := decide) only [↓ View.readCov_skip, ↓ View.readCov_cons_toLoadRect]
  frame_out
  canon_tiles x h
  case piece0 =>
    obtain rfl : g = 3 := Fin.ext (by omega)
    obtain rfl : x = ix3 0 r d := by blk_ext
    refine (fin3 _ r d).trans (quot_of (iblk m c 2 t) _ σ hone d r ?_)
    exact Exists.imp (fun μ h a => ((put _ a r).2.2.2).trans (h a)) (loop3 (iblk m c 0 t) (iblk m c 1 t) (iblk m c 2 t) _ _ _ _ _ _ _ _ _ _ _ _ _ _ _ _ _ _ _ r σ hσ)
  case piece1 =>
    obtain rfl : g = 2 := Fin.ext (by omega)
    obtain rfl : x = ix3 0 r d := by blk_ext
    refine (fin2 _ r d).trans (quot_of (iblk m c 2 t) _ σ hone d r ?_)
    exact Exists.imp (fun μ h a => ((put _ a r).2.2.1).trans (h a)) (loop2 (iblk m c 0 t) (iblk m c 1 t) (iblk m c 2 t) _ _ _ _ _ _ _ _ _ _ _ _ _ _ _ _ _ _ _ r σ hσ)
  case piece2 =>
    obtain rfl : g = 1 := Fin.ext (by omega)
    obtain rfl : x = ix3 0 r d := by blk_ext
    refine (fin1 _ r d).trans (quot_of (iblk m c 2 t) _ σ hone d r ?_)
    exact Exists.imp (fun μ h a => ((put _ a r).2.1).trans (h a)) (loop1 (iblk m c 0 t) (iblk m c 1 t) (iblk m c 2 t) _ _ _ _ _ _ _ _ _ _ _ _ _ _ _ _ _ _ r σ hσ)
  case piece3 =>
    obtain rfl : g = 0 := Fin.ext (by omega)
    obtain rfl : x = ix3 0 r d := by blk_ext
    refine (fin0 _ r d).trans (quot_of (iblk m c 2 t) _ σ hone d r ?_)
    exact Exists.imp (fun μ h a => ((put _ a r).1).trans (h a)) (loop0 (iblk m c 0 t) (iblk m c 1 t) (iblk m c 2 t) _ _ _ _ _ _ _ _ _ _ _ _ _ _ _ _ _ _ r σ hσ)

end Cert.AttnIdeal.Hand

end
-- ==== Proof.AttnIdealHost.lean ====
/- What the host prepares for the attention kernel: its three windows' arrays, at an index. -/
module

public import proofs.«01_k».proof.Proof.AttnIdealPay
public import Idealize.ShloMosaic.Lib.Claim

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Cert.AttnIdeal.Facts

/-- The query window's array: the queries transposed, then a row of ones and rows of zeros. -/
def qArr (x : FVec Ideal S2x8192x8x128 .f32) : FVec Ideal S2x8x256x8192 .bf16 :=
  concatenate S2x8x256x8192 2
    [⟨S2x8x128x8192, truncf .bf16 (transpose S2x8x128x8192 [0, 2, 3, 1] x transposes_S2x8192x8x128_S2x8x128x8192_0_2_3_1) bitsLt_bf16_f32⟩,
     ⟨S2x8x128x8192, truncf .bf16 (uitofp (F := Ideal) .f32 (cmpi .eq (iotaInDim S2x8x128x8192 32 2) (broadcastInDim S2x8x128x8192 ![] bcast_S_S2x8x128x8192 (constantI S_ 32 0#32)))) bitsLt_bf16_f32⟩]
    concatenates_S2x8x128x8192_S2x8x128x8192_S2x8x256x8192_d2

/-- The bound on the scores' size that the host computes from the gains. -/
def shiftArr (a b : FVec Ideal S1x128 .f32) : FVec Ideal S_ .f32 :=
  mulf (mulf (constant S_ .f32 0x4183E235#32) (Host.reduce FloatOps.maximumf (Host.absf a) (constant S_ .f32 0xFF800000#32) reducesTo_S1x128_S_d0_1 h_S_))
    (Host.reduce FloatOps.maximumf (Host.absf b) (constant S_ .f32 0xFF800000#32) reducesTo_S1x128_S_d0_1 h_S_)

/-- The key window's array: the keys transposed, then a column holding minus the bound and columns of zeros. -/
def kArr (x : FVec Ideal S2x8192x2x128 .f32) (a b : FVec Ideal S1x128 .f32) : FVec Ideal S2x2x8192x256 .bf16 :=
  concatenate S2x2x8192x256 3
    [⟨S2x2x8192x128, truncf .bf16 (transpose S2x2x8192x128 [0, 2, 1, 3] x transposes_S2x8192x2x128_S2x2x8192x128_0_2_1_3) bitsLt_bf16_f32⟩,
     ⟨S2x2x8192x128, truncf .bf16 (select (cmpi .eq (iotaInDim S2x2x8192x128 32 3) (broadcastInDim S2x2x8192x128 ![] bcast_S_S2x2x8192x128 (constantI S_ 32 0#32)))
       (broadcastInDim S2x2x8192x128 ![] bcast_S_S2x2x8192x128 (Host.negf (shiftArr a b)))
       (broadcastInDim S2x2x8192x128 ![] bcast_S_S2x2x8192x128 (constant (F := Ideal) S_ .f32 0x00000000#32))) bitsLt_bf16_f32⟩]
    concatenates_S2x2x8192x128_S2x2x8192x128_S2x2x8192x256_d3

/-- The value window's array: the values transposed, then a row of ones and rows of zeros. -/
def vArr (x : FVec Ideal S2x8192x2x128 .f32) : FVec Ideal S2x2x144x8192 .bf16 :=
  concatenate S2x2x144x8192 2
    [⟨S2x2x128x8192, truncf .bf16 (transpose S2x2x128x8192 [0, 2, 3, 1] x transposes_S2x8192x2x128_S2x2x128x8192_0_2_3_1) bitsLt_bf16_f32⟩,
     ⟨S2x2x16x8192, truncf .bf16 (uitofp (F := Ideal) .f32 (cmpi .eq (iotaInDim S2x2x16x8192 32 2) (broadcastInDim S2x2x16x8192 ![] bcast_S_S2x2x16x8192 (constantI S_ 32 0#32)))) bitsLt_bf16_f32⟩]
    concatenates_S2x2x128x8192_S2x2x16x8192_S2x2x144x8192_d2

/-- The indicator that a counter is zero, as a real number. -/
theorem flag (n : ℕ) (hn : n < 4294967296) :
    FloatOps.uitofp (F := Ideal) .f32 (IntOp.cmpi .eq (BitVec.ofNat 32 n) 0#32) = if n = 0 then (1 : EReal) else 0 := by
  by_cases h : n = 0
  · subst h; simp [FloatOps.uitofp, IntOp.cmpi]
  · have h' : BitVec.ofNat 32 n ≠ 0#32 := fun e => h (by
      have := congrArg BitVec.toNat e; simp at this; omega)
    simp [FloatOps.uitofp, IntOp.cmpi, h, h']

theorem qArr_at (x : FVec Ideal S2x8192x8x128 .f32) (b : Fin 2) (h : Fin 8) (e : Fin 256) (r : Fin 8192) :
    qArr x (ix4 b h e r) = if he : (e : ℕ) < 128 then x (ix4 b r h ⟨e, he⟩) else if (e : ℕ) - 128 = 0 then 1 else 0 := by
  pointwise [qArr]
  rw [flag _ (by omega)]

theorem vArr_at (x : FVec Ideal S2x8192x2x128 .f32) (b h : Fin 2) (e : Fin 144) (r : Fin 8192) :
    vArr x (ix4 b h e r) = if he : (e : ℕ) < 128 then x (ix4 b r h ⟨e, he⟩) else if (e : ℕ) - 128 = 0 then 1 else 0 := by
  pointwise [vArr]
  rw [flag _ (by omega)]

theorem kArr_at (x : FVec Ideal S2x8192x2x128 .f32) (a b' : FVec Ideal S1x128 .f32) (b h : Fin 2) (r : Fin 8192) (e : Fin 256)  :
    kArr x a b' (ix4 b h r e) = if he : (e : ℕ) < 128 then x (ix4 b r h ⟨e, he⟩) else if (e : ℕ) - 128 = 0 then - shiftArr a b' ix0 else 0 := by
  pointwise [kArr]
  by_cases h1 : (e : ℕ) < 128
  · rw [dif_pos h1, dif_pos h1]
  · rw [dif_neg h1, dif_neg h1]
    by_cases h : (e : ℕ) - 128 = 0
    · rw [h]; simp [IntOp.cmpi, Scalar.select]
    · have h' : BitVec.ofNat 32 ((e : ℕ) - 128) ≠ 0#32 := fun q => h (by
        have := congrArg BitVec.toNat q; simp at this; omega)
      have h2 : (BitVec.ofNat 32 ((e : ℕ) - 128) == 0#32) = false := by simp [h']
      simp only [IntOp.cmpi, Scalar.select, h2, if_neg h]; simp

/-- A maximum of finitely many real numbers, at least one, is a real number. -/
theorem fold_max_finite {ι : Type} [Fintype ι] (i₀ : ι) (b : EReal) (hb : b ≠ ⊤) (f : ι → EReal) (hf : ∀ i, ∃ r : ℝ, f i = r) :
    ∃ r : ℝ, Finset.univ.fold max b f = r := by
  have h1 : Finset.univ.fold max b f < ⊤ := by
    rw [Finset.fold_max_lt]
    refine ⟨lt_top_iff_ne_top.mpr hb, fun i _ => ?_⟩
    obtain ⟨r, hr⟩ := hf i
    rw [hr]; exact EReal.coe_lt_top r
  have h2 : ⊥ < Finset.univ.fold max b f := by
    rw [Finset.lt_fold_max]
    obtain ⟨r, hr⟩ := hf i₀
    exact Or.inr ⟨i₀, Finset.mem_univ _, by rw [hr]; exact EReal.bot_lt_coe r⟩
  exact ⟨_, (EReal.coe_toReal h1.ne h2.ne').symm⟩

theorem shift_at (a b : FVec Ideal S1x128 .f32) (ha : ∀ i, ∃ r : ℝ, a i = r) (hb : ∀ i, ∃ r : ℝ, b i = r) :
    ∃ r : ℝ, shiftArr a b ix0 = r := by
  have abs (z : FVec Ideal S1x128 .f32) (hz : ∀ i, ∃ r : ℝ, z i = r) (k : S1x128.Idx) : ∃ r : ℝ, FloatOps.absf (F := Ideal) (φ := .f32) (z k) = (r : EReal) := by
    obtain ⟨r, hr⟩ := hz k
    rw [hr]
    refine ⟨|r|, ?_⟩
    show max (r : EReal) (-(r : EReal)) = _
    rw [← EReal.coe_neg, abs_eq_max_neg]; exact (EReal.coe_strictMono.monotone.map_max).symm
  have hw : Ideal.ofBits .f32 4286578688#32 ≠ ⊤ := by simp [Ideal.ofBits, Ideal.ieee]
  have hc : ∃ r : ℝ, Ideal.ofBits .f32 1099162165#32 = (r : EReal) := by
    refine ⟨8643125 / 524288, ?_⟩
    simp [Ideal.ofBits, Ideal.ieee, -EReal.coe_mul]
    norm_num
  pointwise [shiftArr]
  obtain ⟨x, hx⟩ := hc
  obtain ⟨y, hy⟩ := fold_max_finite (ι := Fin 1 × Fin 128) (0, 0) _ hw (fun k => FloatOps.absf (F := Ideal) (φ := .f32) (a (ix2 k.1 k.2))) (fun k => abs a ha _)
  obtain ⟨z, hz⟩ := fold_max_finite (ι := Fin 1 × Fin 128) (0, 0) _ hw (fun k => FloatOps.absf (F := Ideal) (φ := .f32) (b (ix2 k.1 k.2))) (fun k => abs b hb _)
  exact ⟨x * y * z, by rw [hx, hy, hz]; simp⟩

variable (m : (ℓ : Loc nD τ sig) → Buf (Elt Ideal) ℓ)

theorem V_q (c : Dev nD) : V m c main_v24 = qArr (m ((c : Thread nD τ).loc main_arg0)) := by
  entry_read; rfl
theorem V_k (c : Dev nD) : V m c main_v27 = kArr (m ((c : Thread nD τ).loc main_arg1)) (m ((c : Thread nD τ).loc main_arg3)) (m ((c : Thread nD τ).loc main_arg4)) := by
  entry_read; rfl
theorem V_v (c : Dev nD) : V m c main_v30 = vArr (m ((c : Thread nD τ).loc main_arg2)) := by
  entry_read; rfl
end Cert.AttnIdeal.Hand
-- ==== Proof.AttnIdealPoint.lean ====
/- The attention kernel's result: every element is the sum of the values, each weighted by its key's share. -/
module

public import proofs.«01_k».proof.Proof.AttnIdealOutB
public import proofs.«01_k».proof.Proof.AttnIdealOutO
public import proofs.«01_k».proof.Proof.AttnIdealFrame
public import proofs.«01_k».proof.Proof.AttnIdealHost
public import Idealize.ShloMosaic.Lib.Pipeline.ValueKit

@[expose] public section

set_option maxRecDepth 16384

noncomputable section

namespace Cert.AttnIdeal.Hand

open Cert.AttnIdeal Cert.AttnIdeal.Gen
open Idealize.ShloMosaic Idealize.ShloMosaic.TcCoe Idealize.ShloMosaic.Tactic
open Idealize.ShloMosaic.Pipeline (Dat Cfg Window)

/-- The logarithm to base two of a key's weight before the division: the product of the query and the key, scaled. -/
def logit (x : FVec Ideal S2x8192x8x128 .f32) (y : FVec Ideal S2x8192x2x128 .f32) (b : Fin 2) (h : Fin 8) (s j : Fin 8192) : ℝ :=
  (∑ e : Fin 128, (x (ix4 b s h e)).toReal * (y (ix4 b j ⟨h / 4, by omega⟩ e)).toReal) * (11863283 / 134217728) * (Real.log 2)⁻¹

/-- Attention at batch member `b`, query `s`, head `h`, dimension `d`. -/
def attend (x : FVec Ideal S2x8192x8x128 .f32) (y z : FVec Ideal S2x8192x2x128 .f32) (b : Fin 2) (s : Fin 8192) (h : Fin 8) (d : Fin 128) : EReal :=
  ∑ j : Fin 8192, z (ix4 b j ⟨h / 4, by omega⟩ d) * (Cert.Soft.share (logit x y b h s) j : EReal)

/-- A query's extended product with a key, when the query ends in a one and zeros, the key in `-s` and zeros. -/
theorem dotq_real (Q K : Fin 256 → EReal) (X Y : Fin 128 → ℝ) (s : ℝ)
    (hQ : ∀ e : Fin 128, Q ⟨e, by omega⟩ = X e) (hK : ∀ e : Fin 128, K ⟨e, by omega⟩ = Y e)
    (hQ' : ∀ e : Fin 128, Q ⟨128 + e, by omega⟩ = if (e : ℕ) = 0 then 1 else 0)
    (hK' : ∀ e : Fin 128, K ⟨128 + e, by omega⟩ = if (e : ℕ) = 0 then -(s : EReal) else 0) :
    dotq Q K = (((∑ e, X e * Y e) * (11863283 / 134217728) * (Real.log 2)⁻¹ - s : ℝ) : EReal) := by
  have h1 : ∑ e : Fin 128, K ⟨e, by omega⟩ * (Q ⟨e, by omega⟩ * qsc) = (((∑ e, X e * Y e) * (11863283 / 134217728) * (Real.log 2)⁻¹ : ℝ) : EReal) := by
    rw [mul_assoc, Finset.sum_mul, Cert.Soft.coe_sum]
    refine Finset.sum_congr rfl fun e _ => ?_
    rw [hQ, hK, qsc_eq, ← EReal.coe_mul, ← EReal.coe_mul]
    congr 1; ring
  have h2 : ∑ e : Fin 128, K ⟨128 + e, by omega⟩ * Q ⟨128 + e, by omega⟩ = ((-s : ℝ) : EReal) := by
    rw [Finset.sum_eq_single (0 : Fin 128)]
    · rw [hQ', hK']; simp
    · intro e _ he
      rw [hQ', if_neg (show ¬ (e : ℕ) = 0 from fun h => he (Fin.ext h)), mul_zero]
    · exact fun h => absurd (Finset.mem_univ _) h
  rw [dotq, h1, h2, ← EReal.coe_add, sub_eq_add_neg]

variable (m : (ℓ : Loc nD τ sig) → Buf (Elt Ideal) ℓ)

/-- Both branches leave the same block: the values weighted by their keys' shares. -/
theorem out_eq (c : Dev nD) (t : Fin cfg0.N) (y : S1x512x512.Idx)
    (g : Fin 4) (d : Fin 128) (r : Fin 512) (hr : (y 1 : ℕ) = r) (hd : (y 2 : ℕ) = 128 * g + d)
    (σ : Fin 8192 → ℝ) (hσ : ∀ j, score (iblk m c 0 t) (iblk m c 1 t) g r j = (σ j : EReal))
    (hone : ∀ j, iblk m c 2 t (ix4 0 0 128 j : S1x1x144x8192.Idx) = (1 : EReal)) :
    out m c t y = ∑ j : Fin 8192, (show Vec Ideal S1x1x144x8192 .bf16 from iblk m c 2 t) (ix4 0 0 ⟨d, by omega⟩ j) * (Cert.Soft.share σ j : EReal) := by
  by_cases hb : bounded (iblk m c 3 t) (iblk m c 4 t)
  · rw [out_bounded m c t hb, outB_eq m c t hb y g d r hr hd]
    have e1 : sumB (iblk m c 0 t) (iblk m c 1 t) (iblk m c 2 t) g 128 r = ∑ j, Ideal.exp2 (σ j : EReal) := by
      refine Finset.sum_congr rfl fun j _ => ?_
      rw [hσ]
      exact (congrArg (· * Ideal.exp2 (σ j : EReal)) (hone j)).trans (one_mul _)
    have e2 : sumB (iblk m c 0 t) (iblk m c 1 t) (iblk m c 2 t) g ⟨d, by omega⟩ r
        = ∑ j, (show Vec Ideal S1x1x144x8192 .bf16 from iblk m c 2 t) (ix4 0 0 ⟨d, by omega⟩ j) * Ideal.exp2 (σ j : EReal) := by
      refine Finset.sum_congr rfl fun j _ => ?_
      rw [hσ]
    rw [e1, e2]
    exact Cert.Soft.quotient_zero (by norm_num) _ σ
  · rw [out_online m c t hb]
    exact outO_eq m c t hb y g d r hr hd σ hσ hone

/-- Every window's block, by the grid point. -/
theorem idx : ∀ t : Fin cfg0.N, win0_0.index t = ![t.val / 32, t.val / 16 % 2, 0, t.val % 16] ∧ win0_1.index t = ![t.val / 32, t.val / 16 % 2, 0, 0]
    ∧ win0_2.index t = ![t.val / 32, t.val / 16 % 2, 0, 0] ∧ win0_5.index t = ![t.val / 32, t.val % 16, t.val / 16 % 2] :=
  (by decide +kernel : ∀ t : Fin grid0.N, _)

theorem q_blk (c : Dev nD) (t : Fin cfg0.N) (ht : t.val < 64) (g : Fin 4) (e : Fin 256) (r : Fin 512) :
    iblk m c 0 t (ix4 0 g e r : S1x4x256x512.Idx)
      = qArr (m ((c : Thread nD τ).loc main_arg0)) (ix4 ⟨t / 32, by omega⟩ ⟨4 * (t / 16 % 2) + g, by omega⟩ e ⟨512 * (t % 16) + r, by omega⟩) := by
  rw [← V_q]
  blk_ext [iblk, idx t]

theorem k_blk (c : Dev nD) (t : Fin cfg0.N) (ht : t.val < 64) (j : Fin 8192) (e : Fin 256) :
    iblk m c 1 t (ix4 0 0 j e : S1x1x8192x256.Idx)
      = kArr (m ((c : Thread nD τ).loc main_arg1)) (m ((c : Thread nD τ).loc main_arg3)) (m ((c : Thread nD τ).loc main_arg4))
        (ix4 ⟨t / 32, by omega⟩ ⟨t / 16 % 2, by omega⟩ j e) := by
  rw [← V_k]
  blk_ext [iblk, idx t]

theorem v_blk (c : Dev nD) (t : Fin cfg0.N) (ht : t.val < 64) (a : Fin 144) (j : Fin 8192) :
    iblk m c 2 t (ix4 0 0 a j : S1x1x144x8192.Idx)
      = vArr (m ((c : Thread nD τ).loc main_arg2)) (ix4 ⟨t / 32, by omega⟩ ⟨t / 16 % 2, by omega⟩ a j) := by
  rw [← V_v]
  blk_ext [iblk, idx t]

/-- One element of the block a grid point leaves is attention at that element's place in the result. -/
theorem point (c : Dev nD) (t : Fin cfg0.N) (ht : t.val < 64)
    (hx : ∀ i, ∃ r : ℝ, (show FVec Ideal S2x8192x8x128 .f32 from m ((c : Thread nD τ).loc main_arg0)) i = r)
    (hy : ∀ i, ∃ r : ℝ, (show FVec Ideal S2x8192x2x128 .f32 from m ((c : Thread nD τ).loc main_arg1)) i = r)
    (ha : ∀ i, ∃ r : ℝ, (show FVec Ideal S1x128 .f32 from m ((c : Thread nD τ).loc main_arg3)) i = r)
    (hb : ∀ i, ∃ r : ℝ, (show FVec Ideal S1x128 .f32 from m ((c : Thread nD τ).loc main_arg4)) i = r)
    (y : S1x512x512.Idx) (g : Fin 4) (d : Fin 128) (r : Fin 512) (hr : (y 1 : ℕ) = r) (hd : (y 2 : ℕ) = 128 * g + d) :
    out m c t y = attend (m ((c : Thread nD τ).loc main_arg0)) (m ((c : Thread nD τ).loc main_arg1)) (m ((c : Thread nD τ).loc main_arg2))
      ⟨t / 32, by omega⟩ ⟨512 * (t % 16) + r, by omega⟩ ⟨4 * (t / 16 % 2) + g, by omega⟩ d := by
  obtain ⟨s, hs⟩ := shift_at (m ((c : Thread nD τ).loc main_arg3)) (m ((c : Thread nD τ).loc main_arg4)) ha hb
  have hh : (⟨(4 * (t.val / 16 % 2) + g.val) / 4, by omega⟩ : Fin 2) = ⟨t.val / 16 % 2, by omega⟩ := Fin.ext (by simp only; omega)
  rw [out_eq m c t y g d r hr hd
    (fun j => logit (m ((c : Thread nD τ).loc main_arg0)) (m ((c : Thread nD τ).loc main_arg1)) ⟨t / 32, by omega⟩ ⟨4 * (t / 16 % 2) + g, by omega⟩ ⟨512 * (t % 16) + r, by omega⟩ j - s) ?_ ?_]
  · unfold attend
    refine Finset.sum_congr rfl fun j _ => ?_
    rw [Cert.Soft.share_sub]
    refine congrArg₂ (· * ·) ?_ rfl
    refine (v_blk m c t ht _ j).trans ((vArr_at _ _ _ _ _).trans ?_)
    rw [dif_pos d.isLt]
    exact congrArg _ (by rw [hh])
  · intro j
    unfold score logit
    refine dotq_real _ _ _ _ s (fun e => ?_) (fun e => ?_) (fun e => ?_) (fun e => ?_)
    · refine (q_blk m c t ht g _ r).trans ((qArr_at _ _ _ _ _).trans ?_)
      rw [dif_pos e.isLt]
      obtain ⟨v, hv⟩ := hx (ix4 ⟨t / 32, by omega⟩ ⟨512 * (t % 16) + r, by omega⟩ ⟨4 * (t / 16 % 2) + g, by omega⟩ e)
      exact hv.trans (congrArg _ (congrArg EReal.toReal hv).symm)
    · refine (k_blk m c t ht j _).trans ((kArr_at _ _ _ _ _ _ _).trans ?_)
      rw [dif_pos e.isLt, hh]
      obtain ⟨v, hv⟩ := hy (ix4 ⟨t / 32, by omega⟩ j ⟨t / 16 % 2, by omega⟩ e)
      exact hv.trans (congrArg _ (congrArg EReal.toReal hv).symm)
    · refine (q_blk m c t ht g _ r).trans ((qArr_at _ _ _ _ _).trans ?_)
      rw [dif_neg (by simp), Nat.add_sub_cancel_left]
    · refine (k_blk m c t ht j _).trans ((kArr_at _ _ _ _ _ _ _).trans ?_)
      rw [dif_neg (by simp), Nat.add_sub_cancel_left, hs]
  · intro j
    refine (v_blk m c t ht _ j).trans ((vArr_at _ _ _ _ _).trans ?_)
    simp

/-- Attention, as the result's array. -/
def attendArr (x : FVec Ideal S2x8192x8x128 .f32) (y z : FVec Ideal S2x8192x2x128 .f32) : FVec Ideal S2x8192x1024 .bf16 :=
  fun i => attend x y z (i 0) (i 1) ⟨(show Fin 1024 from i 2) / 128, by omega⟩ ⟨(show Fin 1024 from i 2) % 128, by omega⟩

/-- The result's array after the run. -/
theorem final (c : Dev nD)
    (hx : ∀ i, ∃ r : ℝ, (show FVec Ideal S2x8192x8x128 .f32 from m ((c : Thread nD τ).loc main_arg0)) i = r)
    (hy : ∀ i, ∃ r : ℝ, (show FVec Ideal S2x8192x2x128 .f32 from m ((c : Thread nD τ).loc main_arg1)) i = r)
    (ha : ∀ i, ∃ r : ℝ, (show FVec Ideal S1x128 .f32 from m ((c : Thread nD τ).loc main_arg3)) i = r)
    (hb : ∀ i, ∃ r : ℝ, (show FVec Ideal S1x128 .f32 from m ((c : Thread nD τ).loc main_arg4)) i = r) :
    (dats m 0 c).arrAt 5 (cfgs 0).N
      = attendArr (m ((c : Thread nD τ).loc main_arg0)) (m ((c : Thread nD τ).loc main_arg1)) (m ((c : Thread nD τ).loc main_arg2)) := by
  refine (dats m 0 c).arrAt_eq_of_covers 5 _ (by decide +kernel) fun t _ y => ?_
  have ht : t.val < 64 := t.isLt
  have h1 : (y 1 : ℕ) < 512 := (y 1).isLt
  have h2 : (y 2 : ℕ) < 512 := (y 2).isLt
  blk_simp
  rw [after_5]
  refine (point m c t ht hx hy ha hb y ⟨(y 2 : ℕ) / 128, by omega⟩ ⟨(y 2 : ℕ) % 128, by omega⟩ ⟨y 1, h1⟩ rfl (Nat.div_add_mod _ _).symm).trans ?_
  unfold attendArr
  have h0 : (y 0 : ℕ) < 1 := (y 0).isLt
  have e0 : ((((cfg0.win 5).blk t).view.emb y) 0 : ℕ) = t.val / 32 := by blk_simp [idx t]; try omega
  have e1 : ((((cfg0.win 5).blk t).view.emb y) 1 : ℕ) = 512 * (t.val % 16) + (y 1 : ℕ) := by blk_simp [idx t]; try omega
  have e2 : ((((cfg0.win 5).blk t).view.emb y) 2 : ℕ) = 512 * (t.val / 16 % 2) + (y 2 : ℕ) := by blk_simp [idx t]; try omega
  congr 1
  · exact Fin.ext e0.symm
  · exact Fin.ext e1.symm
  · exact Fin.ext (show 4 * (t.val / 16 % 2) + (y 2 : ℕ) / 128 = ((((cfg0.win 5).blk t).view.emb y) 2 : ℕ) / 128 by rw [e2]; omega)
  · exact Fin.ext (show (y 2 : ℕ) % 128 = ((((cfg0.win 5).blk t).view.emb y) 2 : ℕ) % 128 by rw [e2]; omega)

end Cert.AttnIdeal.Hand
-- ==== Proof.AttnRef.lean ====
/- The attention reference, at an index. -/
module

public import proofs.«01_k».proof.Proof.Gen.AttnRefIdeal.Run
public import proofs.«01_k».proof.Proof.Softmax
public import Idealize.ShloMosaic.Lib.Pointwise

@[expose] public section

set_option maxRecDepth 16384

noncomputable section

namespace Cert.AttnRefIdeal.Hand

open Cert.AttnRefIdeal Cert.AttnRefIdeal.Gen
open Idealize.ShloMosaic Idealize.ShloMosaic.TcCoe Idealize.ShloMosaic.Tactic
open Cert.AttnRefIdeal.Facts

/-- The scaled products of the queries and the keys. -/
def prods (x : FVec Ideal S2x8192x8x128 .f32) (y : FVec Ideal S2x8192x2x128 .f32) : FVec Ideal S2x2x4x8192x8192 .f32 :=
  mulf (Host.dotGeneral dot_S2x2x4x8192x128_S2x2x8192x128_S2x2x4x8192x8192_4_3_23_2_01_01 none
      (transpose S2x2x4x8192x128 [0, 2, 3, 1, 4] (shapeCast S2x8192x2x4x128 x shapeCasts_S2x8192x8x128_S2x8192x2x4x128) transposes_S2x8192x2x4x128_S2x2x4x8192x128_0_2_3_1_4)
      (transpose S2x2x8192x128 [0, 2, 1, 3] y transposes_S2x8192x2x128_S2x2x8192x128_0_2_1_3))
    (broadcastInDim S2x2x4x8192x8192 ![] bcast_S_S2x2x4x8192x8192 (constant S_ .f32 0x3DB504F3#32))

/-- Each row's maximum. -/
def rowMax (p : FVec Ideal S2x2x4x8192x8192 .f32) : FVec Ideal S2x2x4x8192 .f32 :=
  Host.reduce FloatOps.maximumf p (constant S_ .f32 0xFF800000#32) reducesTo_S2x2x4x8192x8192_S2x2x4x8192_d4 h_S_

/-- The exponentials of the products less their row's maximum. -/
def exps (p : FVec Ideal S2x2x4x8192x8192 .f32) (w : FVec Ideal S2x2x4x8192 .f32) : FVec Ideal S2x2x4x8192x8192 .f32 :=
  Host.exp (subf p (broadcastInDim S2x2x4x8192x8192 ![0, 1, 2, 3, 4] bcast_S2x2x4x8192x1_S2x2x4x8192x8192_0_1_2_3_4
    (broadcastInDim S2x2x4x8192x1 ![0, 1, 2, 3] bcast_S2x2x4x8192_S2x2x4x8192x1_0_1_2_3
      (maximumf (broadcastInDim S2x2x4x8192 ![] bcast_S_S2x2x4x8192 (constant S_ .f32 0xFF800000#32)) w))))

/-- The reference's result over its arguments. -/
def REF (x : FVec Ideal S2x8192x8x128 .f32) (y z : FVec Ideal S2x8192x2x128 .f32) : FVec Ideal S2x8192x1024 .bf16 :=
  truncf .bf16 (shapeCast S2x8192x1024 (transpose S2x8192x2x4x128 [0, 3, 1, 2, 4]
    (Host.dotGeneral dot_S2x2x4x8192x8192_S2x2x8192x128_S2x2x4x8192x128_4_2_23_3_01_01 none
      (Host.divf (exps (prods x y) (rowMax (prods x y))) (broadcastInDim S2x2x4x8192x8192 ![0, 1, 2, 3, 4] bcast_S2x2x4x8192x1_S2x2x4x8192x8192_0_1_2_3_4
        (broadcastInDim S2x2x4x8192x1 ![0, 1, 2, 3] bcast_S2x2x4x8192_S2x2x4x8192x1_0_1_2_3
          (Host.reduceAdd (exps (prods x y) (rowMax (prods x y))) (constant S_ .f32 0x00000000#32) reducesTo_S2x2x4x8192x8192_S2x2x4x8192_d4 h_S_))))
      (transpose S2x2x8192x128 [0, 2, 1, 3] z transposes_S2x8192x2x128_S2x2x8192x128_0_2_1_3))
    transposes_S2x2x4x8192x128_S2x8192x2x4x128_0_3_1_2_4) shapeCasts_S2x8192x2x4x128_S2x8192x1024) bitsLt_bf16_f32

/-- The scaled product of a query and a key, both of real numbers. -/
def prodR (x : FVec Ideal S2x8192x8x128 .f32) (y : FVec Ideal S2x8192x2x128 .f32) (b : Fin 2) (h : Fin 8) (s j : Fin 8192) : ℝ :=
  (∑ e : Fin 128, (x (ix4 b s h e)).toReal * (y (ix4 b j ⟨h / 4, by omega⟩ e)).toReal) * (11863283 / 134217728)

theorem prods_at (x : FVec Ideal S2x8192x8x128 .f32) (y : FVec Ideal S2x8192x2x128 .f32)
    (hx : ∀ i, ∃ r : ℝ, x i = r) (hy : ∀ i, ∃ r : ℝ, y i = r) (b h : Fin 2) (g : Fin 4) (s j : Fin 8192) :
    prods x y (ix5 b h g s j) = (prodR x y b ⟨4 * h + g, by omega⟩ s j : EReal) := by
  have hc : Ideal.ofBits .f32 1035273459#32 = ((11863283 / 134217728 : ℝ) : EReal) := by
    simp [Ideal.ofBits, Ideal.ieee, -EReal.coe_mul]; norm_num
  have hh : (⟨(4 * h.val + g.val) / 4, by omega⟩ : Fin 2) = h := Fin.ext (by simp only; omega)
  pointwise [prods]
  rw [hc, prodR, EReal.coe_mul, Cert.Soft.coe_sum]
  refine congrArg (· * _) (Finset.sum_congr rfl fun e _ => ?_)
  rw [EReal.coe_mul, hh]
  refine congrArg₂ (· * ·) ?_ ?_
  · obtain ⟨r, hr⟩ := hx (ix4 b s ⟨h * 4 + g, by omega⟩ e)
    have e1 : (⟨h.val * 4 + g.val, by omega⟩ : Fin 8) = ⟨4 * h.val + g.val, by omega⟩ := Fin.ext (by simp only; omega)
    rw [← e1, hr]; rfl
  · obtain ⟨r, hr⟩ := hy (ix4 b j h e)
    rw [hr]; rfl

theorem rowMax_real (p : FVec Ideal S2x2x4x8192x8192 .f32) (hp : ∀ i, ∃ r : ℝ, p i = r) (j : S2x2x4x8192.Idx) : ∃ M : ℝ, rowMax p j = M := by
  have hr : S2x2x4x8192x8192.Reduces [4] S2x2x4x8192 := by decide
  have e : rowMax p j = (Finset.univ : Finset (Fin (S2x2x4x8192x8192.size 4))).fold (max : EReal → EReal → EReal) (Ideal.ofBits .f32 0xFF800000#32) (p ∘ hr.lift j) :=
    Host.reduce_eq_fold_single (max : EReal → EReal → EReal) p (constant (F := Ideal) S_ .f32 0xFF800000#32) reducesTo_S2x2x4x8192x8192_S2x2x4x8192_d4 hr h_S_ j
  rw [e]
  exact Cert.Soft.fold_max_real (n := 8192) (by norm_num) _ (by simp [Ideal.ofBits, Ideal.ieee]) _ (fun i => hp _)

theorem exps_at (p : FVec Ideal S2x2x4x8192x8192 .f32) (w : FVec Ideal S2x2x4x8192 .f32) (b h : Fin 2) (g : Fin 4) (s j : Fin 8192) :
    exps p w (ix5 b h g s j) = Ideal.exp (p (ix5 b h g s j) - w (ix4 b h g s)) := by
  have hb : Ideal.ofBits .f32 4286578688#32 = ⊥ := by simp [Ideal.ofBits, Ideal.ieee]
  pointwise [exps]
  rw [hb, max_eq_right bot_le]

theorem prods_real (x : FVec Ideal S2x8192x8x128 .f32) (y : FVec Ideal S2x8192x2x128 .f32)
    (hx : ∀ i, ∃ r : ℝ, x i = r) (hy : ∀ i, ∃ r : ℝ, y i = r) (i : S2x2x4x8192x8192.Idx) : ∃ r : ℝ, prods x y i = r := by
  idx_vars i
  exact ⟨_, prods_at x y hx hy _ _ _ _ _⟩

/-- The reference, at an index: the values weighted by their keys' shares. -/
theorem REF_at (x : FVec Ideal S2x8192x8x128 .f32) (y z : FVec Ideal S2x8192x2x128 .f32)
    (hx : ∀ i, ∃ r : ℝ, x i = r) (hy : ∀ i, ∃ r : ℝ, y i = r) (b : Fin 2) (s : Fin 8192) (f : Fin 1024) :
    REF x y z (ix3 b s f) = ∑ j : Fin 8192, z (ix4 b j ⟨f / 512, by omega⟩ ⟨f % 128, by omega⟩)
      * (Cert.Soft.share (fun j => prodR x y b ⟨f / 128, by omega⟩ s j * (Real.log 2)⁻¹) j : EReal) := by
  have hh : (⟨4 * (f.val / 512) + f.val / 128 % 4, by omega⟩ : Fin 8) = ⟨f.val / 128, by omega⟩ := Fin.ext (by simp only; omega)
  obtain ⟨M, hM⟩ := rowMax_real (prods x y) (prods_real x y hx hy) (ix4 b ⟨f / 512, by omega⟩ ⟨f / 128 % 4, by omega⟩ s)
  have he (j : Fin 8192) : exps (prods x y) (rowMax (prods x y)) (ix5 b ⟨f / 512, by omega⟩ ⟨f / 128 % 4, by omega⟩ s j)
      = Ideal.exp ((prodR x y b ⟨f / 128, by omega⟩ s j : EReal) - (M : EReal)) := by
    rw [exps_at, hM, prods_at x y hx hy, hh]
  pointwise [REF]
  refine Finset.sum_congr rfl fun j _ => ?_
  simp only [he]
  rw [Cert.Soft.exp_quotient (by norm_num) (fun j => prodR x y b ⟨f / 128, by omega⟩ s j) M j, mul_comm]

end Cert.AttnRefIdeal.Hand
-- ==== Proof.Finite.lean ====
/- A precondition that holds makes every value of the arrays it names a real number. -/
module

public import proofs.«01_k».proof.Proof.Gen.Pre_attn_finite
public import proofs.«01_k».proof.Proof.Gen.Pre_odd_finite
public import proofs.«01_k».proof.Proof.Gen.Pre_even_finite
public import Idealize.ShloMosaic.Lib.ReduceAll
public import Idealize.ShloMosaic.Lib.Affine
public import Idealize.ShloMosaic.Lib.Pointwise

@[expose] public section

set_option maxRecDepth 16384

noncomputable section

namespace Cert.Fin

open Idealize.ShloMosaic

/-- A value whose absolute value compares below the infinity word is a real number. -/
theorem real_of_lt (x : EReal) (h : FloatOps.cmpf (F := Ideal) (φ := .f32) .olt (FloatOps.absf (F := Ideal) (φ := .f32) x) (Ideal.ofBits .f32 0x7F800000#32) = 1#1) :
    ∃ r : ℝ, x = r := by
  have ht : Ideal.ofBits .f32 0x7F800000#32 = ⊤ := by simp [Ideal.ofBits, Ideal.ieee]
  rw [ht] at h
  induction x using EReal.rec with
  | bot => exact absurd h (by simp [FloatOps.cmpf, FloatOps.absf, Ideal.cmp])
  | coe r => exact ⟨r, rfl⟩
  | top => exact absurd h (by simp [FloatOps.cmpf, FloatOps.absf, Ideal.cmp])

section Attn

open Cert.Pre_attn_finite Cert.Pre_attn_finite.Gen

/-- The precondition of the attention makes queries, keys and gains real. -/
theorem attn (x : FVec Ideal S2x8192x8x128 .f32) (y z : FVec Ideal S2x8192x2x128 .f32) (a b : FVec Ideal S1x128 .f32)
    (h : fn (F := Ideal) x y z a b = fun _ => 1#1) :
    (∀ i, ∃ r : ℝ, x i = r) ∧ (∀ i, ∃ r : ℝ, y i = r) ∧ (∀ i, ∃ r : ℝ, a i = r) ∧ (∀ i, ∃ r : ℝ, b i = r) := by
  have h0 := congrFun h ix0
  dsimp only [fn, fn_part1] at h0
  simp only [andi_apply, IntOp.andi_eq_one] at h0
  obtain ⟨⟨⟨h1, h2⟩, h3⟩, h4⟩ := h0
  refine ⟨fun i => ?_, fun i => ?_, fun i => ?_, fun i => ?_⟩
  · exact real_of_lt _ (Host.reduce_andi_all _ _ _ _ _ h1 i)
  · exact real_of_lt _ (Host.reduce_andi_all _ _ _ _ _ h2 i)
  · exact real_of_lt _ (Host.reduce_andi_all _ _ _ _ _ h3 i)
  · exact real_of_lt _ (Host.reduce_andi_all _ _ _ _ _ h4 i)

end Attn

section Odd

open Cert.Pre_odd_finite Cert.Pre_odd_finite.Gen

/-- That of the last projection makes the gate real. -/
theorem odd (x : FVec Ideal S16384x1024 .f32) (o : FVec Ideal S2x8192x1024 .bf16) (z : FVec Ideal S16384x1024 .bf16)
    (w : FVec Ideal S1x1024x1024 .f32) (g : FVec Ideal S1024 .f32) (h : fn (F := Ideal) x o z w g = fun _ => 1#1) :
    ∀ i, ∃ r : ℝ, z i = r := fun i =>
  real_of_lt _ (Host.reduce_andi_all _ _ _ _ _ (congrFun h ix0) i)

end Odd

section Even

open Cert.Pre_even_finite Cert.Pre_even_finite.Gen

/-- That of the first projection makes its three arguments real. -/
theorem even (x : FVec Ideal S2x8192x1024 .f32) (g : FVec Ideal S1x1024 .f32) (w : FVec Ideal S1x1024x3072 .f32)
    (h : fn (F := Ideal) x g w = fun _ => 1#1) :
    (∀ i, ∃ r : ℝ, x i = r) ∧ (∀ i, ∃ r : ℝ, g i = r) ∧ (∀ i, ∃ r : ℝ, w i = r) := by
  have h0 := congrFun h ix0
  dsimp only [fn] at h0
  simp only [andi_apply, IntOp.andi_eq_one] at h0
  obtain ⟨⟨h1, h2⟩, h3⟩ := h0
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i)⟩

end Even

end Cert.Fin
-- ==== Proof.AttnValue.lean ====
/- The attention kernel and its reference leave the same array. -/
module

public import proofs.«01_k».proof.Proof.AttnIdealPoint
public import proofs.«01_k».proof.Proof.AttnRef
public import proofs.«01_k».proof.Proof.Finite
public import proofs.«01_k».proof.Defs
public import Idealize.ShloMosaic.Lib.Claim

@[expose] public section

set_option maxRecDepth 16384

noncomputable section

namespace Cert.AttnValue

open Idealize.ShloMosaic Idealize.ShloMosaic.TcCoe Idealize.ShloMosaic.Tactic

/-- For real queries and keys the reference is attention as the kernel leaves it. -/
theorem ref_eq (x : FVec Ideal Cert.AttnIdeal.S2x8192x8x128 .f32) (y z : FVec Ideal Cert.AttnIdeal.S2x8192x2x128 .f32)
    (hx : ∀ i, ∃ r : ℝ, x i = r) (hy : ∀ i, ∃ r : ℝ, y i = r) :
    Cert.AttnRefIdeal.Hand.REF x y z = Cert.AttnIdeal.Hand.attendArr x y z := by
  funext i
  rw [eq_ix3 i]
  refine (Cert.AttnRefIdeal.Hand.REF_at x y z hx hy (i 0) (i 1) (i 2)).trans ?_
  unfold Cert.AttnIdeal.Hand.attendArr Cert.AttnIdeal.Hand.attend
  refine Finset.sum_congr rfl fun j _ => ?_
  have hf : ((i 2 : ℕ) / 128) / 4 = (i 2 : ℕ) / 512 := by rw [Nat.div_div_eq_div_mul]
  refine congrArg₂ (· * ·) (congrArg z ?_) rfl
  exact congrArg (fun k => ix4 (i 0) j k (⟨(i 2 : ℕ) % 128, by omega⟩ : Fin 128)) (Fin.ext hf.symm)

/-- From real queries, keys and gains the kernel and the reference end with the same array. -/
theorem algebraic : Cert.algebraic_AttnIdeal_AttnRefIdeal_pre_attn_finite := by
  pair_intro
  · run_from Cert.AttnIdeal.Hand.run_main m g
    all_goals first
      | exact Cert.AttnIdeal.Gen.V_main_arg0 m c
      | exact Cert.AttnIdeal.Gen.V_main_arg1 m c
      | exact Cert.AttnIdeal.Gen.V_main_arg2 m c
  · run_from Cert.AttnRefIdeal.Value.run m' g'
    obtain ⟨hx, hy, ha, hb⟩ := Cert.Fin.attn _ _ _ _ _ (hpre c)
    rw [Cert.AttnIdeal.Hand.final m c hx hy ha hb]
    exact ref_eq _ _ _ hx hy

end Cert.AttnValue
-- ==== Proof.Silu.lean ====
/- The gate `x · logistic x`, on a real number, as the kernels write it: by the hyperbolic tangent of the half. -/
module

public import Idealize.ShloMosaic.PureOps.Ideal

@[expose] public section

noncomputable section

namespace Cert.Silu

open Idealize.ShloMosaic

/-- The gate on the extended reals, as the references write it. -/
def silu (z : EReal) : EReal :=
  z * Ideal.div 1 (1 + Ideal.exp (-z))

/-- On the reals, `z/2 + z/2 · tanh (z/2)` is `z` over `1 + exp (-z)`. -/
theorem real (z : ℝ) : 1 / 2 * z + 1 / 2 * z * Real.tanh (1 / 2 * z) = z * (1 + Real.exp (-z))⁻¹ := by
  have hp : Real.exp (1 / 2 * z) * Real.exp (-(1 / 2 * z)) = 1 := by rw [← Real.exp_add]; simp
  have hz : Real.exp (-z) = Real.exp (-(1 / 2 * z)) * Real.exp (-(1 / 2 * z)) := by rw [← Real.exp_add]; ring_nf
  have ha := Real.exp_pos (1 / 2 * z)
  have hb := Real.exp_pos (-(1 / 2 * z))
  have h1 : (1 : ℝ) + Real.exp (-(1 / 2 * z)) * Real.exp (-(1 / 2 * z)) ≠ 0 := by positivity
  have h2 : Real.exp (1 / 2 * z) + Real.exp (-(1 / 2 * z)) ≠ 0 := by positivity
  rw [Real.tanh_eq, hz]
  generalize Real.exp (1 / 2 * z) = a at *
  generalize Real.exp (-(1 / 2 * z)) = b at *
  field_simp
  linear_combination (2 * z * b) * hp

/-- The kernels' gate is the references' gate on a real number. -/
theorem eq (z : EReal) (h : ∃ r : ℝ, z = r) :
    Ideal.ofBits .f32 0x3F000000#32 * z + Ideal.ofBits .f32 0x3F000000#32 * z * Ideal.tanh (Ideal.ofBits .f32 0x3F000000#32 * z) = silu z := by
  have hh : Ideal.ofBits .f32 0x3F000000#32 = ((1 / 2 : ℝ) : EReal) := by
    simp [Ideal.ofBits, Ideal.ieee, -EReal.coe_mul]
    norm_num
  obtain ⟨r, rfl⟩ := h
  have hp := Real.exp_pos (-r)
  have h0 : ((1 + Real.exp (-r) : ℝ) : EReal) ≠ 0 := by
    rw [← EReal.coe_zero]; exact fun e => by have := EReal.coe_injective e; linarith
  rw [silu, hh, ← EReal.coe_one, ← EReal.coe_neg, Ideal.exp_coe, ← EReal.coe_add, ← EReal.coe_mul, Ideal.tanh_coe, ← EReal.coe_mul,
    ← EReal.coe_add, real, Ideal.div, if_neg h0, ← EReal.coe_inv, ← EReal.coe_mul, ← EReal.coe_mul, one_mul]

end Cert.Silu
-- ==== Proof.Norm.lean ====
/- The root mean square norm of a row of 1024 numbers. -/
module

public import proofs.«01_k».proof.Proof.Softmax
public import Idealize.ShloMosaic.PureOps.Ideal

@[expose] public section

noncomputable section

namespace Cert.Norm

open Idealize.ShloMosaic

/-- A row divided by its root mean square, times the gains, at a column. -/
def normed (f : Fin 1024 → EReal) (g : Fin 1024 → EReal) (j : Fin 1024) : EReal :=
  f j * Ideal.rsqrt (Ideal.div (∑ l, f l * f l) (Ideal.ofBits .f32 0x44800000#32) + Ideal.ofBits .f32 0x358637BD#32) * g j

/-- A sum of products of real numbers is a real number. -/
theorem real_dot (n : ℕ) (f g : Fin n → EReal) (hf : ∀ l, ∃ r : ℝ, f l = r) (hg : ∀ l, ∃ r : ℝ, g l = r) :
    ∃ r : ℝ, ∑ l, f l * g l = r := by
  choose a ha using hf
  choose b hb using hg
  refine ⟨∑ l, a l * b l, ?_⟩
  rw [Cert.Soft.coe_sum]
  exact Finset.sum_congr rfl fun l _ => by rw [ha, hb, EReal.coe_mul]

/-- The norm of a row of real numbers by real gains is a real number. -/
theorem real (f g : Fin 1024 → EReal) (hf : ∀ l, ∃ r : ℝ, f l = r) (hg : ∀ l, ∃ r : ℝ, g l = r) (j : Fin 1024) :
    ∃ r : ℝ, normed f g j = r := by
  have h1 : Ideal.ofBits .f32 0x44800000#32 = ((1024 : ℝ) : EReal) := by
    simp [Ideal.ofBits, Ideal.ieee, -EReal.coe_mul]
    norm_num
  have h2 : Ideal.ofBits .f32 0x358637BD#32 = ((8796093 / 8796093022208 : ℝ) : EReal) := by
    simp [Ideal.ofBits, Ideal.ieee, -EReal.coe_mul]
    norm_num
  choose a ha using hf
  obtain ⟨b, hb⟩ := hg j
  have hs : ∑ l, f l * f l = ((∑ l, a l * a l : ℝ) : EReal) := by
    rw [Cert.Soft.coe_sum]
    exact Finset.sum_congr rfl fun l _ => by rw [ha, EReal.coe_mul]
  have hp : 0 < (∑ l, a l * a l) * (1 / 1024) + 8796093 / 8796093022208 :=
    add_pos_of_nonneg_of_pos (mul_nonneg (Finset.sum_nonneg fun l _ => mul_self_nonneg _) (by norm_num)) (by norm_num)
  refine ⟨a j * (Real.sqrt ((∑ l, a l * a l) * (1 / 1024) + 8796093 / 8796093022208))⁻¹ * b, ?_⟩
  rw [normed, hs, h1, h2, Ideal.div_coe (by norm_num), ← EReal.coe_mul, ← EReal.coe_add, Ideal.rsqrt_coe, if_neg hp.not_gt,
    if_neg hp.ne', ha, hb, EReal.coe_mul, EReal.coe_mul]

end Cert.Norm
-- ==== Proof.OddOutIdealValue.lean ====
/- The last projection and norm: the array the kernel leaves. -/
module

public import proofs.«01_k».proof.Proof.Gen.OddOutIdeal.Value
public import proofs.«01_k».proof.Proof.Silu
public import proofs.«01_k».proof.Proof.Norm
public import Idealize.ShloMosaic.Lib.Pipeline.ValueKit
public import Idealize.ShloMosaic.Lib.Claim

@[expose] public section

set_option maxRecDepth 16384

noncomputable section

namespace Cert.OddOutIdeal.Hand

open Cert.OddOutIdeal Cert.OddOutIdeal.Gen
open Idealize.ShloMosaic Idealize.ShloMosaic.TcCoe Idealize.ShloMosaic.Tactic
open Idealize.ShloMosaic.Pipeline (Dat Cfg Window)
open Cert.Norm (normed)

variable (m : (ℓ : Loc nD τ sig) → Buf (Elt Ideal) ℓ)

/-- The blocks the windows stand at, point by point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] :=
  (by decide +kernel : ∀ t : Fin grid0.N, _)

/-- Every point reads the whole weights. -/
theorem w_blk (c : Dev nD) (t : Fin cfg0.N) (k l : Fin 1024) :
    (show FVec Ideal S1024x1024 .f32 from iblk m c 3 t) (ix2 k l)
      = (show FVec Ideal S1024x1024 .f32 from V m c main_v1) (ix2 k l) := by
  blk_point [iblk, idx t]

/-- The weights the kernel keeps from its first point on. -/
theorem scr (c : Dev nD) (n : ℕ) (hn : n < cfg0.N) (k l : Fin 1024) :
    (outsAt0 m c n hn).2 (ix2 k l) = (show FVec Ideal S1024x1024 .f32 from V m c main_v1) (ix2 k l) := by
  induction n with
  | zero =>
    rw [outsAt0_A m c ⟨0, hn⟩ rfl]
    frame_out
    refine Eq.trans ?_ (w_blk m c ⟨0, hn⟩ k l)
    pointwise [k0_pay1]
  | succ n ih =>
    have h : ¬ (n + 1) % 16 = 0 := by
      have h16 : cfg0.N = 16 := by decide +kernel
      omega
    rw [outsAt0_B m c ⟨n + 1, hn⟩ h]
    frame_out
    exact ih _

/-- The result's block at a point. -/
theorem out_eq (c : Dev nD) (t : Fin cfg0.N) :
    (outsAt0 m c t.val t.isLt).1
      = k0_pay2 (iblk m c 1 t) (iblk m c 2 t) (iblk m c 0 t)
          (fun i => (show FVec Ideal S1024x1024 .f32 from V m c main_v1) i) (iblk m c 4 t) := by
  by_cases h : t.val % 16 = 0
  · rw [outsAt0_A m c t h]
    frame_out
    refine congrArg (fun w => k0_pay2 _ _ _ w _) (funext fun i => ?_)
    rw [eq_ix2 i]
    refine Eq.trans ?_ (w_blk m c t (i 0) (i 1))
    pointwise [k0_pay1]
  · have hs : (outsAt0 m c (t.val - 1) (by omega)).2 = fun i => (show FVec Ideal S1024x1024 .f32 from V m c main_v1) i :=
      funext fun i => by rw [eq_ix2 i]; exact scr m c _ _ _ _
    rw [outsAt0_B m c t h, hs]
    frame_out
    refine congrArg (fun w => k0_pay2 _ _ _ w _) ?_
    exact Memref.IsWhole.read_unread _ _

/-- The sum before the norm, over the kernel's arguments, at a row and a column. -/
def mix (x : FVec Ideal S16384x1024 .f32) (o : FVec Ideal S2x8192x1024 .bf16) (z : FVec Ideal S16384x1024 .bf16)
    (w : FVec Ideal S1x1024x1024 .f32) (r : Fin 16384) (j : Fin 1024) : EReal :=
  x (ix2 r j) + ∑ k : Fin 1024, o (ix3 ⟨r / 8192, by omega⟩ ⟨r % 8192, by omega⟩ k) * Cert.Silu.silu (z (ix2 r k)) * w (ix3 0 k j)

/-- The result, over the kernel's arguments. -/
def resultArr (x : FVec Ideal S16384x1024 .f32) (o : FVec Ideal S2x8192x1024 .bf16) (z : FVec Ideal S16384x1024 .bf16)
    (w : FVec Ideal S1x1024x1024 .f32) (g : FVec Ideal S1024 .f32) : FVec Ideal S16384x1024 .f32 :=
  fun i => normed (mix x o z w (i 0)) (fun j => g (ix1 j)) (i 1)

/-- The value stored at a point, where the blocks hold `f`'s summands and the gains. -/
theorem pay_at (o : Vec Ideal S1024x1024 .bf16) (z : Vec Ideal S1024x1024 .bf16) (x : Vec Ideal S1024x1024 .f32)
    (w : Vec Ideal S1024x1024 .bf16) (g : Vec Ideal S1x1024 .f32) (i j : Fin 1024)
    (f e : Fin 1024 → EReal) (hz : ∀ k, ∃ r : ℝ, z (ix2 i k) = (r : EReal))
    (hf : ∀ l, (x (ix2 i l) : EReal) + ∑ k : Fin 1024, (o (ix2 i k) : EReal) * Cert.Silu.silu (z (ix2 i k)) * w (ix2 k l) = f l)
    (he : ∀ l, g (ix2 0 l) = e l) :
    k0_pay2 o z x w g (ix2 i j) = normed f e j := by
  pointwise [k0_pay2]
  simp only [fun k => Cert.Silu.eq _ (hz k), hf, he]
  rfl

variable (c : Dev nD) (t : Fin cfg0.N)

theorem x_blk (i j : Fin 1024) (h : t.val < 16) :
    (show FVec Ideal S1024x1024 .f32 from iblk m c 0 t) (ix2 i j)
      = (show FVec Ideal S16384x1024 .f32 from m ((c : Thread nD τ).loc main_arg0)) (ix2 ⟨1024 * t + i, by omega⟩ j) := by
  rw [← V_main_arg0 m c]
  blk_point [iblk, idx t]

theorem z_blk (i j : Fin 1024) (h : t.val < 16) :
    (show FVec Ideal S1024x1024 .bf16 from iblk m c 2 t) (ix2 i j)
      = (show FVec Ideal S16384x1024 .bf16 from m ((c : Thread nD τ).loc main_arg2)) (ix2 ⟨1024 * t + i, by omega⟩ j) := by
  rw [← V_main_arg2 m c]
  blk_point [iblk, idx t]

theorem V_o : (show FVec Ideal S16384x1024 .bf16 from V m c main_v0)
    = shapeCast S16384x1024 (show FVec Ideal S2x8192x1024 .bf16 from m ((c : Thread nD τ).loc main_arg1)) Gen.shapeCasts_S2x8192x1024_S16384x1024 := by
  entry_read; rfl

theorem V_w : (show FVec Ideal S1024x1024 .f32 from V m c main_v1)
    = shapeCast S1024x1024 (show FVec Ideal S1x1024x1024 .f32 from m ((c : Thread nD τ).loc main_arg3)) Gen.shapeCasts_S1x1024x1024_S1024x1024 := by
  entry_read; rfl

theorem V_g : (show FVec Ideal S1x1024 .f32 from V m c main_v2)
    = broadcastInDim S1x1024 ![1] Gen.bcast_S1024_S1x1024_1 (show FVec Ideal S1024 .f32 from m ((c : Thread nD τ).loc main_arg4)) := by
  entry_read; rfl

theorem o_blk (i j : Fin 1024) (h : t.val < 16) :
    (show FVec Ideal S1024x1024 .bf16 from iblk m c 1 t) (ix2 i j)
      = (show FVec Ideal S2x8192x1024 .bf16 from m ((c : Thread nD τ).loc main_arg1))
          (ix3 ⟨(1024 * t + i) / 8192, by omega⟩ ⟨(1024 * t + i) % 8192, by omega⟩ j) := by
  have e : (show FVec Ideal S1024x1024 .bf16 from iblk m c 1 t) (ix2 i j)
      = (show FVec Ideal S16384x1024 .bf16 from V m c main_v0) (ix2 ⟨1024 * t + i, by omega⟩ j) := by
    blk_point [iblk, idx t]
  rw [e, V_o]
  pointwise

theorem w_at (k l : Fin 1024) : (show FVec Ideal S1024x1024 .f32 from V m c main_v1) (ix2 k l)
    = (show FVec Ideal S1x1024x1024 .f32 from m ((c : Thread nD τ).loc main_arg3)) (ix3 0 k l) := by
  rw [V_w]
  pointwise

theorem g_blk (j : Fin 1024) : (show FVec Ideal S1x1024 .f32 from iblk m c 4 t) (ix2 0 j)
    = (show FVec Ideal S1024 .f32 from m ((c : Thread nD τ).loc main_arg4)) (ix1 j) := by
  have e : (show FVec Ideal S1x1024 .f32 from iblk m c 4 t) (ix2 0 j)
      = (show FVec Ideal S1x1024 .f32 from V m c main_v2) (ix2 0 j) := by
    blk_point [iblk, idx t]
  rw [e, V_g]
  pointwise

/-- The result's array after the run. -/
theorem final (hz : ∀ i, ∃ r : ℝ, (show FVec Ideal S16384x1024 .bf16 from m ((c : Thread nD τ).loc main_arg2)) i = r) :
    (dats m 0 c).arrAt 5 (cfgs 0).N
      = resultArr (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t _ y => ?_
  have ht : t.val < 16 := t.isLt
  have h0 : (y 0 : ℕ) < 1024 := (y 0).isLt
  have e0 : ((((cfg0.win 5).blk t).view.emb y) 0 : ℕ) = 1024 * t.val + (y 0 : ℕ) := by blk_simp [idx t]; try omega
  have e1 : ((((cfg0.win 5).blk t).view.emb y) 1 : ℕ) = (y 1 : ℕ) := by blk_simp [idx t]; try omega
  blk_simp
  rw [after0_5, out_eq]
  refine (congrArg (k0_pay2 (F := Ideal) _ _ _ _ _) (eq_ix2 y)).trans ((pay_at _ _ _ _ _ (y 0) (y 1)
    (mix (m ((c : Thread nD τ).loc main_arg0)) (m ((c : Thread nD τ).loc main_arg1)) (m ((c : Thread nD τ).loc main_arg2))
          (m ((c : Thread nD τ).loc main_arg3)) ⟨1024 * t.val + (y 0 : ℕ), by omega⟩) _ (fun k => ?_) (fun l => ?_) (g_blk m c t)).trans ?_)
  · obtain ⟨r, hr⟩ := hz (ix2 ⟨1024 * t.val + (y 0 : ℕ), by omega⟩ k)
    exact ⟨r, (z_blk m c t (y 0) k ht).trans hr⟩
  · unfold mix
    refine congrArg₂ (· + ·) (x_blk m c t (y 0) l ht) (Finset.sum_congr rfl fun k _ => ?_)
    exact congrArg₂ (· * ·) (congrArg₂ (· * ·) (o_blk m c t (y 0) k ht) (congrArg Cert.Silu.silu (z_blk m c t (y 0) k ht))) (w_at m c k l)
  · unfold resultArr
    refine congrArg₂ (fun r j => normed (mix _ _ _ _ r) _ j) (Fin.ext e0.symm) (Fin.ext e1.symm)

end Cert.OddOutIdeal.Hand
-- ==== Proof.OddOutRef.lean ====
/- The reference of the last projection and norm, at an index. -/
module

public import proofs.«01_k».proof.Proof.Gen.OddOutRefIdeal.Run
public import proofs.«01_k».proof.Proof.Silu
public import Idealize.ShloMosaic.Lib.Pointwise

@[expose] public section

set_option maxRecDepth 16384

noncomputable section

namespace Cert.OddOutRefIdeal.Hand

open Cert.OddOutRefIdeal Cert.OddOutRefIdeal.Gen
open Idealize.ShloMosaic Idealize.ShloMosaic.TcCoe Idealize.ShloMosaic.Tactic
open Cert.OddOutRefIdeal.Facts

/-- The sum before the norm. -/
def sums (x : FVec Ideal S16384x1024 .f32) (o : FVec Ideal S2x8192x1024 .bf16) (z : FVec Ideal S16384x1024 .bf16)
    (w : FVec Ideal S1x1024x1024 .f32) : FVec Ideal S16384x1024 .f32 :=
  addf x (Host.dotGeneral dot_S16384x1024_S1024x1024_S16384x1024_1_0_0_1_n_n none
    (mulf (extf .f32 (shapeCast S16384x1024 o shapeCasts_S2x8192x1024_S16384x1024) bitsLt_bf16_f32)
      (mulf (extf .f32 z bitsLt_bf16_f32) (Host.divf (broadcastInDim S16384x1024 ![] bcast_S_S16384x1024 (constant S_ .f32 0x3F800000#32))
        (addf (broadcastInDim S16384x1024 ![] bcast_S_S16384x1024 (constant S_ .f32 0x3F800000#32)) (Host.exp (Host.negf (extf .f32 z bitsLt_bf16_f32)))))))
    (shapeCast S1024x1024 w shapeCasts_S1x1024x1024_S1024x1024))

/-- The root mean square norm with its gains. -/
def norm (s : FVec Ideal S16384x1024 .f32) (g : FVec Ideal S1024 .f32) : FVec Ideal S16384x1024 .f32 :=
  mulf (mulf s (broadcastInDim S16384x1024 ![0, 1] bcast_S16384x1_S16384x1024_0_1 (Host.rsqrt (addf
      (Host.divf (broadcastInDim S16384x1 ![0] bcast_S16384_S16384x1_0 (Host.reduceAdd (mulf s s) (constant S_ .f32 0x00000000#32) reducesTo_S16384x1024_S16384_d1 h_S_))
        (broadcastInDim S16384x1 ![] bcast_S_S16384x1 (constant S_ .f32 0x44800000#32)))
      (broadcastInDim S16384x1 ![] bcast_S_S16384x1 (constant S_ .f32 0x358637BD#32))))))
    (broadcastInDim S16384x1024 ![0, 1] bcast_S1x1024_S16384x1024_0_1 (broadcastInDim S1x1024 ![1] bcast_S1024_S1x1024_1 g))

/-- The sum at an index. -/
theorem sums_at (x : FVec Ideal S16384x1024 .f32) (o : FVec Ideal S2x8192x1024 .bf16) (z : FVec Ideal S16384x1024 .bf16)
    (w : FVec Ideal S1x1024x1024 .f32) (r : Fin 16384) (j : Fin 1024) :
    sums x o z w (ix2 r j) = (x (ix2 r j) + ∑ k : Fin 1024, o (ix3 ⟨r / 8192, by omega⟩ ⟨r % 8192, by omega⟩ k) * Cert.Silu.silu (z (ix2 r k)) * w (ix3 0 k j) : EReal) := by
  pointwise [sums]
  rfl

/-- The norm at an index. -/
theorem norm_at (s : FVec Ideal S16384x1024 .f32) (g : FVec Ideal S1024 .f32) (r : Fin 16384) (j : Fin 1024) :
    norm s g (ix2 r j) = (s (ix2 r j) * Ideal.rsqrt (Ideal.div (∑ l : Fin 1024, s (ix2 r l) * s (ix2 r l)) (Ideal.ofBits .f32 0x44800000#32)
      + Ideal.ofBits .f32 0x358637BD#32) * g (ix1 j) : EReal) := by
  pointwise [norm]

end Cert.OddOutRefIdeal.Hand
-- ==== Proof.OddOutValue.lean ====
/- The kernel of the last projection and norm and its reference leave the same array. -/
module

public import proofs.«01_k».proof.Proof.OddOutIdealValue
public import proofs.«01_k».proof.Proof.OddOutRef
public import proofs.«01_k».proof.Proof.Finite
public import proofs.«01_k».proof.Defs
public import Idealize.ShloMosaic.Lib.Claim

@[expose] public section

set_option maxRecDepth 16384

noncomputable section

namespace Cert.OddOutValue

open Idealize.ShloMosaic Idealize.ShloMosaic.TcCoe Idealize.ShloMosaic.Tactic

/-- The reference is the result as the kernel leaves it. -/
theorem ref_eq (x : FVec Ideal Cert.OddOutIdeal.S16384x1024 .f32) (o : FVec Ideal Cert.OddOutIdeal.S2x8192x1024 .bf16)
    (z : FVec Ideal Cert.OddOutIdeal.S16384x1024 .bf16) (w : FVec Ideal Cert.OddOutIdeal.S1x1024x1024 .f32) (g : FVec Ideal Cert.OddOutIdeal.S1024 .f32) :
    Cert.OddOutRefIdeal.Hand.norm (Cert.OddOutRefIdeal.Hand.sums x o z w) g = Cert.OddOutIdeal.Hand.resultArr x o z w g := by
  funext i
  rw [eq_ix2 i]
  refine (Cert.OddOutRefIdeal.Hand.norm_at _ g (i 0) (i 1)).trans ?_
  exact congrArg (fun f => Cert.Norm.normed f (fun j => g (ix1 j)) (i 1))
    (funext fun l => Cert.OddOutRefIdeal.Hand.sums_at x o z w (i 0) l)

/-- From real gates the kernel and the reference end with the same array. -/
theorem algebraic : Cert.algebraic_OddOutIdeal_OddOutRefIdeal_pre_odd_finite := by
  pair_intro
  · run_from Cert.OddOutIdeal.Gen.run_main m g
    all_goals first
      | exact Cert.OddOutIdeal.Gen.V_main_arg0 m c
      | exact Cert.OddOutIdeal.Gen.V_main_arg1 m c
      | exact Cert.OddOutIdeal.Gen.V_main_arg2 m c
      | exact Cert.OddOutIdeal.Gen.V_main_arg3 m c
      | exact Cert.OddOutIdeal.Gen.V_main_arg4 m c
  · run_from Cert.OddOutRefIdeal.Value.run m' g'
    rw [Cert.OddOutIdeal.Hand.final m c (Cert.Fin.odd _ _ _ _ _ (hpre c))]
    exact ref_eq _ _ _ _ _

end Cert.OddOutValue
-- ==== Proof.EvenInIdealValue.lean ====
/- The first norm, projection and gates: the arrays the kernel leaves. -/
module

public import proofs.«01_k».proof.Proof.Gen.EvenInIdeal.Value
public import proofs.«01_k».proof.Proof.Silu
public import proofs.«01_k».proof.Proof.Norm
public import Idealize.ShloMosaic.Lib.Pipeline.ValueKit
public import Idealize.ShloMosaic.Lib.Claim

@[expose] public section

set_option maxRecDepth 16384

noncomputable section

namespace Cert.EvenInIdeal.Hand

open Cert.EvenInIdeal Cert.EvenInIdeal.Gen
open Idealize.ShloMosaic Idealize.ShloMosaic.TcCoe Idealize.ShloMosaic.Tactic
open Idealize.ShloMosaic.Pipeline (Dat Cfg Window)
open Cert.Norm (normed)

/-- The projection of a normed row, over the kernel's arguments. -/
def proj (x : FVec Ideal S2x8192x1024 .f32) (g : FVec Ideal S1x1024 .f32) (w : FVec Ideal S1x1024x3072 .f32)
    (r : Fin 16384) (j : Fin 3072) : EReal :=
  ∑ k : Fin 1024, normed (fun l => x (ix3 ⟨r / 8192, by omega⟩ ⟨r % 8192, by omega⟩ l)) (fun l => g (ix2 0 l)) k * w (ix3 0 k j)

/-- The first result: the third part times the first. -/
def cxArr (x : FVec Ideal S2x8192x1024 .f32) (g : FVec Ideal S1x1024 .f32) (w : FVec Ideal S1x1024x3072 .f32) : FVec Ideal S16384x512 .bf16 :=
  fun i => (fun (r : Fin 16384) (j : Fin 512) => proj x g w r ⟨1024 + j, by omega⟩ * proj x g w r ⟨j, by omega⟩) (i 0) (i 1)

/-- The second result: the second part times the gate of the fourth. -/
def gaArr (x : FVec Ideal S2x8192x1024 .f32) (g : FVec Ideal S1x1024 .f32) (w : FVec Ideal S1x1024x3072 .f32) : FVec Ideal S16384x512 .bf16 :=
  fun i => (fun (r : Fin 16384) (j : Fin 512) => proj x g w r ⟨512 + j, by omega⟩ * Cert.Silu.silu (proj x g w r ⟨1536 + j, by omega⟩)) (i 0) (i 1)

/-- The third result: the fifth part. -/
def buArr (x : FVec Ideal S2x8192x1024 .f32) (g : FVec Ideal S1x1024 .f32) (w : FVec Ideal S1x1024x3072 .f32) : FVec Ideal S16384x512 .bf16 :=
  fun i => (fun (r : Fin 16384) (j : Fin 512) => proj x g w r ⟨2048 + j, by omega⟩) (i 0) (i 1)

/-- The fourth result: the gate of the sixth part. -/
def gbArr (x : FVec Ideal S2x8192x1024 .f32) (g : FVec Ideal S1x1024 .f32) (w : FVec Ideal S1x1024x3072 .f32) : FVec Ideal S16384x512 .bf16 :=
  fun i => (fun (r : Fin 16384) (j : Fin 512) => Cert.Silu.silu (proj x g w r ⟨2560 + j, by omega⟩)) (i 0) (i 1)

/-- The projection of real numbers is a real number. -/
theorem proj_real (x : FVec Ideal S2x8192x1024 .f32) (g : FVec Ideal S1x1024 .f32) (w : FVec Ideal S1x1024x3072 .f32)
    (hx : ∀ i, ∃ r : ℝ, x i = r) (hg : ∀ i, ∃ r : ℝ, g i = r) (hw : ∀ i, ∃ r : ℝ, w i = r) (r : Fin 16384) (j : Fin 3072) :
    ∃ v : ℝ, proj x g w r j = v :=
  Cert.Norm.real_dot 1024 _ _ (fun k => Cert.Norm.real _ _ (fun _ => hx _) (fun _ => hg _) k) (fun _ => hw _)

/-- The projection of a block, at an index. -/
theorem pay4_at (x : Vec Ideal S1024x1024 .f32) (g : Vec Ideal S1x1024 .f32) (w : Vec Ideal S1024x3072 .bf16) (i : Fin 1024) (j : Fin 3072) :
    k0_pay4 x g w (ix2 i j) = (∑ k : Fin 1024, normed (fun l => x (ix2 i l)) (fun l => g (ix2 0 l)) k * w (ix2 k j) : EReal) := by
  pointwise [k0_pay4]
  rfl

theorem cx_at (x : Vec Ideal S1024x1024 .f32) (g : Vec Ideal S1x1024 .f32) (w : Vec Ideal S1024x3072 .bf16) (i : Fin 1024) (j : Fin 512) :
    k0_pay7 x g w (ix2 i j) = (k0_pay4 x g w (ix2 i ⟨1024 + j, by omega⟩) * k0_pay4 x g w (ix2 i ⟨j, by omega⟩) : EReal) := by
  pointwise [k0_pay7]

theorem ga_at (x : Vec Ideal S1024x1024 .f32) (g : Vec Ideal S1x1024 .f32) (w : Vec Ideal S1024x3072 .bf16) (i : Fin 1024) (j : Fin 512)
    (h : ∀ l, ∃ r : ℝ, k0_pay4 x g w (ix2 i l) = (r : EReal)) :
    k0_pay8 x g w (ix2 i j) = (k0_pay4 x g w (ix2 i ⟨512 + j, by omega⟩) * Cert.Silu.silu (k0_pay4 x g w (ix2 i ⟨1536 + j, by omega⟩)) : EReal) := by
  pointwise [k0_pay8]
  rw [Cert.Silu.eq _ (h _)]

theorem bu_at (x : Vec Ideal S1024x1024 .f32) (g : Vec Ideal S1x1024 .f32) (w : Vec Ideal S1024x3072 .bf16) (i : Fin 1024) (j : Fin 512) :
    k0_pay1 (k0_pay5 x g w) (ix2 i j) = (k0_pay4 x g w (ix2 i ⟨2048 + j, by omega⟩) : EReal) := by
  pointwise [k0_pay1, k0_pay5]

theorem gb_at (x : Vec Ideal S1024x1024 .f32) (g : Vec Ideal S1x1024 .f32) (w : Vec Ideal S1024x3072 .bf16) (i : Fin 1024) (j : Fin 512)
    (h : ∀ l, ∃ r : ℝ, k0_pay4 x g w (ix2 i l) = (r : EReal)) :
    k0_pay2 (k0_pay6 x g w) (ix2 i j) = (Cert.Silu.silu (k0_pay4 x g w (ix2 i ⟨2560 + j, by omega⟩)) : EReal) := by
  pointwise [k0_pay2, k0_pay6]
  rw [Cert.Silu.eq _ (h _)]

variable (m : (ℓ : Loc nD τ sig) → Buf (Elt Ideal) ℓ)

/-- The blocks the windows stand at, point by point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0] :=
  (by decide +kernel : ∀ t : Fin grid0.N, _)

/-- Every point reads the whole weights. -/
theorem w_blk (c : Dev nD) (t : Fin cfg0.N) (k : Fin 1024) (l : Fin 3072) :
    (show FVec Ideal S1024x3072 .f32 from iblk m c 2 t) (ix2 k l)
      = (show FVec Ideal S1024x3072 .f32 from V m c main_v3) (ix2 k l) := by
  blk_point [iblk, idx t]

/-- The weights the kernel keeps from its first point on. -/
theorem scr (c : Dev nD) (n : ℕ) (hn : n < cfg0.N) (k : Fin 1024) (l : Fin 3072) :
    (outsAt0 m c n hn).2.2.2.2 (ix2 k l) = (show FVec Ideal S1024x3072 .f32 from V m c main_v3) (ix2 k l) := by
  induction n with
  | zero =>
    rw [outsAt0_A m c ⟨0, hn⟩ rfl]
    frame_out
    refine Eq.trans ?_ (w_blk m c ⟨0, hn⟩ k l)
    pointwise [k0_pay3]
  | succ n ih =>
    have h : ¬ (n + 1) % 16 = 0 := by
      have h16 : cfg0.N = 16 := by decide +kernel
      omega
    rw [outsAt0_B m c ⟨n + 1, hn⟩ h]
    frame_out
    exact ih _

/-- The weights, as the kernel reads them. -/
def wts (c : Dev nD) : Vec Ideal S1024x3072 .bf16 := fun i => (show FVec Ideal S1024x3072 .f32 from V m c main_v3) i

/-- The results' blocks at a point. -/
theorem out_eq (c : Dev nD) (t : Fin cfg0.N) :
    (outsAt0 m c t.val t.isLt).1 = k0_pay7 (iblk m c 0 t) (iblk m c 1 t) (wts m c)
    ∧ (outsAt0 m c t.val t.isLt).2.1 = k0_pay8 (iblk m c 0 t) (iblk m c 1 t) (wts m c)
    ∧ (outsAt0 m c t.val t.isLt).2.2.1 = k0_pay1 (k0_pay5 (iblk m c 0 t) (iblk m c 1 t) (wts m c))
    ∧ (outsAt0 m c t.val t.isLt).2.2.2.1 = k0_pay2 (k0_pay6 (iblk m c 0 t) (iblk m c 1 t) (wts m c)) := by
  by_cases h : t.val % 16 = 0
  · have hw : k0_pay3 (F := Ideal) (iblk m c 2 t) = wts m c := funext fun i => by
      rw [eq_ix2 i]
      refine Eq.trans ?_ (w_blk m c t (i 0) (i 1))
      pointwise [k0_pay3]
    rw [outsAt0_A m c t h, ← hw]
    refine ⟨?_, ?_, ?_, ?_⟩ <;> frame_out
  · have hs : (outsAt0 m c (t.val - 1) (by omega)).2.2.2.2 = wts m c :=
      funext fun i => by rw [eq_ix2 i]; exact scr m c _ _ _ _
    rw [outsAt0_B m c t h, hs]
    refine ⟨?_, ?_, ?_, ?_⟩ <;> frame_out
    · exact congrArg (fun w => k0_pay7 _ _ w) (Memref.IsWhole.read_unread _ _)
    · exact congrArg (fun w => k0_pay8 _ _ w) (Memref.IsWhole.read_unread _ _)
    · exact congrArg (fun w => k0_pay1 (k0_pay5 _ _ w)) (Memref.IsWhole.read_unread _ _)
    · exact congrArg (fun w => k0_pay2 (k0_pay6 _ _ w)) (Memref.IsWhole.read_unread _ _)

variable (c : Dev nD) (t : Fin cfg0.N)

theorem V_x : (show FVec Ideal S16384x1024 .f32 from V m c main_v0)
    = shapeCast S16384x1024 (show FVec Ideal S2x8192x1024 .f32 from m ((c : Thread nD τ).loc main_arg0)) Gen.shapeCasts_S2x8192x1024_S16384x1024 := by
  entry_read; rfl

theorem V_w : (show FVec Ideal S1024x3072 .f32 from V m c main_v3)
    = shapeCast S1024x3072 (show FVec Ideal S1x1024x3072 .f32 from m ((c : Thread nD τ).loc main_arg2)) Gen.shapeCasts_S1x1024x3072_S1024x3072 := by
  entry_read; rfl

theorem V_g : (show FVec Ideal S1x1024 .f32 from V m c main_v2)
    = broadcastInDim S1x1024 ![1] Gen.bcast_S1024_S1x1024_1
        (shapeCast S1024 (show FVec Ideal S1x1024 .f32 from m ((c : Thread nD τ).loc main_arg1)) Gen.shapeCasts_S1x1024_S1024) := by
  entry_read; rfl

theorem x_blk (i j : Fin 1024) (h : t.val < 16) :
    (show FVec Ideal S1024x1024 .f32 from iblk m c 0 t) (ix2 i j)
      = (show FVec Ideal S2x8192x1024 .f32 from m ((c : Thread nD τ).loc main_arg0))
          (ix3 ⟨(1024 * t + i) / 8192, by omega⟩ ⟨(1024 * t + i) % 8192, by omega⟩ j) := by
  have e : (show FVec Ideal S1024x1024 .f32 from iblk m c 0 t) (ix2 i j)
      = (show FVec Ideal S16384x1024 .f32 from V m c main_v0) (ix2 ⟨1024 * t + i, by omega⟩ j) := by
    blk_point [iblk, idx t]
  rw [e, V_x]
  pointwise

theorem g_blk (j : Fin 1024) : (show FVec Ideal S1x1024 .f32 from iblk m c 1 t) (ix2 0 j)
    = (show FVec Ideal S1x1024 .f32 from m ((c : Thread nD τ).loc main_arg1)) (ix2 0 j) := by
  have e : (show FVec Ideal S1x1024 .f32 from iblk m c 1 t) (ix2 0 j)
      = (show FVec Ideal S1x1024 .f32 from V m c main_v2) (ix2 0 j) := by
    blk_point [iblk, idx t]
  rw [e, V_g]
  pointwise

theorem w_at (k : Fin 1024) (l : Fin 3072) : wts m c (ix2 k l)
    = (show FVec Ideal S1x1024x3072 .f32 from m ((c : Thread nD τ).loc main_arg2)) (ix3 0 k l) := by
  show (show FVec Ideal S1024x3072 .f32 from V m c main_v3) (ix2 k l) = _
  rw [V_w]
  pointwise

/-- The projection of a point's row is that of the whole array's. -/
theorem proj_blk (i : Fin 1024) (l : Fin 3072) (h : t.val < 16) (r : Fin 16384) (hr : (r : ℕ) = 1024 * t + i) :
    k0_pay4 (iblk m c 0 t) (iblk m c 1 t) (wts m c) (ix2 i l)
      = proj (m ((c : Thread nD τ).loc main_arg0)) (m ((c : Thread nD τ).loc main_arg1)) (m ((c : Thread nD τ).loc main_arg2)) r l := by
  have hlt : 1024 * t.val + i.val < 16384 := by clear hr; omega
  have er : r = ⟨1024 * t + i, hlt⟩ := Fin.ext hr
  rw [er]
  refine (pay4_at _ _ _ i l).trans (Finset.sum_congr rfl fun k _ => congrArg₂ (· * ·) ?_ (w_at m c k l))
  exact congrArg₂ (fun f g => normed f g k) (funext fun l => x_blk m c t i l h) (funext fun l => g_blk m c t l)

/-- The first result's array after the run. -/
theorem final3 :
    (dats m 0 c).arrAt 3 (cfgs 0).N
      = cxArr (m ((c : Thread nD τ).loc main_arg0)) (m ((c : Thread nD τ).loc main_arg1)) (m ((c : Thread nD τ).loc main_arg2)) := by
  refine (dats m 0 c).arrAt_eq_of_covers 3 _ (by decide +kernel) fun t _ y => ?_
  have ht : t.val < 16 := t.isLt
  have e0 : ((((cfg0.win 3).blk t).view.emb y) 0 : ℕ) = 1024 * t.val + (y 0 : ℕ) := by blk_simp [idx t]; try omega
  have e1 : ((((cfg0.win 3).blk t).view.emb y) 1 : Fin 512) = y 1 := Fin.ext (by blk_simp [idx t]; try omega)
  blk_simp
  rw [after0_3, (out_eq m c t).1]
  refine (congrArg (k0_pay7 (F := Ideal) _ _ _ : S1024x512.Idx → EReal) (eq_ix2 y)).trans ((cx_at _ _ _ (y 0) (y 1)).trans ?_)
  unfold cxArr
  rw [e1]
  exact congrArg₂ (· * ·) (proj_blk m c t _ _ ht _ e0) (proj_blk m c t _ _ ht _ e0)

/-- The second result's array after the run. -/
theorem final4
    (hx : ∀ i, ∃ r : ℝ, (show FVec Ideal S2x8192x1024 .f32 from m ((c : Thread nD τ).loc main_arg0)) i = r)
    (hg : ∀ i, ∃ r : ℝ, (show FVec Ideal S1x1024 .f32 from m ((c : Thread nD τ).loc main_arg1)) i = r)
    (hw : ∀ i, ∃ r : ℝ, (show FVec Ideal S1x1024x3072 .f32 from m ((c : Thread nD τ).loc main_arg2)) i = r) :
    (dats m 0 c).arrAt 4 (cfgs 0).N
      = gaArr (m ((c : Thread nD τ).loc main_arg0)) (m ((c : Thread nD τ).loc main_arg1)) (m ((c : Thread nD τ).loc main_arg2)) := by
  refine (dats m 0 c).arrAt_eq_of_covers 4 _ (by decide +kernel) fun t _ y => ?_
  have ht : t.val < 16 := t.isLt
  have e0 : ((((cfg0.win 4).blk t).view.emb y) 0 : ℕ) = 1024 * t.val + (y 0 : ℕ) := by blk_simp [idx t]; try omega
  have e1 : ((((cfg0.win 4).blk t).view.emb y) 1 : Fin 512) = y 1 := Fin.ext (by blk_simp [idx t]; try omega)
  blk_simp
  rw [after0_4, (out_eq m c t).2.1]
  refine (congrArg (k0_pay8 (F := Ideal) _ _ _ : S1024x512.Idx → EReal) (eq_ix2 y)).trans ((ga_at _ _ _ (y 0) (y 1) (fun l => by
    obtain ⟨v, hv⟩ := proj_real _ _ _ hx hg hw _ l
    exact ⟨v, (proj_blk m c t _ l ht _ e0).trans hv⟩)).trans ?_)
  unfold gaArr
  rw [e1]
  exact congrArg₂ (· * ·) (proj_blk m c t _ _ ht _ e0) (congrArg Cert.Silu.silu (proj_blk m c t _ _ ht _ e0))

/-- The third result's array after the run. -/
theorem final5 :
    (dats m 0 c).arrAt 5 (cfgs 0).N
      = buArr (m ((c : Thread nD τ).loc main_arg0)) (m ((c : Thread nD τ).loc main_arg1)) (m ((c : Thread nD τ).loc main_arg2)) := by
  refine (dats m 0 c).arrAt_eq_of_covers 5 _ (by decide +kernel) fun t _ y => ?_
  have ht : t.val < 16 := t.isLt
  have e0 : ((((cfg0.win 5).blk t).view.emb y) 0 : ℕ) = 1024 * t.val + (y 0 : ℕ) := by blk_simp [idx t]; try omega
  have e1 : ((((cfg0.win 5).blk t).view.emb y) 1 : Fin 512) = y 1 := Fin.ext (by blk_simp [idx t]; try omega)
  blk_simp
  rw [after0_5, (out_eq m c t).2.2.1]
  refine (congrArg (k0_pay1 (F := Ideal) _ : S1024x512.Idx → EReal) (eq_ix2 y)).trans ((bu_at _ _ _ (y 0) (y 1)).trans ?_)
  unfold buArr
  rw [e1]
  exact proj_blk m c t _ _ ht _ e0

/-- The fourth result's array after the run. -/
theorem final6
    (hx : ∀ i, ∃ r : ℝ, (show FVec Ideal S2x8192x1024 .f32 from m ((c : Thread nD τ).loc main_arg0)) i = r)
    (hg : ∀ i, ∃ r : ℝ, (show FVec Ideal S1x1024 .f32 from m ((c : Thread nD τ).loc main_arg1)) i = r)
    (hw : ∀ i, ∃ r : ℝ, (show FVec Ideal S1x1024x3072 .f32 from m ((c : Thread nD τ).loc main_arg2)) i = r) :
    (dats m 0 c).arrAt 6 (cfgs 0).N
      = gbArr (m ((c : Thread nD τ).loc main_arg0)) (m ((c : Thread nD τ).loc main_arg1)) (m ((c : Thread nD τ).loc main_arg2)) := by
  refine (dats m 0 c).arrAt_eq_of_covers 6 _ (by decide +kernel) fun t _ y => ?_
  have ht : t.val < 16 := t.isLt
  have e0 : ((((cfg0.win 6).blk t).view.emb y) 0 : ℕ) = 1024 * t.val + (y 0 : ℕ) := by blk_simp [idx t]; try omega
  have e1 : ((((cfg0.win 6).blk t).view.emb y) 1 : Fin 512) = y 1 := Fin.ext (by blk_simp [idx t]; try omega)
  blk_simp
  rw [after0_6, (out_eq m c t).2.2.2]
  refine (congrArg (k0_pay2 (F := Ideal) _ : S1024x512.Idx → EReal) (eq_ix2 y)).trans ((gb_at _ _ _ (y 0) (y 1) (fun l => by
    obtain ⟨v, hv⟩ := proj_real _ _ _ hx hg hw _ l
    exact ⟨v, (proj_blk m c t _ l ht _ e0).trans hv⟩)).trans ?_)
  unfold gbArr
  rw [e1]
  exact congrArg Cert.Silu.silu (proj_blk m c t _ _ ht _ e0)

end Cert.EvenInIdeal.Hand
-- ==== Proof.EvenInRef.lean ====
/- The reference of the first norm, projection and gates, at an index. -/
module

public import proofs.«01_k».proof.Proof.Gen.EvenInRefIdeal.Run
public import proofs.«01_k».proof.Proof.Silu
public import proofs.«01_k».proof.Proof.Norm
public import Idealize.ShloMosaic.Lib.Pointwise

@[expose] public section

set_option maxRecDepth 16384

noncomputable section

namespace Cert.EvenInRefIdeal.Hand

open Cert.EvenInRefIdeal Cert.EvenInRefIdeal.Gen
open Idealize.ShloMosaic Idealize.ShloMosaic.TcCoe Idealize.ShloMosaic.Tactic
open Cert.EvenInRefIdeal.Facts
open Cert.Norm (normed)

/-- The normed input. -/
def norm (x : FVec Ideal S2x8192x1024 .f32) (g : FVec Ideal S1x1024 .f32) : FVec Ideal S2x8192x1024 .f32 :=
  mulf (mulf x (broadcastInDim S2x8192x1024 ![0, 1, 2] bcast_S2x8192x1_S2x8192x1024_0_1_2 (Host.rsqrt (addf
      (Host.divf (broadcastInDim S2x8192x1 ![0, 1] bcast_S2x8192_S2x8192x1_0_1 (Host.reduceAdd (mulf x x) (constant S_ .f32 0x00000000#32) reducesTo_S2x8192x1024_S2x8192_d2 h_S_))
        (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2
      (broadcastInDim S1x1x1024 ![2] bcast_S1024_S1x1x1024_2 (shapeCast S1024 g shapeCasts_S1x1024_S1024)))

/-- Its projection. -/
def proj (x : FVec Ideal S2x8192x1024 .f32) (g : FVec Ideal S1x1024 .f32) (w : FVec Ideal S1x1024x3072 .f32) : FVec Ideal S2x8192x3072 .f32 :=
  Host.dotGeneral dot_S2x8192x1024_S1024x3072_S2x8192x3072_2_0_01_1_n_n none (norm x g) (shapeCast S1024x3072 w shapeCasts_S1x1024x3072_S1024x3072)

/-- The gate. -/
def gate (z : FVec Ideal S2x8192x512 .f32) : FVec Ideal S2x8192x512 .f32 :=
  mulf z (Host.divf (broadcastInDim S2x8192x512 ![] bcast_S_S2x8192x512 (constant S_ .f32 0x3F800000#32))
    (addf (broadcastInDim S2x8192x512 ![] bcast_S_S2x8192x512 (constant S_ .f32 0x3F800000#32)) (Host.exp (Host.negf z))))

/-- The four results, over the projection. -/
def cx (p : FVec Ideal S2x8192x3072 .f32) : FVec Ideal S16384x512 .bf16 :=
  truncf .bf16 (shapeCast S16384x512 (mulf (extractStridedSlice S2x8192x512 ![0, 0, 1024] p slices_S2x8192x3072_S2x8192x512_0_0_1024)
    (extractStridedSlice S2x8192x512 ![0, 0, 0] p slices_S2x8192x3072_S2x8192x512_0_0_0)) shapeCasts_S2x8192x512_S16384x512) bitsLt_bf16_f32

def ga (p : FVec Ideal S2x8192x3072 .f32) : FVec Ideal S16384x512 .bf16 :=
  truncf .bf16 (shapeCast S16384x512 (mulf (extractStridedSlice S2x8192x512 ![0, 0, 512] p slices_S2x8192x3072_S2x8192x512_0_0_512)
    (gate (extractStridedSlice S2x8192x512 ![0, 0, 1536] p slices_S2x8192x3072_S2x8192x512_0_0_1536))) shapeCasts_S2x8192x512_S16384x512) bitsLt_bf16_f32

def bu (p : FVec Ideal S2x8192x3072 .f32) : FVec Ideal S16384x512 .bf16 :=
  truncf .bf16 (shapeCast S16384x512 (extractStridedSlice S2x8192x512 ![0, 0, 2048] p slices_S2x8192x3072_S2x8192x512_0_0_2048)
    shapeCasts_S2x8192x512_S16384x512) bitsLt_bf16_f32

def gb (p : FVec Ideal S2x8192x3072 .f32) : FVec Ideal S16384x512 .bf16 :=
  truncf .bf16 (shapeCast S16384x512 (gate (extractStridedSlice S2x8192x512 ![0, 0, 2560] p slices_S2x8192x3072_S2x8192x512_0_0_2560))
    shapeCasts_S2x8192x512_S16384x512) bitsLt_bf16_f32

/-- The normed input at an index. -/
theorem norm_at (x : FVec Ideal S2x8192x1024 .f32) (g : FVec Ideal S1x1024 .f32) (b : Fin 2) (s : Fin 8192) (k : Fin 1024) :
    norm x g (ix3 b s k) = normed (fun l => x (ix3 b s l)) (fun l => g (ix2 0 l)) k := by
  pointwise [norm]
  rfl

/-- The projection at an index. -/
theorem proj_at (x : FVec Ideal S2x8192x1024 .f32) (g : FVec Ideal S1x1024 .f32) (w : FVec Ideal S1x1024x3072 .f32) (b : Fin 2) (s : Fin 8192) (j : Fin 3072) :
    proj x g w (ix3 b s j) = (∑ k : Fin 1024, normed (fun l => x (ix3 b s l)) (fun l => g (ix2 0 l)) k * w (ix3 0 k j) : EReal) := by
  simp only [← norm_at]
  pointwise [proj]

/-- The gate at an index. -/
theorem gate_at (z : FVec Ideal S2x8192x512 .f32) (i : S2x8192x512.Idx) : gate z i = Cert.Silu.silu (z i) := by
  pointwise [gate]
  rfl

theorem cx_at (p : FVec Ideal S2x8192x3072 .f32) (r : Fin 16384) (j : Fin 512) :
    cx p (ix2 r j) = (p (ix3 ⟨r / 8192, by omega⟩ ⟨r % 8192, by omega⟩ ⟨1024 + j, by omega⟩) * p (ix3 ⟨r / 8192, by omega⟩ ⟨r % 8192, by omega⟩ ⟨j, by omega⟩) : EReal) := by
  pointwise [cx]

theorem ga_at (p : FVec Ideal S2x8192x3072 .f32) (r : Fin 16384) (j : Fin 512) :
    ga p (ix2 r j) = (p (ix3 ⟨r / 8192, by omega⟩ ⟨r % 8192, by omega⟩ ⟨512 + j, by omega⟩)
      * Cert.Silu.silu (p (ix3 ⟨r / 8192, by omega⟩ ⟨r % 8192, by omega⟩ ⟨1536 + j, by omega⟩)) : EReal) := by
  pointwise [ga, gate]
  rfl

theorem bu_at (p : FVec Ideal S2x8192x3072 .f32) (r : Fin 16384) (j : Fin 512) :
    bu p (ix2 r j) = p (ix3 ⟨r / 8192, by omega⟩ ⟨r % 8192, by omega⟩ ⟨2048 + j, by omega⟩) := by
  pointwise [bu]

theorem gb_at (p : FVec Ideal S2x8192x3072 .f32) (r : Fin 16384) (j : Fin 512) :
    gb p (ix2 r j) = (Cert.Silu.silu (p (ix3 ⟨r / 8192, by omega⟩ ⟨r % 8192, by omega⟩ ⟨2560 + j, by omega⟩)) : EReal) := by
  pointwise [gb, gate]
  rfl

end Cert.EvenInRefIdeal.Hand
-- ==== Proof.EvenInValue.lean ====
/- The kernel of the first norm, projection and gates and its reference leave the same four arrays. -/
module

public import proofs.«01_k».proof.Proof.EvenInIdealValue
public import proofs.«01_k».proof.Proof.EvenInRef
public import proofs.«01_k».proof.Proof.Finite
public import proofs.«01_k».proof.Defs
public import Idealize.ShloMosaic.Lib.Claim

@[expose] public section

set_option maxRecDepth 16384

noncomputable section

namespace Cert.EvenInValue

open Idealize.ShloMosaic Idealize.ShloMosaic.TcCoe Idealize.ShloMosaic.Tactic

/-- The first result of the reference is the kernel's. -/
theorem cx_eq (x : FVec Ideal Cert.EvenInIdeal.S2x8192x1024 .f32) (g : FVec Ideal Cert.EvenInIdeal.S1x1024 .f32) (w : FVec Ideal Cert.EvenInIdeal.S1x1024x3072 .f32) :
    Cert.EvenInRefIdeal.Hand.cx (Cert.EvenInRefIdeal.Hand.proj x g w) = Cert.EvenInIdeal.Hand.cxArr x g w := by
  funext i
  rw [eq_ix2 i]
  exact (Cert.EvenInRefIdeal.Hand.cx_at _ (i 0) (i 1)).trans (congrArg₂ (· * ·) (Cert.EvenInRefIdeal.Hand.proj_at x g w _ _ _) (Cert.EvenInRefIdeal.Hand.proj_at x g w _ _ _))

/-- The second. -/
theorem ga_eq (x : FVec Ideal Cert.EvenInIdeal.S2x8192x1024 .f32) (g : FVec Ideal Cert.EvenInIdeal.S1x1024 .f32) (w : FVec Ideal Cert.EvenInIdeal.S1x1024x3072 .f32) :
    Cert.EvenInRefIdeal.Hand.ga (Cert.EvenInRefIdeal.Hand.proj x g w) = Cert.EvenInIdeal.Hand.gaArr x g w := by
  funext i
  rw [eq_ix2 i]
  exact (Cert.EvenInRefIdeal.Hand.ga_at _ (i 0) (i 1)).trans (congrArg₂ (· * ·) (Cert.EvenInRefIdeal.Hand.proj_at x g w _ _ _) (congrArg Cert.Silu.silu (Cert.EvenInRefIdeal.Hand.proj_at x g w _ _ _)))

/-- The third. -/
theorem bu_eq (x : FVec Ideal Cert.EvenInIdeal.S2x8192x1024 .f32) (g : FVec Ideal Cert.EvenInIdeal.S1x1024 .f32) (w : FVec Ideal Cert.EvenInIdeal.S1x1024x3072 .f32) :
    Cert.EvenInRefIdeal.Hand.bu (Cert.EvenInRefIdeal.Hand.proj x g w) = Cert.EvenInIdeal.Hand.buArr x g w := by
  funext i
  rw [eq_ix2 i]
  exact (Cert.EvenInRefIdeal.Hand.bu_at _ (i 0) (i 1)).trans (Cert.EvenInRefIdeal.Hand.proj_at x g w _ _ _)

/-- The fourth. -/
theorem gb_eq (x : FVec Ideal Cert.EvenInIdeal.S2x8192x1024 .f32) (g : FVec Ideal Cert.EvenInIdeal.S1x1024 .f32) (w : FVec Ideal Cert.EvenInIdeal.S1x1024x3072 .f32) :
    Cert.EvenInRefIdeal.Hand.gb (Cert.EvenInRefIdeal.Hand.proj x g w) = Cert.EvenInIdeal.Hand.gbArr x g w := by
  funext i
  rw [eq_ix2 i]
  exact (Cert.EvenInRefIdeal.Hand.gb_at _ (i 0) (i 1)).trans (congrArg Cert.Silu.silu (Cert.EvenInRefIdeal.Hand.proj_at x g w _ _ _))

/-- From real arguments the kernel and the reference end with the same four arrays. -/
theorem algebraic : Cert.algebraic_EvenInIdeal_EvenInRefIdeal_pre_even_finite := by
  pair_intro
  · run_from Cert.EvenInIdeal.Gen.run_main m g
    all_goals first
      | exact Cert.EvenInIdeal.Gen.V_main_arg0 m c
      | exact Cert.EvenInIdeal.Gen.V_main_arg1 m c
      | exact Cert.EvenInIdeal.Gen.V_main_arg2 m c
  · run_from Cert.EvenInRefIdeal.Value.run m' g'
    all_goals obtain ⟨hx, hg, hw⟩ := Cert.Fin.even _ _ _ (hpre c)
    · rw [Cert.EvenInIdeal.Hand.final3 m c]
      exact cx_eq _ _ _
    · rw [Cert.EvenInIdeal.Hand.final4 m c hx hg hw]
      exact ga_eq _ _ _
    · rw [Cert.EvenInIdeal.Hand.final5 m c]
      exact bu_eq _ _ _
    · rw [Cert.EvenInIdeal.Hand.final6 m c hx hg hw]
      exact gb_eq _ _ _

end Cert.EvenInValue
-- ==== Proof.MidRow.lean ====
/- The mathematics of the middle call: the convolution's row, the second norm's projection, a head's norm and turn, and
   the five results over the arguments. -/
module

public import proofs.«01_k».proof.Proof.Norm

@[expose] public section

noncomputable section

namespace Cert.MidRow

open Idealize.ShloMosaic

/-- A head divided by its root mean square, times the gains, at a lane. -/
def headNormed (f g : Fin 128 → EReal) (j : Fin 128) : EReal :=
  f j * Ideal.rsqrt (Ideal.div (∑ l, f l * f l) (Ideal.ofBits .f32 0x43000000#32) + Ideal.ofBits .f32 0x358637BD#32) * g j

/-- The other lane of a lane's pair. -/
def partner (d : Fin 128) : Fin 128 := if (d : ℕ) % 2 = 0 then ⟨((d : ℕ) + 1) % 128, by omega⟩ else ⟨((d : ℕ) + 127) % 128, by omega⟩

/-- A head turned by its position's cosines and signed sines. -/
def turned (f c s : Fin 128 → EReal) (d : Fin 128) : EReal := f d * c d + f (partner d) * s d

/-- One in the first of some rows or lanes, zero in the others. -/
def first (d : ℕ) : EReal := if d = 0 then 1 else 0

/-- A query head's column: the turned head times the score scale, and below it the row of ones. -/
def query (f g c s : Fin 128 → EReal) (d : Fin 256) : EReal :=
  if h : (d : ℕ) < 128 then turned (headNormed f g) c s ⟨d, h⟩ * Ideal.ofBits .f32 0x3E0293EE#32 else first (d - 128)

/-- A key head's row: the turned head, and behind it minus the shift in the first lane. -/
def key (f g c s : Fin 128 → EReal) (σ : EReal) (d : Fin 256) : EReal :=
  if h : (d : ℕ) < 128 then turned (headNormed f g) c s ⟨d, h⟩ else if (d : ℕ) = 128 then -σ else 0

/-- A value head's column: the head, and below it the row of ones. -/
def value (f : Fin 128 → EReal) (d : Fin 144) : EReal := if h : (d : ℕ) < 128 then f ⟨d, h⟩ else first (d - 128)

/-- The gated row the output projection reads: the convolution of three rows, and the product of the transformed half with its gate. -/
def gated (u v w ga f gb : Fin 512 → EReal) (t : Fin 3 → Fin 512 → EReal) (j : Fin 1024) : EReal :=
  if h : (j : ℕ) < 512 then ga ⟨j, h⟩ * (u ⟨j, h⟩ * t 0 ⟨j, h⟩ + v ⟨j, h⟩ * t 1 ⟨j, h⟩ + w ⟨j, h⟩ * t 2 ⟨j, h⟩)
  else f ⟨j - 512, by omega⟩ * gb ⟨j - 512, by omega⟩

/-- A row plus the output projection of its gated row. -/
def added (x y : Fin 1024 → EReal) (w : Fin 1024 → Fin 1024 → EReal) (j : Fin 1024) : EReal := x j + ∑ k, y k * w k j

/-- The second projection of the normed row. -/
def projected (x g : Fin 1024 → EReal) (w : Fin 1024 → Fin 2560 → EReal) (l : Fin 2560) : EReal :=
  ∑ k, Cert.Norm.normed x g k * w k l

/-- The largest magnitude of the gains. -/
def largest (g : Fin 128 → EReal) : EReal :=
  Finset.univ.fold max (Ideal.ofBits .f32 0xFF800000#32) fun l => FloatOps.absf (F := Ideal) (φ := .f32) (g l)

/-- The bound of the scores. -/
def shift (q k : Fin 128 → EReal) : EReal := Ideal.ofBits .f32 0x4183E235#32 * largest q * largest k

/-- The call's arguments. -/
structure Args where
  x : Fin 2 → Fin 8192 → Fin 1024 → EReal
  cx : Fin 16384 → Fin 512 → EReal
  ga : Fin 16384 → Fin 512 → EReal
  f : Fin 16384 → Fin 512 → EReal
  gb : Fin 16384 → Fin 512 → EReal
  t : Fin 3 → Fin 512 → EReal
  wo : Fin 1024 → Fin 1024 → EReal
  g : Fin 1024 → EReal
  wi : Fin 1024 → Fin 2560 → EReal
  qg : Fin 128 → EReal
  kg : Fin 128 → EReal
  cos : Fin 8192 → Fin 64 → EReal
  sin : Fin 8192 → Fin 64 → EReal

namespace Args

variable (a : Args)

/-- The row above a row, zero above a sequence's first. -/
def above (r : Fin 16384) (j : Fin 512) : EReal := if (r : ℕ) % 8192 = 0 then 0 else a.cx ⟨r - 1, by omega⟩ j

/-- The row below a row, zero below a sequence's last. -/
def below (r : Fin 16384) (j : Fin 512) : EReal := if h : (r : ℕ) % 8192 = 8191 then 0 else a.cx ⟨r + 1, by omega⟩ j

/-- The gated row. -/
def y (r : Fin 16384) : Fin 1024 → EReal := gated (a.above r) (a.cx r) (a.below r) (a.ga r) (a.f r) (a.gb r) a.t

/-- The first result: the input plus the output projection. -/
def x1 (r : Fin 16384) : Fin 1024 → EReal := added (a.x ⟨r / 8192, by omega⟩ ⟨r % 8192, by omega⟩) (a.y r) a.wo

/-- The second projection. -/
def p (r : Fin 16384) : Fin 2560 → EReal := projected (a.x1 r) a.g a.wi

/-- The cosine of a lane. -/
def c (s : Fin 8192) (d : Fin 128) : EReal := a.cos s ⟨d / 2, by omega⟩

/-- The signed sine of a lane: minus the sine in the even lanes. -/
def sn (s : Fin 8192) (d : Fin 128) : EReal := if (d : ℕ) % 2 = 0 then -a.sin s ⟨d / 2, by omega⟩ else a.sin s ⟨d / 2, by omega⟩

/-- The second result: the query heads. -/
def q (b : Fin 2) (h : Fin 8) (d : Fin 256) (s : Fin 8192) : EReal :=
  query (fun l => a.p ⟨8192 * b + s, by omega⟩ ⟨128 * h + l, by omega⟩) a.qg (a.c s) (a.sn s) d

/-- The third result: the key heads. -/
def k (b : Fin 2) (h : Fin 2) (s : Fin 8192) (d : Fin 256) : EReal :=
  key (fun l => a.p ⟨8192 * b + s, by omega⟩ ⟨1024 + 128 * h + l, by omega⟩) a.kg (a.c s) (a.sn s) (shift a.qg a.kg) d

/-- The fourth result: the value heads. -/
def v (b : Fin 2) (h : Fin 2) (d : Fin 144) (s : Fin 8192) : EReal :=
  value (fun l => a.p ⟨8192 * b + s, by omega⟩ ⟨1280 + 128 * h + l, by omega⟩) d

/-- The fifth result: the gate's preimage. -/
def z (r : Fin 16384) (j : Fin 1024) : EReal := a.p r ⟨1536 + j, by omega⟩

end Args

end Cert.MidRow

end
-- ==== Proof.MidIdealPay.lean ====
/- The middle kernel's stored values, at an index. -/
module

public import proofs.«01_k».proof.Proof.Gen.MidIdeal.Skeleton
public import proofs.«01_k».proof.Proof.MidRow
public import Idealize.ShloMosaic.Lib.Pipeline.ValueKit

@[expose] public section

set_option maxRecDepth 16384

noncomputable section

namespace Cert.MidIdeal.Hand

open Cert.MidIdeal Cert.MidIdeal.Gen
open Idealize.ShloMosaic Idealize.ShloMosaic.TcCoe Idealize.ShloMosaic.Tactic
open Cert.MidRow

/-- An index is in the first part or behind it. -/
theorem halves (m k : ℕ) {n : ℕ} (hn : m + k = n) (P : Fin n → Prop) (h1 : ∀ e : Fin m, P ⟨e, by omega⟩)
    (h2 : ∀ e : Fin k, P ⟨m + e, by omega⟩) (d : Fin n) : P d := by
  by_cases h : (d : ℕ) < m
  · exact h1 ⟨d, h⟩
  · have e : (⟨m + (⟨d - m, by omega⟩ : Fin k), by omega⟩ : Fin n) = d := Fin.ext (by show m + ((d : ℕ) - m) = d; omega)
    exact e ▸ h2 ⟨d - m, by omega⟩

/-- The bit of the even lanes. -/
theorem lane_at (r : Fin 256) (d : Fin 128) : k0_pay7 (ix2 r d) = if (d : ℕ) % 2 = 0 then 1#1 else 0#1 := by
  pointwise [k0_pay7]
  revert d
  decide

/-- Two small numbers compared. -/
theorem eq_bit (n k : ℕ) (h : n < 2 ^ 32) (hk : k < 2 ^ 32) : IntOp.cmpi .eq (BitVec.ofNat 32 n) (BitVec.ofNat 32 k) = if n = k then 1#1 else 0#1 := by
  have e : (BitVec.ofNat 32 n == BitVec.ofNat 32 k) = decide (n = k) := by
    rw [Bool.eq_iff_iff, beq_iff_eq, decide_eq_true_iff, ← BitVec.toNat_inj, BitVec.toNat_ofNat, BitVec.toNat_ofNat,
      Nat.mod_eq_of_lt h, Nat.mod_eq_of_lt hk]
  show BitVec.ofBool (BitVec.ofNat 32 n == BitVec.ofNat 32 k) = _
  rw [e]
  by_cases hn : n = k
  · rw [if_pos hn, decide_eq_true hn]; rfl
  · rw [if_neg hn, decide_eq_false hn]; rfl

/-- The choice by two small numbers compared. -/
theorem select_eq {α : Type} (n k : ℕ) (h : n < 2 ^ 32) (hk : k < 2 ^ 32) (a b : α) :
    Scalar.select (IntOp.cmpi .eq (BitVec.ofNat 32 n) (BitVec.ofNat 32 k)) a b = if n = k then a else b := by
  rw [eq_bit n k h hk]
  by_cases hn : n = k
  · rw [if_pos hn, if_pos hn]; rfl
  · rw [if_neg hn, if_neg hn]; rfl

/-- The row of ones, read as a number. -/
theorem first_at (n : ℕ) (h : n < 2 ^ 32) :
    (FloatOps.sitofp (F := Ideal) .f32 (BitVec.setWidth 32 (IntOp.cmpi .eq (BitVec.ofNat 32 n) 0#32)) : EReal) = first n := by
  have e : IntOp.cmpi .eq (BitVec.ofNat 32 n) 0#32 = if n = 0 then 1#1 else 0#1 := eq_bit n 0 h (by norm_num)
  rw [e]
  unfold first
  show ((((BitVec.setWidth 32 (if n = 0 then 1#1 else 0#1)).toInt : ℤ) : ℝ) : EReal) = _
  by_cases hn : n = 0
  · rw [if_pos hn, if_pos hn, show (BitVec.setWidth 32 1#1).toInt = 1 by decide]; simp
  · rw [if_neg hn, if_neg hn, show (BitVec.setWidth 32 0#1).toInt = 0 by decide]; simp

/-- The rotated lanes, taken by the bit of the even lanes, are the pairs' other lanes. -/
theorem partner_at (f : Fin 128 → EReal) (r : Fin 256) (d : Fin 128) :
    Scalar.select (k0_pay7 (ix2 r d)) (f ⟨((d : ℕ) + 128 - 127) % 128, by omega⟩) (f ⟨((d : ℕ) + 128 - 1) % 128, by omega⟩) = f (partner d) := by
  rw [lane_at]
  unfold partner
  split
  · exact congrArg f (Fin.ext (by show ((d : ℕ) + 128 - 127) % 128 = ((d : ℕ) + 1) % 128; omega))
  · exact congrArg f (Fin.ext (by show ((d : ℕ) + 128 - 1) % 128 = ((d : ℕ) + 127) % 128; omega))

/-- A query head's stored column. -/
theorem q_of (c s v : FVec Ideal S256x128 .f32) (g : FVec Ideal S1x128 .f32) (d : Fin 256) (r : Fin 256) :
    k0_pay21 k0_pay7 k0_pay11 c s v g (ix4 0 0 d r)
      = query (fun l => v (ix2 r l)) (fun l => g (ix2 0 l)) (fun l => c (ix2 r l)) (fun l => s (ix2 r l)) d := by
  revert d
  refine halves 128 128 rfl _ (fun e => ?_) fun e => ?_
  · unfold query
    rw [dif_pos (show (e : ℕ) < 128 from e.isLt)]
    unfold turned
    rw [← partner_at (headNormed (fun l => v (ix2 r l)) fun l => g (ix2 0 l)) r]
    pointwise [k0_pay21]
    rfl
  · unfold query
    rw [dif_neg (show ¬ 128 + (e : ℕ) < 128 by omega)]
    pointwise [k0_pay21, k0_pay11]
    exact first_at _ (by omega)

/-- A key head's stored row. -/
theorem k_of (c s v : FVec Ideal S256x128 .f32) (g : Vec Ideal S1x128 .f32) (sh : FVec Ideal S256x128 .bf16) (σ : EReal)
    (hs : ∀ (r : Fin 256) (d : Fin 128), sh (ix2 r d) = (if (d : ℕ) = 0 then -σ else 0 : EReal)) (d : Fin 256) (r : Fin 256) :
    k0_pay70 k0_pay7 sh c s v g (ix4 0 0 r d)
      = key (fun l => v (ix2 r l)) (fun l => g (ix2 0 l)) (fun l => c (ix2 r l)) (fun l => s (ix2 r l)) σ d := by
  revert d
  refine halves 128 128 rfl _ (fun e => ?_) fun e => ?_
  · unfold key
    rw [dif_pos (show (e : ℕ) < 128 from e.isLt)]
    unfold turned
    rw [← partner_at (headNormed (fun l => v (ix2 r l)) fun l => g (ix2 0 l)) r]
    pointwise [k0_pay70]
    rfl
  · unfold key
    rw [dif_neg (show ¬ 128 + (e : ℕ) < 128 by omega)]
    pointwise [k0_pay70]
    rw [hs]
    by_cases he : (e : ℕ) = 0
    · rw [if_pos he, if_pos (by show 128 + (e : ℕ) = 128; omega)]
    · rw [if_neg he, if_neg (by show ¬ 128 + (e : ℕ) = 128; omega)]

/-- The first value head's stored column. -/
theorem v_of (p : FVec Ideal S256x2560 .f32) (d : Fin 144) (r : Fin 256) :
    k0_pay39 k0_pay8 p (ix4 0 0 d r) = value (fun l => p (ix2 r ⟨1280 + l, by omega⟩)) d := by
  revert d
  refine halves 128 16 rfl _ (fun e => ?_) fun e => ?_
  · unfold value
    rw [dif_pos (show (e : ℕ) < 128 from e.isLt)]
    pointwise [k0_pay39]
  · unfold value
    rw [dif_neg (show ¬ 128 + (e : ℕ) < 128 by omega)]
    pointwise [k0_pay39, k0_pay8]
    exact first_at _ (by omega)

/-- The second value head's. -/
theorem v_of' (p : FVec Ideal S256x2560 .f32) (d : Fin 144) (r : Fin 256) :
    k0_pay42 k0_pay8 p (ix4 0 0 d r) = value (fun l => p (ix2 r ⟨1408 + l, by omega⟩)) d := by
  revert d
  refine halves 128 16 rfl _ (fun e => ?_) fun e => ?_
  · unfold value
    rw [dif_pos (show (e : ℕ) < 128 from e.isLt)]
    pointwise [k0_pay42]
  · unfold value
    rw [dif_neg (show ¬ 128 + (e : ℕ) < 128 by omega)]
    pointwise [k0_pay42, k0_pay8]
    exact first_at _ (by omega)

/-- The largest magnitude of a row of gains. -/
theorem largest_at (g : Fin 128 → EReal) :
    (Finset.univ.fold max (Ideal.ofBits .f32 0xFF800000#32) fun x : Fin 1 × Fin 128 => FloatOps.absf (F := Ideal) (φ := .f32) (g x.2)) = largest g := by
  unfold largest
  rw [show (Finset.univ : Finset (Fin 1 × Fin 128)) = Finset.univ.map (Equiv.uniqueProd (Fin 128) (Fin 1)).symm.toEmbedding from
    (Finset.map_univ_equiv _).symm, Finset.fold_map]
  rfl

/-- Minus the shift in the first lane. -/
theorem shift_of (q k : Vec Ideal S1x128 .f32) (d : Fin 128) (r : Fin 256) :
    k0_pay12 (k0_pay9 k) (k0_pay10 q) (ix2 r d)
      = (if (d : ℕ) = 0 then -shift (fun l => q (ix2 0 l)) (fun l => k (ix2 0 l)) else 0 : EReal) := by
  pointwise [k0_pay12, k0_pay9, k0_pay10]
  refine (select_eq d 0 (by omega) (by norm_num) _ _).trans ?_
  by_cases hd : (d : ℕ) = 0
  · rw [if_pos hd, if_pos hd, zero_sub]
    unfold shift
    rw [← largest_at, ← largest_at]
  · rw [if_neg hd, if_neg hd]

/-- The choices by a tile's number. -/
theorem select_pos {α : Type} (n : ℕ) (h : n < 16) (a b : α) :
    Scalar.select (Scalar.cmpi .sgt (BitVec.ofNat 32 n) 0#32) a b = if 0 < n then a else b := by
  interval_cases n <;> rfl

theorem select_lt {α : Type} (n : ℕ) (h : n < 16) (a b : α) :
    Scalar.select (Scalar.cmpi .slt (BitVec.ofNat 32 n) 15#32) a b = if n < 15 then a else b := by
  interval_cases n <;> rfl

/-- The gated block. -/
def gatedBlk (i : grid0.Coords) (a : Vec Ideal S512x512 .bf16) (p n : Vec Ideal S1x512 .bf16) (t0 t1 t2 : Vec Ideal S1x512 .f32)
    (ga f gb : Vec Ideal S512x512 .bf16) : FVec Ideal S512x1024 .bf16 :=
  k0_pay6 (k0_pay3 a) (k0_pay4 i a n) (k0_pay5 i a p t0) t1 t2 ga f gb

theorem gatedBlk_at (i : grid0.Coords) (a : Vec Ideal S512x512 .bf16) (p n : Vec Ideal S1x512 .bf16) (t0 t1 t2 : Vec Ideal S1x512 .f32)
    (ga f gb : Vec Ideal S512x512 .bf16) (r : Fin 512) (j : Fin 1024) (u w : Fin 512 → EReal)
    (hu : ∀ j, u j = if (r : ℕ) = 0 then (if 0 < (i 1 : ℕ) then p (ix2 0 j) else 0) else a (ix2 ⟨(r : ℕ) - 1, by omega⟩ j))
    (hw : ∀ j, w j = if h : (r : ℕ) = 511 then (if (i 1 : ℕ) < 15 then n (ix2 0 j) else 0) else a (ix2 ⟨(r : ℕ) + 1, by omega⟩ j)) :
    gatedBlk i a p n t0 t1 t2 ga f gb (ix2 r j)
      = gated u (fun l => a (ix2 r l)) w (fun l => ga (ix2 r l)) (fun l => f (ix2 r l)) (fun l => gb (ix2 r l))
          ![fun l => t0 (ix2 0 l), fun l => t1 (ix2 0 l), fun l => t2 (ix2 0 l)] j := by
  unfold gatedBlk
  revert j
  refine halves 512 512 rfl _ (fun e => ?_) fun e => ?_
  · unfold gated
    rw [dif_pos (show (e : ℕ) < 512 from e.isLt), hu, hw]
    pointwise [k0_pay6, k0_pay3, k0_pay4, k0_pay5]
    refine congrArg (ga (ix2 r e) * ·) (congrArg₂ (· + ·) (congrArg (· + a (ix2 r e) * t1 (ix2 0 e)) (congrArg (· * t0 (ix2 0 e)) ?_)) (congrArg (· * t2 (ix2 0 e)) ?_))
    · refine (select_eq r 0 (by omega) (by norm_num) _ _).trans ?_
      by_cases hr : (r : ℕ) = 0
      · rw [if_pos hr, if_pos hr]
        exact select_pos _ (by have := (i 1).isLt; simpa [grid0] using this) _ _
      · rw [if_neg hr, if_neg hr]
        exact congrArg (fun k => a (ix2 k e)) (Fin.ext (by show ((r : ℕ) + 512 - 1) % 512 = (r : ℕ) - 1; omega))
    · refine (select_eq r 511 (by omega) (by norm_num) _ _).trans ?_
      by_cases hr : (r : ℕ) = 511
      · rw [if_pos hr, dif_pos hr]
        exact select_lt _ (by have := (i 1).isLt; simpa [grid0] using this) _ _
      · rw [if_neg hr, dif_neg hr]
        exact congrArg (fun k => a (ix2 k e)) (Fin.ext (by show ((r : ℕ) + 512 - 511) % 512 = (r : ℕ) + 1; omega))
  · unfold gated
    rw [dif_neg (show ¬ 512 + (e : ℕ) < 512 by omega)]
    pointwise [k0_pay6]

/-- The first half's rows plus their projection. -/
theorem x1_top (y : FVec Ideal S512x1024 .bf16) (x : Vec Ideal S256x1024 .f32) (w : Vec Ideal S1024x1024 .bf16) (r : Fin 256) (j : Fin 1024) :
    k0_pay13 y x w (ix2 r j) = added (fun l => x (ix2 r l)) (fun l => y (ix2 ⟨r, by omega⟩ l)) (fun k l => w (ix2 k l)) j := by
  pointwise [k0_pay13]
  rfl

/-- The second half's. -/
theorem x1_bot (y : FVec Ideal S512x1024 .bf16) (x : Vec Ideal S256x1024 .f32) (w : Vec Ideal S1024x1024 .bf16) (r : Fin 256) (j : Fin 1024) :
    k0_pay44 y x w (ix2 r j) = added (fun l => x (ix2 r l)) (fun l => y (ix2 ⟨256 + r, by omega⟩ l)) (fun k l => w (ix2 k l)) j := by
  pointwise [k0_pay44]
  rfl

/-- The first half's second projection. -/
theorem p_top (y : FVec Ideal S512x1024 .bf16) (x : Vec Ideal S256x1024 .f32) (w : Vec Ideal S1024x1024 .bf16) (g : Vec Ideal S1x1024 .f32)
    (v : Vec Ideal S1024x2560 .bf16) (r : Fin 256) (l : Fin 2560) :
    k0_pay15 (k0_pay14 y x w g) v (ix2 r l) = projected (fun k => k0_pay13 y x w (ix2 r k)) (fun k => g (ix2 0 k)) (fun k l => v (ix2 k l)) l := by
  pointwise [k0_pay15, k0_pay14]
  rfl

/-- The second half's. -/
theorem p_bot (y : FVec Ideal S512x1024 .bf16) (x : Vec Ideal S256x1024 .f32) (w : Vec Ideal S1024x1024 .bf16) (g : Vec Ideal S1x1024 .f32)
    (v : Vec Ideal S1024x2560 .bf16) (r : Fin 256) (l : Fin 2560) :
    k0_pay48 (k0_pay44 y x w) (k0_pay45 g) (k0_pay46 y x w) k0_pay47 v (ix2 r l)
      = projected (fun k => k0_pay44 y x w (ix2 r k)) (fun k => g (ix2 0 k)) (fun k l => v (ix2 k l)) l := by
  pointwise [k0_pay48, k0_pay45, k0_pay46, k0_pay47]
  rfl

/-- The fifth result's rows. -/
theorem z_top (p : FVec Ideal S256x2560 .f32) (r : Fin 256) (j : Fin 1024) : k0_pay43 p (ix2 r j) = p (ix2 r ⟨1536 + j, by omega⟩) := by
  pointwise [k0_pay43]

theorem z_bot (p : FVec Ideal S256x2560 .f32) (r : Fin 256) (j : Fin 1024) : k0_pay78 p (ix2 r j) = p (ix2 r ⟨1536 + j, by omega⟩) := by
  pointwise [k0_pay78]

end Cert.MidIdeal.Hand

end
-- ==== Proof.MidIdealBlk.lean ====
/- The middle kernel: the blocks a grid point reads, and the weights it keeps. -/
module

public import proofs.«01_k».proof.Proof.Gen.MidIdeal.Frame
public import proofs.«01_k».proof.Proof.MidIdealPay
public import Idealize.ShloMosaic.Lib.Pipeline.Value
public import Idealize.ShloMosaic.Lib.Pipeline.ValueKit
public import Idealize.ShloMosaic.Lib.Claim

@[expose] public section

set_option maxRecDepth 16384

noncomputable section

namespace Cert.MidIdeal.Hand

open Cert.MidIdeal Cert.MidIdeal.Gen
open Idealize.ShloMosaic Idealize.ShloMosaic.TcCoe Idealize.ShloMosaic.Tactic
open Idealize.ShloMosaic.Pipeline (Dat Cfg Window)
open Cert.MidRow

variable (m : (ℓ : Loc nD τ sig) → Buf (Elt Ideal) ℓ)

/-- The blocks the windows stand at, point by point. -/
theorem idx : ∀ t : Fin cfg0.N, win0_0.index t = ![t.val, 0] ∧ win0_1.index t = ![t.val, 0]
    ∧ win0_2.index t = ![64 * t.val - 1, 0]
    ∧ win0_3.index t = ![min (64 * t.val + 64) 2047, 0]
    ∧ win0_4.index t = ![t.val, 0] ∧ win0_5.index t = ![t.val, 0] ∧ win0_6.index t = ![t.val, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![t.val % 16, 0] ∧ win0_14.index t = ![t.val % 16, 0]
    ∧ win0_15.index t = ![t.val, 0] ∧ win0_16.index t = ![t.val / 16, 0, 0, t.val % 16] ∧ win0_17.index t = ![t.val / 16, 0, t.val % 16, 0]
    ∧ win0_18.index t = ![t.val / 16, 0, 0, t.val % 16] ∧ win0_19.index t = ![t.val, 0] :=
  (by decide +kernel : ∀ t : Fin grid0.N, _)

/-- A point's tile in its sequence. -/
theorem tile : ∀ t : Fin cfg0.N, ((grid0.coords t) 1 : ℕ) = t.val % 16 :=
  (by decide +kernel : ∀ t : Fin grid0.N, _)

/-- Every point reads the whole weights. -/
theorem wo_blk (c : Dev nD) (t : Fin cfg0.N) (k l : Fin 1024) :
    (show FVec Ideal S1024x1024 .f32 from iblk m c 8 t) (ix2 k l)
      = (show FVec Ideal S1024x1024 .f32 from V m c main_v11) (ix2 k l) := by
  blk_point [iblk, idx t]

theorem wi_blk (c : Dev nD) (t : Fin cfg0.N) (k : Fin 1024) (l : Fin 2560) :
    (show FVec Ideal S1024x2560 .f32 from iblk m c 10 t) (ix2 k l)
      = (show FVec Ideal S1024x2560 .f32 from V m c main_v14) (ix2 k l) := by
  blk_point [iblk, idx t]

theorem pay1_at (x : Vec Ideal S1024x1024 .f32) (i : S1024x1024.Idx) : k0_pay1 x i = (x i : EReal) := by
  rw [eq_ix2 i]
  pointwise [k0_pay1]

theorem pay2_at (x : Vec Ideal S1024x2560 .f32) (i : S1024x2560.Idx) : k0_pay2 x i = (x i : EReal) := by
  rw [eq_ix2 i]
  pointwise [k0_pay2]

/-- The weights, as the kernel reads them. -/
def wto (c : Dev nD) : Vec Ideal S1024x1024 .bf16 := fun i => (show FVec Ideal S1024x1024 .f32 from V m c main_v11) i

def wti (c : Dev nD) : Vec Ideal S1024x2560 .bf16 := fun i => (show FVec Ideal S1024x2560 .f32 from V m c main_v14) i

theorem pay1_eq (c : Dev nD) (t : Fin cfg0.N) : k0_pay1 (F := Ideal) (iblk m c 8 t) = wto m c := funext fun i => by
  refine (pay1_at _ i).trans ?_
  rw [eq_ix2 i]
  exact wo_blk m c t (i 0) (i 1)

theorem pay2_eq (c : Dev nD) (t : Fin cfg0.N) : k0_pay2 (F := Ideal) (iblk m c 10 t) = wti m c := funext fun i => by
  refine (pay2_at _ i).trans ?_
  rw [eq_ix2 i]
  exact wi_blk m c t (i 0) (i 1)

/-- The weights the kernel keeps from its first point on. -/
theorem scr (c : Dev nD) (n : ℕ) (hn : n < cfg0.N) :
    (outsAt0 m c n hn).2.2.2.2.2.1 = wto m c ∧ (outsAt0 m c n hn).2.2.2.2.2.2 = wti m c := by
  induction n with
  | zero =>
    rw [outsAt0_A m c ⟨0, hn⟩ rfl rfl]
    refine ⟨?_, ?_⟩ <;> frame_out
    · exact pay1_eq m c ⟨0, hn⟩
    · exact pay2_eq m c ⟨0, hn⟩
  | succ n ih =>
    have h : ¬ (n + 1) % 32 = 0 := by
      have h32 : cfg0.N = 32 := by decide +kernel
      omega
    rw [outsAt0_B m c ⟨n + 1, hn⟩ h h]
    refine ⟨?_, ?_⟩ <;> frame_out
    · exact (ih _).1
    · exact (ih _).2

end Cert.MidIdeal.Hand

end
-- ==== Proof.MidIdealArgs.lean ====
/- The middle kernel: a grid point's rows, over the call's arguments. -/
module

public import proofs.«01_k».proof.Proof.MidIdealBlk

@[expose] public section

set_option maxRecDepth 16384

noncomputable section

namespace Cert.MidIdeal.Hand

open Cert.MidIdeal Cert.MidIdeal.Gen
open Idealize.ShloMosaic Idealize.ShloMosaic.TcCoe Idealize.ShloMosaic.Tactic
open Idealize.ShloMosaic.Pipeline (Dat Cfg Window)
open Cert.MidRow

variable (m : (ℓ : Loc nD τ sig) → Buf (Elt Ideal) ℓ)

/-- The call's arguments. -/
def args (c : Dev nD) : Args where
  x b s l := (show FVec Ideal S2x8192x1024 .f32 from m ((c : Thread nD τ).loc main_arg0)) (ix3 b s l)
  cx r j := (show FVec Ideal S16384x512 .bf16 from m ((c : Thread nD τ).loc main_arg1)) (ix2 r j)
  ga r j := (show FVec Ideal S16384x512 .bf16 from m ((c : Thread nD τ).loc main_arg2)) (ix2 r j)
  f r j := (show FVec Ideal S16384x512 .bf16 from m ((c : Thread nD τ).loc main_arg3)) (ix2 r j)
  gb r j := (show FVec Ideal S16384x512 .bf16 from m ((c : Thread nD τ).loc main_arg4)) (ix2 r j)
  t i j := (show FVec Ideal S1x3x512 .f32 from m ((c : Thread nD τ).loc main_arg5)) (ix3 0 i j)
  wo k l := (show FVec Ideal S1x1024x1024 .f32 from m ((c : Thread nD τ).loc main_arg6)) (ix3 0 k l)
  g l := (show FVec Ideal S1x1024 .f32 from m ((c : Thread nD τ).loc main_arg7)) (ix2 0 l)
  wi k l := (show FVec Ideal S1x1024x2560 .f32 from m ((c : Thread nD τ).loc main_arg8)) (ix3 0 k l)
  qg l := (show FVec Ideal S1x128 .f32 from m ((c : Thread nD τ).loc main_arg9)) (ix2 0 l)
  kg l := (show FVec Ideal S1x128 .f32 from m ((c : Thread nD τ).loc main_arg10)) (ix2 0 l)
  cos s d := (show FVec Ideal S8192x64 .f32 from m ((c : Thread nD τ).loc main_arg11)) (ix2 s d)
  sin s d := (show FVec Ideal S8192x64 .f32 from m ((c : Thread nD τ).loc main_arg12)) (ix2 s d)

variable (c : Dev nD) (t : Fin cfg0.N)

theorem V_x : (show FVec Ideal S16384x1024 .f32 from V m c main_v9)
    = shapeCast S16384x1024 (show FVec Ideal S2x8192x1024 .f32 from m ((c : Thread nD τ).loc main_arg0)) Gen.shapeCasts_S2x8192x1024_S16384x1024 := by
  entry_read; rfl

theorem V_t : (show FVec Ideal S3x512 .f32 from V m c main_v10)
    = shapeCast S3x512 (show FVec Ideal S1x3x512 .f32 from m ((c : Thread nD τ).loc main_arg5)) Gen.shapeCasts_S1x3x512_S3x512 := by
  entry_read; rfl

theorem V_wo : (show FVec Ideal S1024x1024 .f32 from V m c main_v11)
    = shapeCast S1024x1024 (show FVec Ideal S1x1024x1024 .f32 from m ((c : Thread nD τ).loc main_arg6)) Gen.shapeCasts_S1x1024x1024_S1024x1024 := by
  entry_read; rfl

theorem V_g : (show FVec Ideal S1x1024 .f32 from V m c main_v13)
    = broadcastInDim S1x1024 ![1] Gen.bcast_S1024_S1x1024_1
        (shapeCast S1024 (show FVec Ideal S1x1024 .f32 from m ((c : Thread nD τ).loc main_arg7)) Gen.shapeCasts_S1x1024_S1024) := by
  entry_read; rfl

theorem V_wi : (show FVec Ideal S1024x2560 .f32 from V m c main_v14)
    = shapeCast S1024x2560 (show FVec Ideal S1x1024x2560 .f32 from m ((c : Thread nD τ).loc main_arg8)) Gen.shapeCasts_S1x1024x2560_S1024x2560 := by
  entry_read; rfl

theorem V_qg : (show FVec Ideal S1x128 .f32 from V m c main_v16)
    = broadcastInDim S1x128 ![1] Gen.bcast_S128_S1x128_1
        (shapeCast S128 (show FVec Ideal S1x128 .f32 from m ((c : Thread nD τ).loc main_arg9)) Gen.shapeCasts_S1x128_S128) := by
  entry_read; rfl

theorem V_kg : (show FVec Ideal S1x128 .f32 from V m c main_v18)
    = broadcastInDim S1x128 ![1] Gen.bcast_S128_S1x128_1
        (shapeCast S128 (show FVec Ideal S1x128 .f32 from m ((c : Thread nD τ).loc main_arg10)) Gen.shapeCasts_S1x128_S128) := by
  entry_read; rfl

/-- A table of pairs, lane by lane. -/
def lanes (a b : FVec Ideal S8192x64 .f32) : FVec Ideal S8192x128 .f32 :=
  shapeCast S8192x128 (concatenate S8192x64x2 2 [⟨S8192x64x1, broadcastInDim S8192x64x1 ![0, 1] Gen.bcast_S8192x64_S8192x64x1_0_1 a⟩,
    ⟨S8192x64x1, broadcastInDim S8192x64x1 ![0, 1] Gen.bcast_S8192x64_S8192x64x1_0_1 b⟩] Gen.concatenates_S8192x64x1_S8192x64x1_S8192x64x2_d2)
    Gen.shapeCasts_S8192x64x2_S8192x128

theorem lanes_at (a b : FVec Ideal S8192x64 .f32) (s : Fin 8192) (d : Fin 128) :
    lanes a b (ix2 s d) = if (d : ℕ) % 2 = 0 then a (ix2 s ⟨d / 2, by omega⟩) else b (ix2 s ⟨d / 2, by omega⟩) := by
  pointwise [lanes]
  by_cases h : (d : ℕ) % 2 = 0
  · rw [dif_pos (by omega), if_pos h]
  · rw [dif_neg (by omega), if_neg h]

theorem V_c : (show FVec Ideal S8192x128 .f32 from V m c main_v3)
    = lanes (show FVec Ideal S8192x64 .f32 from m ((c : Thread nD τ).loc main_arg11)) (show FVec Ideal S8192x64 .f32 from m ((c : Thread nD τ).loc main_arg11)) := by
  entry_read; rfl

theorem V_s : (show FVec Ideal S8192x128 .f32 from V m c main_v8)
    = lanes (Host.negf (show FVec Ideal S8192x64 .f32 from m ((c : Thread nD τ).loc main_arg12))) (show FVec Ideal S8192x64 .f32 from m ((c : Thread nD τ).loc main_arg12)) := by
  entry_read; rfl

theorem x_blk (i : Fin 512) (j : Fin 1024) (h : t.val < 32) : (show FVec Ideal S512x1024 .f32 from iblk m c 0 t) (ix2 i j)
    = (args m c).x ⟨(512 * t + i) / 8192, by omega⟩ ⟨(512 * t + i) % 8192, by omega⟩ j := by
  have e : (show FVec Ideal S512x1024 .f32 from iblk m c 0 t) (ix2 i j)
      = (show FVec Ideal S16384x1024 .f32 from V m c main_v9) (ix2 ⟨512 * t + i, by omega⟩ j) := by
    blk_point [iblk, idx t]
  rw [e, V_x]
  pointwise
  rfl

theorem cx_blk (i j : Fin 512) (h : t.val < 32) : (show FVec Ideal S512x512 .bf16 from iblk m c 1 t) (ix2 i j)
    = (args m c).cx ⟨512 * t + i, by omega⟩ j := by
  have e : (show FVec Ideal S512x512 .bf16 from iblk m c 1 t) (ix2 i j)
      = (show FVec Ideal S16384x512 .bf16 from V m c main_arg1) (ix2 ⟨512 * t + i, by omega⟩ j) := by
    blk_point [iblk, idx t]
  rw [e, V_main_arg1]
  rfl

theorem ga_blk (i j : Fin 512) (h : t.val < 32) : (show FVec Ideal S512x512 .bf16 from iblk m c 4 t) (ix2 i j)
    = (args m c).ga ⟨512 * t + i, by omega⟩ j := by
  have e : (show FVec Ideal S512x512 .bf16 from iblk m c 4 t) (ix2 i j)
      = (show FVec Ideal S16384x512 .bf16 from V m c main_arg2) (ix2 ⟨512 * t + i, by omega⟩ j) := by
    blk_point [iblk, idx t]
  rw [e, V_main_arg2]
  rfl

theorem f_blk (i j : Fin 512) (h : t.val < 32) : (show FVec Ideal S512x512 .bf16 from iblk m c 5 t) (ix2 i j)
    = (args m c).f ⟨512 * t + i, by omega⟩ j := by
  have e : (show FVec Ideal S512x512 .bf16 from iblk m c 5 t) (ix2 i j)
      = (show FVec Ideal S16384x512 .bf16 from V m c main_arg3) (ix2 ⟨512 * t + i, by omega⟩ j) := by
    blk_point [iblk, idx t]
  rw [e, V_main_arg3]
  rfl

theorem gb_blk (i j : Fin 512) (h : t.val < 32) : (show FVec Ideal S512x512 .bf16 from iblk m c 6 t) (ix2 i j)
    = (args m c).gb ⟨512 * t + i, by omega⟩ j := by
  have e : (show FVec Ideal S512x512 .bf16 from iblk m c 6 t) (ix2 i j)
      = (show FVec Ideal S16384x512 .bf16 from V m c main_arg4) (ix2 ⟨512 * t + i, by omega⟩ j) := by
    blk_point [iblk, idx t]
  rw [e, V_main_arg4]
  rfl

/-- The row before a point's rows. -/
theorem prev_blk (j : Fin 512) (h : t.val < 32) (h0 : 0 < t.val) : (show FVec Ideal S8x512 .bf16 from iblk m c 2 t) (ix2 7 j)
    = (args m c).cx ⟨512 * t - 1, by omega⟩ j := by
  have e : (show FVec Ideal S8x512 .bf16 from iblk m c 2 t) (ix2 7 j)
      = (show FVec Ideal S16384x512 .bf16 from V m c main_arg1) (ix2 ⟨512 * t - 1, by omega⟩ j) := by
    blk_point [iblk, idx t]
  rw [e, V_main_arg1]
  rfl

/-- The row behind them. -/
theorem next_blk (j : Fin 512) (h : t.val < 31) : (show FVec Ideal S8x512 .bf16 from iblk m c 3 t) (ix2 0 j)
    = (args m c).cx ⟨512 * t + 512, by omega⟩ j := by
  have e : (show FVec Ideal S8x512 .bf16 from iblk m c 3 t) (ix2 0 j)
      = (show FVec Ideal S16384x512 .bf16 from V m c main_arg1) (ix2 ⟨512 * t + 512, by omega⟩ j) := by
    blk_point [iblk, idx t]
  rw [e, V_main_arg1]
  rfl

theorem t_blk (i : Fin 3) (j : Fin 512) : (show FVec Ideal S3x512 .f32 from iblk m c 7 t) (ix2 i j) = (args m c).t i j := by
  have e : (show FVec Ideal S3x512 .f32 from iblk m c 7 t) (ix2 i j)
      = (show FVec Ideal S3x512 .f32 from V m c main_v10) (ix2 i j) := by
    blk_point [iblk, idx t]
  rw [e, V_t]
  pointwise
  rfl

theorem g_blk (j : Fin 1024) : (show FVec Ideal S1x1024 .f32 from iblk m c 9 t) (ix2 0 j) = (args m c).g j := by
  have e : (show FVec Ideal S1x1024 .f32 from iblk m c 9 t) (ix2 0 j)
      = (show FVec Ideal S1x1024 .f32 from V m c main_v13) (ix2 0 j) := by
    blk_point [iblk, idx t]
  rw [e, V_g]
  pointwise
  rfl

theorem qg_blk (j : Fin 128) : (show FVec Ideal S1x128 .f32 from iblk m c 11 t) (ix2 0 j) = (args m c).qg j := by
  have e : (show FVec Ideal S1x128 .f32 from iblk m c 11 t) (ix2 0 j)
      = (show FVec Ideal S1x128 .f32 from V m c main_v16) (ix2 0 j) := by
    blk_point [iblk, idx t]
  rw [e, V_qg]
  pointwise
  rfl

theorem kg_blk (j : Fin 128) : (show FVec Ideal S1x128 .f32 from iblk m c 12 t) (ix2 0 j) = (args m c).kg j := by
  have e : (show FVec Ideal S1x128 .f32 from iblk m c 12 t) (ix2 0 j)
      = (show FVec Ideal S1x128 .f32 from V m c main_v18) (ix2 0 j) := by
    blk_point [iblk, idx t]
  rw [e, V_kg]
  pointwise
  rfl

theorem c_blk (i : Fin 512) (d : Fin 128) (h : t.val < 32) : (show FVec Ideal S512x128 .f32 from iblk m c 13 t) (ix2 i d)
    = (args m c).c ⟨512 * (t % 16) + i, by omega⟩ d := by
  have e : (show FVec Ideal S512x128 .f32 from iblk m c 13 t) (ix2 i d)
      = (show FVec Ideal S8192x128 .f32 from V m c main_v3) (ix2 ⟨512 * (t % 16) + i, by omega⟩ d) := by
    blk_point [iblk, idx t]
  rw [e, V_c, lanes_at, ite_self]
  rfl

theorem s_blk (i : Fin 512) (d : Fin 128) (h : t.val < 32) : (show FVec Ideal S512x128 .f32 from iblk m c 14 t) (ix2 i d)
    = (args m c).sn ⟨512 * (t % 16) + i, by omega⟩ d := by
  have e : (show FVec Ideal S512x128 .f32 from iblk m c 14 t) (ix2 i d)
      = (show FVec Ideal S8192x128 .f32 from V m c main_v8) (ix2 ⟨512 * (t % 16) + i, by omega⟩ d) := by
    blk_point [iblk, idx t]
  rw [e, V_s, lanes_at]
  rfl

theorem wo_at (k l : Fin 1024) : wto m c (ix2 k l) = (args m c).wo k l := by
  show (show FVec Ideal S1024x1024 .f32 from V m c main_v11) (ix2 k l) = _
  rw [V_wo]
  pointwise
  rfl

theorem wi_at (k : Fin 1024) (l : Fin 2560) : wti m c (ix2 k l) = (args m c).wi k l := by
  show (show FVec Ideal S1024x2560 .f32 from V m c main_v14) (ix2 k l) = _
  rw [V_wi]
  pointwise
  rfl

/-- The gated rows of a point. -/
def yBlk : FVec Ideal S512x1024 .bf16 :=
  gatedBlk (grid0.coords t) (iblk m c 1 t) (View.ld (iblk m c 2 t) (Rect.unit ![7, 0] ![1, 512] inb_S8x512_S1x512_7_0))
    (View.ld (iblk m c 3 t) (Rect.unit ![0, 0] ![1, 512] inb_S8x512_S1x512_0_0))
    (View.ld (iblk m c 7 t) (Rect.unit ![0, 0] ![1, 512] inb_S3x512_S1x512_0_0))
    (View.ld (iblk m c 7 t) (Rect.unit ![1, 0] ![1, 512] inb_S3x512_S1x512_1_0))
    (View.ld (iblk m c 7 t) (Rect.unit ![2, 0] ![1, 512] inb_S3x512_S1x512_2_0)) (iblk m c 4 t) (iblk m c 5 t) (iblk m c 6 t)

/-- The rows of the input, in two halves. -/
def xTop : Vec Ideal S256x1024 .f32 := View.ld (iblk m c 0 t) (Rect.unit ![0, 0] ![256, 1024] inb_S512x1024_S256x1024_0_0)

def xBot : Vec Ideal S256x1024 .f32 := View.ld (iblk m c 0 t) (Rect.unit ![256, 0] ![256, 1024] inb_S512x1024_S256x1024_256_0)

theorem yBlk_at (i : Fin 512) (j : Fin 1024) (h : t.val < 32) : yBlk m c t (ix2 i j) = (args m c).y ⟨512 * t + i, by omega⟩ j := by
  have ht := tile t
  refine (gatedBlk_at _ _ _ _ _ _ _ _ _ _ i j ((args m c).above ⟨512 * t + i, by omega⟩) ((args m c).below ⟨512 * t + i, by omega⟩) (fun l => ?_) fun l => ?_).trans ?_
  · rw [ht]
    unfold Args.above
    by_cases hi : (i : ℕ) = 0
    · rw [if_pos hi]
      by_cases h0 : 0 < t.val % 16
      · rw [if_pos h0, if_neg (by show ¬ (512 * t.val + i) % 8192 = 0; omega)]
        pointwise
        refine Eq.trans ?_ (prev_blk m c t l h (by omega)).symm
        exact congrArg (fun r => (args m c).cx r l) (Fin.ext (by show 512 * t.val + i - 1 = 512 * t.val - 1; omega))
      · rw [if_neg h0, if_pos (by show (512 * t.val + i) % 8192 = 0; omega)]
    · rw [if_neg hi, if_neg (by show ¬ (512 * t.val + i) % 8192 = 0; omega)]
      refine Eq.trans ?_ (cx_blk m c t ⟨i - 1, by omega⟩ l h).symm
      exact congrArg (fun r => (args m c).cx r l) (Fin.ext (by show 512 * t.val + i - 1 = 512 * t.val + (i - 1); omega))
  · rw [ht]
    unfold Args.below
    by_cases hi : (i : ℕ) = 511
    · rw [dif_pos hi]
      by_cases h0 : t.val % 16 < 15
      · rw [if_pos h0, dif_neg (by show ¬ (512 * t.val + i) % 8192 = 8191; omega)]
        pointwise
        refine Eq.trans ?_ (next_blk m c t l (by omega)).symm
        exact congrArg (fun r => (args m c).cx r l) (Fin.ext (by show 512 * t.val + i + 1 = 512 * t.val + 512; omega))
      · rw [if_neg h0, dif_pos (by show (512 * t.val + i) % 8192 = 8191; omega)]
    · rw [dif_neg hi, dif_neg (by show ¬ (512 * t.val + i) % 8192 = 8191; omega)]
      refine Eq.trans ?_ (cx_blk m c t ⟨i + 1, by omega⟩ l h).symm
      exact congrArg (fun r => (args m c).cx r l) (Fin.ext (by show 512 * t.val + i + 1 = 512 * t.val + (i + 1); omega))
  · unfold Args.y
    rw [show (fun l => (show FVec Ideal S512x512 .bf16 from iblk m c 1 t) (ix2 i l)) = (args m c).cx ⟨512 * t + i, by omega⟩ from funext fun l => cx_blk m c t i l h,
      show (fun l => (show FVec Ideal S512x512 .bf16 from iblk m c 4 t) (ix2 i l)) = (args m c).ga ⟨512 * t + i, by omega⟩ from funext fun l => ga_blk m c t i l h,
      show (fun l => (show FVec Ideal S512x512 .bf16 from iblk m c 5 t) (ix2 i l)) = (args m c).f ⟨512 * t + i, by omega⟩ from funext fun l => f_blk m c t i l h,
      show (fun l => (show FVec Ideal S512x512 .bf16 from iblk m c 6 t) (ix2 i l)) = (args m c).gb ⟨512 * t + i, by omega⟩ from funext fun l => gb_blk m c t i l h]
    refine congrArg (fun w => gated _ _ _ _ _ _ w j) (funext fun k => ?_)
    match k with
    | 0 =>
      funext l
      show (View.ld (iblk m c 7 t) (Rect.unit ![0, 0] ![1, 512] inb_S3x512_S1x512_0_0) : Vec Ideal S1x512 .f32) (ix2 0 l) = _
      pointwise
      exact t_blk m c t 0 l
    | 1 =>
      funext l
      show (View.ld (iblk m c 7 t) (Rect.unit ![1, 0] ![1, 512] inb_S3x512_S1x512_1_0) : Vec Ideal S1x512 .f32) (ix2 0 l) = _
      pointwise
      exact t_blk m c t 1 l
    | 2 =>
      funext l
      show (View.ld (iblk m c 7 t) (Rect.unit ![2, 0] ![1, 512] inb_S3x512_S1x512_2_0) : Vec Ideal S1x512 .f32) (ix2 0 l) = _
      pointwise
      exact t_blk m c t 2 l

theorem xTop_at (r : Fin 256) (j : Fin 1024) (h : t.val < 32) : xTop m c t (ix2 r j)
    = (args m c).x ⟨(512 * t + r) / 8192, by omega⟩ ⟨(512 * t + r) % 8192, by omega⟩ j := by
  refine Eq.trans ?_ (x_blk m c t ⟨r, by omega⟩ j h)
  pointwise [xTop]

theorem xBot_at (r : Fin 256) (j : Fin 1024) (h : t.val < 32) : xBot m c t (ix2 r j)
    = (args m c).x ⟨(512 * t + (256 + r)) / 8192, by omega⟩ ⟨(512 * t + (256 + r)) % 8192, by omega⟩ j := by
  refine Eq.trans ?_ (x_blk m c t ⟨256 + r, by omega⟩ j h)
  pointwise [xBot]

theorem added_congr {x x' y y' : Fin 1024 → EReal} {w w' : Fin 1024 → Fin 1024 → EReal} (hx : ∀ l, x l = x' l) (hy : ∀ l, y l = y' l)
    (hw : ∀ k l, w k l = w' k l) (j : Fin 1024) : added x y w j = added x' y' w' j := by
  rw [funext hx, funext hy, funext fun k => funext (hw k)]

theorem projected_congr {x x' g g' : Fin 1024 → EReal} {w w' : Fin 1024 → Fin 2560 → EReal} (hx : ∀ l, x l = x' l) (hg : ∀ l, g l = g' l)
    (hw : ∀ k l, w k l = w' k l) (j : Fin 2560) : projected x g w j = projected x' g' w' j := by
  rw [funext hx, funext hg, funext fun k => funext (hw k)]

/-- The sums of a point. -/
theorem x1Top_at (r : Fin 256) (j : Fin 1024) (h : t.val < 32) : k0_pay13 (yBlk m c t) (xTop m c t) (wto m c) (ix2 r j)
    = (args m c).x1 ⟨512 * t + r, by omega⟩ j :=
  (x1_top _ _ _ r j).trans (added_congr (fun l => xTop_at m c t r l h) (fun l => yBlk_at m c t ⟨r, by omega⟩ l h) (fun k l => wo_at m c k l) j)

theorem x1Bot_at (r : Fin 256) (j : Fin 1024) (h : t.val < 32) : k0_pay44 (yBlk m c t) (xBot m c t) (wto m c) (ix2 r j)
    = (args m c).x1 ⟨512 * t + (256 + r), by omega⟩ j :=
  (x1_bot _ _ _ r j).trans (added_congr (fun l => xBot_at m c t r l h) (fun l => yBlk_at m c t ⟨256 + r, by omega⟩ l h) (fun k l => wo_at m c k l) j)

/-- The projections of a point. -/
def pTop : FVec Ideal S256x2560 .f32 := k0_pay15 (k0_pay14 (yBlk m c t) (xTop m c t) (wto m c) (iblk m c 9 t)) (wti m c)

def pBot : FVec Ideal S256x2560 .f32 :=
  k0_pay48 (k0_pay44 (yBlk m c t) (xBot m c t) (wto m c)) (k0_pay45 (iblk m c 9 t)) (k0_pay46 (yBlk m c t) (xBot m c t) (wto m c)) k0_pay47 (wti m c)

theorem pTop_at (r : Fin 256) (l : Fin 2560) (h : t.val < 32) : pTop m c t (ix2 r l) = (args m c).p ⟨512 * t + r, by omega⟩ l :=
  (p_top _ _ _ _ _ r l).trans (projected_congr (fun l => x1Top_at m c t r l h) (fun l => g_blk m c t l) (fun k l => wi_at m c k l) l)

theorem pBot_at (r : Fin 256) (l : Fin 2560) (h : t.val < 32) : pBot m c t (ix2 r l) = (args m c).p ⟨512 * t + (256 + r), by omega⟩ l :=
  (p_bot _ _ _ _ _ r l).trans (projected_congr (fun l => x1Bot_at m c t r l h) (fun l => g_blk m c t l) (fun k l => wi_at m c k l) l)

/-- The tables of a point. -/
def cTop : Vec Ideal S256x128 .f32 := View.ld (iblk m c 13 t) (Rect.unit ![0, 0] ![256, 128] inb_S512x128_S256x128_0_0)
def cBot : Vec Ideal S256x128 .f32 := View.ld (iblk m c 13 t) (Rect.unit ![256, 0] ![256, 128] inb_S512x128_S256x128_256_0)
def sTop : Vec Ideal S256x128 .f32 := View.ld (iblk m c 14 t) (Rect.unit ![0, 0] ![256, 128] inb_S512x128_S256x128_0_0)
def sBot : Vec Ideal S256x128 .f32 := View.ld (iblk m c 14 t) (Rect.unit ![256, 0] ![256, 128] inb_S512x128_S256x128_256_0)

theorem cTop_at (r : Fin 256) (d : Fin 128) (h : t.val < 32) : k0_pay16 (cTop m c t) (ix2 r d) = (args m c).c ⟨512 * (t % 16) + r, by omega⟩ d := by
  refine Eq.trans ?_ (c_blk m c t ⟨r, by omega⟩ d h)
  pointwise [k0_pay16, cTop]

theorem cBot_at (r : Fin 256) (d : Fin 128) (h : t.val < 32) : k0_pay49 (cBot m c t) (ix2 r d) = (args m c).c ⟨512 * (t % 16) + (256 + r), by omega⟩ d := by
  refine Eq.trans ?_ (c_blk m c t ⟨256 + r, by omega⟩ d h)
  pointwise [k0_pay49, cBot]

theorem sTop_at (r : Fin 256) (d : Fin 128) (h : t.val < 32) : k0_pay17 (sTop m c t) (ix2 r d) = (args m c).sn ⟨512 * (t % 16) + r, by omega⟩ d := by
  refine Eq.trans ?_ (s_blk m c t ⟨r, by omega⟩ d h)
  pointwise [k0_pay17, sTop]

theorem sBot_at (r : Fin 256) (d : Fin 128) (h : t.val < 32) : k0_pay50 (sBot m c t) (ix2 r d) = (args m c).sn ⟨512 * (t % 16) + (256 + r), by omega⟩ d := by
  refine Eq.trans ?_ (s_blk m c t ⟨256 + r, by omega⟩ d h)
  pointwise [k0_pay50, sBot]

/-- Minus the shift in the first lane. -/
theorem sh_at (r : Fin 256) (d : Fin 128) : k0_pay12 (k0_pay9 (iblk m c 12 t)) (k0_pay10 (iblk m c 11 t)) (ix2 r d)
    = (if (d : ℕ) = 0 then -shift (args m c).qg (args m c).kg else 0 : EReal) := by
  refine (shift_of (iblk m c 11 t) (iblk m c 12 t) d r).trans ?_
  exact congrArg₂ (fun a b => (if (d : ℕ) = 0 then -shift a b else 0 : EReal)) (funext fun l => qg_blk m c t l) (funext fun l => kg_blk m c t l)

end Cert.MidIdeal.Hand

end
-- ==== Proof.MidIdealHeads.lean ====
/- The middle kernel's stored heads, at an index, over the projection they are cut from. -/
module

public import proofs.«01_k».proof.Proof.MidIdealPay

@[expose] public section

set_option maxRecDepth 16384

noncomputable section

namespace Cert.MidIdeal.Hand

open Cert.MidIdeal Cert.MidIdeal.Gen
open Idealize.ShloMosaic Idealize.ShloMosaic.TcCoe Idealize.ShloMosaic.Tactic
open Cert.MidRow

/-- A row of gains through a cast to its own shape. -/
theorem gain_at (g : Vec Ideal S1x128 .f32) (l : Fin 128) : shapeCast S1x128 g Gen.shapeCasts_S1x128_S1x128 (ix2 0 l) = (g (ix2 0 l) : EReal) := by
  pointwise

/-- Equal parts make equal heads. -/
theorem query_congr {f f' g g' c c' s s' : Fin 128 → EReal} (hf : ∀ l, f l = f' l) (hg : ∀ l, g l = g' l) (hc : ∀ l, c l = c' l)
    (hs : ∀ l, s l = s' l) (d : Fin 256) : query f g c s d = query f' g' c' s' d := by
  rw [funext hf, funext hg, funext hc, funext hs]

theorem key_congr {f f' g g' c c' s s' : Fin 128 → EReal} {σ σ' : EReal} (hf : ∀ l, f l = f' l) (hg : ∀ l, g l = g' l) (hc : ∀ l, c l = c' l)
    (hs : ∀ l, s l = s' l) (hσ : σ = σ') (d : Fin 256) : key f g c s σ d = key f' g' c' s' σ' d := by
  rw [funext hf, funext hg, funext hc, funext hs, hσ]

theorem value_congr {f f' : Fin 128 → EReal} (hf : ∀ l, f l = f' l) (d : Fin 144) : value f d = value f' d := by
  rw [funext hf]

theorem slice_at0 (P : FVec Ideal S256x2560 .f32) (r : Fin 256) (l : Fin 128) :
    extractStridedSlice S256x128 ![0, 0] P Gen.slices_S256x2560_o0_0_S256x128 (ix2 r l) = P (ix2 r ⟨0 + l, by omega⟩) := by
  pointwise

theorem slice_at128 (P : FVec Ideal S256x2560 .f32) (r : Fin 256) (l : Fin 128) :
    extractStridedSlice S256x128 ![0, 128] P Gen.slices_S256x2560_o0_128_S256x128 (ix2 r l) = P (ix2 r ⟨128 + l, by omega⟩) := by
  pointwise

theorem slice_at256 (P : FVec Ideal S256x2560 .f32) (r : Fin 256) (l : Fin 128) :
    extractStridedSlice S256x128 ![0, 256] P Gen.slices_S256x2560_o0_256_S256x128 (ix2 r l) = P (ix2 r ⟨256 + l, by omega⟩) := by
  pointwise

theorem slice_at384 (P : FVec Ideal S256x2560 .f32) (r : Fin 256) (l : Fin 128) :
    extractStridedSlice S256x128 ![0, 384] P Gen.slices_S256x2560_o0_384_S256x128 (ix2 r l) = P (ix2 r ⟨384 + l, by omega⟩) := by
  pointwise

theorem slice_at512 (P : FVec Ideal S256x2560 .f32) (r : Fin 256) (l : Fin 128) :
    extractStridedSlice S256x128 ![0, 512] P Gen.slices_S256x2560_o0_512_S256x128 (ix2 r l) = P (ix2 r ⟨512 + l, by omega⟩) := by
  pointwise

theorem slice_at640 (P : FVec Ideal S256x2560 .f32) (r : Fin 256) (l : Fin 128) :
    extractStridedSlice S256x128 ![0, 640] P Gen.slices_S256x2560_o0_640_S256x128 (ix2 r l) = P (ix2 r ⟨640 + l, by omega⟩) := by
  pointwise

theorem slice_at768 (P : FVec Ideal S256x2560 .f32) (r : Fin 256) (l : Fin 128) :
    extractStridedSlice S256x128 ![0, 768] P Gen.slices_S256x2560_o0_768_S256x128 (ix2 r l) = P (ix2 r ⟨768 + l, by omega⟩) := by
  pointwise

theorem slice_at896 (P : FVec Ideal S256x2560 .f32) (r : Fin 256) (l : Fin 128) :
    extractStridedSlice S256x128 ![0, 896] P Gen.slices_S256x2560_o0_896_S256x128 (ix2 r l) = P (ix2 r ⟨896 + l, by omega⟩) := by
  pointwise

theorem slice_at1024 (P : FVec Ideal S256x2560 .f32) (r : Fin 256) (l : Fin 128) :
    extractStridedSlice S256x128 ![0, 1024] P Gen.slices_S256x2560_o0_1024_S256x128 (ix2 r l) = P (ix2 r ⟨1024 + l, by omega⟩) := by
  pointwise

theorem slice_at1152 (P : FVec Ideal S256x2560 .f32) (r : Fin 256) (l : Fin 128) :
    extractStridedSlice S256x128 ![0, 1152] P Gen.slices_S256x2560_o0_1152_S256x128 (ix2 r l) = P (ix2 r ⟨1152 + l, by omega⟩) := by
  pointwise

/-- The query heads of the first half's rows. -/
theorem qTop0 (Y : FVec Ideal S256x1024 .bf16) (W : Vec Ideal S1024x2560 .bf16) (C S : Vec Ideal S256x128 .f32) (g : Vec Ideal S1x128 .f32) (d : Fin 256) (r : Fin 256) :
    k0_pay18 k0_pay7 k0_pay11 Y W C S g (ix4 0 0 d r)
      = query (fun l => (k0_pay15 Y W) (ix2 r ⟨0 + l, by omega⟩)) (fun l => g (ix2 0 l)) (fun l => (k0_pay16 C) (ix2 r l)) (fun l => (k0_pay17 S) (ix2 r l)) d := by
  have e : k0_pay18 k0_pay7 k0_pay11 Y W C S g = k0_pay21 k0_pay7 k0_pay11 (k0_pay16 C) (k0_pay17 S) (extractStridedSlice S256x128 ![0, 0] (k0_pay15 Y W) Gen.slices_S256x2560_o0_0_S256x128)
    (shapeCast S1x128 g Gen.shapeCasts_S1x128_S1x128) := by rfl
  rw [e, q_of]
  simp only [slice_at0]
  exact congrArg (fun f => query _ f _ _ d) (funext fun l => gain_at g l)

theorem qTop1 (c s : FVec Ideal S256x128 .f32) (Y : FVec Ideal S256x1024 .bf16) (W : Vec Ideal S1024x2560 .bf16) (g : Vec Ideal S1x128 .f32) (d : Fin 256) (r : Fin 256) :
    k0_pay21 k0_pay7 k0_pay11 c s (k0_pay19 Y W) (k0_pay20 g) (ix4 0 0 d r)
      = query (fun l => (k0_pay15 Y W) (ix2 r ⟨128 + l, by omega⟩)) (fun l => g (ix2 0 l)) (fun l => c (ix2 r l)) (fun l => s (ix2 r l)) d := by
  have e : k0_pay21 k0_pay7 k0_pay11 c s (k0_pay19 Y W) (k0_pay20 g) = k0_pay21 k0_pay7 k0_pay11 c s (extractStridedSlice S256x128 ![0, 128] (k0_pay15 Y W) Gen.slices_S256x2560_o0_128_S256x128)
    (shapeCast S1x128 g Gen.shapeCasts_S1x128_S1x128) := by rfl
  rw [e, q_of]
  simp only [slice_at128]
  exact congrArg (fun f => query _ f _ _ d) (funext fun l => gain_at g l)

theorem qTop2 (c s : FVec Ideal S256x128 .f32) (P : FVec Ideal S256x2560 .f32) (g : Vec Ideal S1x128 .f32) (d : Fin 256) (r : Fin 256) :
    k0_pay24 k0_pay7 k0_pay11 c s (k0_pay22 P g) (k0_pay23 P g) 1#32 (ix4 0 0 d r)
      = query (fun l => P (ix2 r ⟨256 + l, by omega⟩)) (fun l => g (ix2 0 l)) (fun l => c (ix2 r l)) (fun l => s (ix2 r l)) d := by
  have e : k0_pay24 k0_pay7 k0_pay11 c s (k0_pay22 P g) (k0_pay23 P g) 1#32 = k0_pay21 k0_pay7 k0_pay11 c s (extractStridedSlice S256x128 ![0, 256] P Gen.slices_S256x2560_o0_256_S256x128)
    (shapeCast S1x128 g Gen.shapeCasts_S1x128_S1x128) := by rfl
  rw [e, q_of]
  simp only [slice_at256]
  exact congrArg (fun f => query _ f _ _ d) (funext fun l => gain_at g l)

theorem qTop3 (c s : FVec Ideal S256x128 .f32) (P : FVec Ideal S256x2560 .f32) (g : Vec Ideal S1x128 .f32) (d : Fin 256) (r : Fin 256) :
    k0_pay25 k0_pay7 k0_pay11 P c s g (ix4 0 0 d r)
      = query (fun l => P (ix2 r ⟨384 + l, by omega⟩)) (fun l => g (ix2 0 l)) (fun l => c (ix2 r l)) (fun l => s (ix2 r l)) d := by
  have e : k0_pay25 k0_pay7 k0_pay11 P c s g = k0_pay21 k0_pay7 k0_pay11 c s (extractStridedSlice S256x128 ![0, 384] P Gen.slices_S256x2560_o0_384_S256x128)
    (shapeCast S1x128 g Gen.shapeCasts_S1x128_S1x128) := by rfl
  rw [e, q_of]
  simp only [slice_at384]
  exact congrArg (fun f => query _ f _ _ d) (funext fun l => gain_at g l)

theorem qTop4 (c s : FVec Ideal S256x128 .f32) (P : FVec Ideal S256x2560 .f32) (g : Vec Ideal S1x128 .f32) (d : Fin 256) (r : Fin 256) :
    k0_pay26 k0_pay7 k0_pay11 P c s g (ix4 0 0 d r)
      = query (fun l => P (ix2 r ⟨512 + l, by omega⟩)) (fun l => g (ix2 0 l)) (fun l => c (ix2 r l)) (fun l => s (ix2 r l)) d := by
  have e : k0_pay26 k0_pay7 k0_pay11 P c s g = k0_pay21 k0_pay7 k0_pay11 c s (extractStridedSlice S256x128 ![0, 512] P Gen.slices_S256x2560_o0_512_S256x128)
    (shapeCast S1x128 g Gen.shapeCasts_S1x128_S1x128) := by rfl
  rw [e, q_of]
  simp only [slice_at512]
  exact congrArg (fun f => query _ f _ _ d) (funext fun l => gain_at g l)

theorem qTop5 (c s : FVec Ideal S256x128 .f32) (P : FVec Ideal S256x2560 .f32) (g : Vec Ideal S1x128 .f32) (d : Fin 256) (r : Fin 256) :
    k0_pay30 k0_pay7 k0_pay11 c s (k0_pay27 P) (k0_pay28 g) (k0_pay29 P) (ix4 0 0 d r)
      = query (fun l => P (ix2 r ⟨640 + l, by omega⟩)) (fun l => g (ix2 0 l)) (fun l => c (ix2 r l)) (fun l => s (ix2 r l)) d := by
  have e : k0_pay30 k0_pay7 k0_pay11 c s (k0_pay27 P) (k0_pay28 g) (k0_pay29 P) = k0_pay21 k0_pay7 k0_pay11 c s (extractStridedSlice S256x128 ![0, 640] P Gen.slices_S256x2560_o0_640_S256x128)
    (shapeCast S1x128 g Gen.shapeCasts_S1x128_S1x128) := by rfl
  rw [e, q_of]
  simp only [slice_at640]
  exact congrArg (fun f => query _ f _ _ d) (funext fun l => gain_at g l)

theorem qTop6 (c s : FVec Ideal S256x128 .f32) (P : FVec Ideal S256x2560 .f32) (g : Vec Ideal S1x128 .f32) (d : Fin 256) (r : Fin 256) :
    k0_pay32 (k0_pay31 k0_pay7 k0_pay11 P c s g) (ix4 0 0 d r)
      = query (fun l => P (ix2 r ⟨768 + l, by omega⟩)) (fun l => g (ix2 0 l)) (fun l => c (ix2 r l)) (fun l => s (ix2 r l)) d := by
  have e : k0_pay32 (k0_pay31 k0_pay7 k0_pay11 P c s g) = k0_pay21 k0_pay7 k0_pay11 c s (extractStridedSlice S256x128 ![0, 768] P Gen.slices_S256x2560_o0_768_S256x128)
    (shapeCast S1x128 g Gen.shapeCasts_S1x128_S1x128) := by rfl
  rw [e, q_of]
  simp only [slice_at768]
  exact congrArg (fun f => query _ f _ _ d) (funext fun l => gain_at g l)

theorem qTop7 (c s : FVec Ideal S256x128 .f32) (P : FVec Ideal S256x2560 .f32) (g : Vec Ideal S1x128 .f32) (d : Fin 256) (r : Fin 256) :
    k0_pay33 k0_pay7 k0_pay11 P c s g (ix4 0 0 d r)
      = query (fun l => P (ix2 r ⟨896 + l, by omega⟩)) (fun l => g (ix2 0 l)) (fun l => c (ix2 r l)) (fun l => s (ix2 r l)) d := by
  have e : k0_pay33 k0_pay7 k0_pay11 P c s g = k0_pay21 k0_pay7 k0_pay11 c s (extractStridedSlice S256x128 ![0, 896] P Gen.slices_S256x2560_o0_896_S256x128)
    (shapeCast S1x128 g Gen.shapeCasts_S1x128_S1x128) := by rfl
  rw [e, q_of]
  simp only [slice_at896]
  exact congrArg (fun f => query _ f _ _ d) (funext fun l => gain_at g l)

/-- The query heads of the second half's rows. -/
theorem qBot0 (X : FVec Ideal S256x1024 .f32) (G : FVec Ideal S1x1024 .f32) (R N : FVec Ideal S256x1 .f32) (W : Vec Ideal S1024x2560 .bf16) (C S : Vec Ideal S256x128 .f32) (g : Vec Ideal S1x128 .f32) (d : Fin 256) (r : Fin 256) :
    k0_pay52 (k0_pay51 k0_pay7 k0_pay11 X G R N W C S g) (ix4 0 0 d r)
      = query (fun l => (k0_pay48 X G R N W) (ix2 r ⟨0 + l, by omega⟩)) (fun l => g (ix2 0 l)) (fun l => (k0_pay49 C) (ix2 r l)) (fun l => (k0_pay50 S) (ix2 r l)) d := by
  have e : k0_pay52 (k0_pay51 k0_pay7 k0_pay11 X G R N W C S g) = k0_pay21 k0_pay7 k0_pay11 (k0_pay49 C) (k0_pay50 S) (extractStridedSlice S256x128 ![0, 0] (k0_pay48 X G R N W) Gen.slices_S256x2560_o0_0_S256x128)
    (shapeCast S1x128 g Gen.shapeCasts_S1x128_S1x128) := by rfl
  rw [e, q_of]
  simp only [slice_at0]
  exact congrArg (fun f => query _ f _ _ d) (funext fun l => gain_at g l)

theorem qBot1 (c s : FVec Ideal S256x128 .f32) (P : FVec Ideal S256x2560 .f32) (g : Vec Ideal S1x128 .f32) (d : Fin 256) (r : Fin 256) :
    k0_pay53 k0_pay7 k0_pay11 P c s g (ix4 0 0 d r)
      = query (fun l => P (ix2 r ⟨128 + l, by omega⟩)) (fun l => g (ix2 0 l)) (fun l => c (ix2 r l)) (fun l => s (ix2 r l)) d := by
  have e : k0_pay53 k0_pay7 k0_pay11 P c s g = k0_pay21 k0_pay7 k0_pay11 c s (extractStridedSlice S256x128 ![0, 128] P Gen.slices_S256x2560_o0_128_S256x128)
    (shapeCast S1x128 g Gen.shapeCasts_S1x128_S1x128) := by rfl
  rw [e, q_of]
  simp only [slice_at128]
  exact congrArg (fun f => query _ f _ _ d) (funext fun l => gain_at g l)

theorem qBot2 (c s : FVec Ideal S256x128 .f32) (P : FVec Ideal S256x2560 .f32) (g : Vec Ideal S1x128 .f32) (d : Fin 256) (r : Fin 256) :
    k0_pay57 k0_pay7 k0_pay11 c s (k0_pay54 P) (k0_pay55 g) (k0_pay56 P) (Scalar.ofBits .f32 0x358637BD#32) (ix4 0 0 d r)
      = query (fun l => P (ix2 r ⟨256 + l, by omega⟩)) (fun l => g (ix2 0 l)) (fun l => c (ix2 r l)) (fun l => s (ix2 r l)) d := by
  have e : k0_pay57 k0_pay7 k0_pay11 c s (k0_pay54 P) (k0_pay55 g) (k0_pay56 P) (Scalar.ofBits .f32 0x358637BD#32) = k0_pay21 k0_pay7 k0_pay11 c s (extractStridedSlice S256x128 ![0, 256] P Gen.slices_S256x2560_o0_256_S256x128)
    (shapeCast S1x128 g Gen.shapeCasts_S1x128_S1x128) := by rfl
  rw [e, q_of]
  simp only [slice_at256]
  exact congrArg (fun f => query _ f _ _ d) (funext fun l => gain_at g l)

theorem qBot3 (c s : FVec Ideal S256x128 .f32) (P : FVec Ideal S256x2560 .f32) (g : Vec Ideal S1x128 .f32) (d : Fin 256) (r : Fin 256) :
    k0_pay59 k0_pay11 (k0_pay58 k0_pay7 P c s g) (ix4 0 0 d r)
      = query (fun l => P (ix2 r ⟨384 + l, by omega⟩)) (fun l => g (ix2 0 l)) (fun l => c (ix2 r l)) (fun l => s (ix2 r l)) d := by
  have e : k0_pay59 k0_pay11 (k0_pay58 k0_pay7 P c s g) = k0_pay21 k0_pay7 k0_pay11 c s (extractStridedSlice S256x128 ![0, 384] P Gen.slices_S256x2560_o0_384_S256x128)
    (shapeCast S1x128 g Gen.shapeCasts_S1x128_S1x128) := by rfl
  rw [e, q_of]
  simp only [slice_at384]
  exact congrArg (fun f => query _ f _ _ d) (funext fun l => gain_at g l)

theorem qBot4 (c s : FVec Ideal S256x128 .f32) (P : FVec Ideal S256x2560 .f32) (g : Vec Ideal S1x128 .f32) (d : Fin 256) (r : Fin 256) :
    k0_pay60 k0_pay7 k0_pay11 P c s g (ix4 0 0 d r)
      = query (fun l => P (ix2 r ⟨512 + l, by omega⟩)) (fun l => g (ix2 0 l)) (fun l => c (ix2 r l)) (fun l => s (ix2 r l)) d := by
  have e : k0_pay60 k0_pay7 k0_pay11 P c s g = k0_pay21 k0_pay7 k0_pay11 c s (extractStridedSlice S256x128 ![0, 512] P Gen.slices_S256x2560_o0_512_S256x128)
    (shapeCast S1x128 g Gen.shapeCasts_S1x128_S1x128) := by rfl
  rw [e, q_of]
  simp only [slice_at512]
  exact congrArg (fun f => query _ f _ _ d) (funext fun l => gain_at g l)

theorem qBot5 (c s : FVec Ideal S256x128 .f32) (P : FVec Ideal S256x2560 .f32) (g : Vec Ideal S1x128 .f32) (d : Fin 256) (r : Fin 256) :
    k0_pay64 k0_pay7 k0_pay11 c s (k0_pay61 P) (k0_pay62 g) (k0_pay63 P) (ix4 0 0 d r)
      = query (fun l => P (ix2 r ⟨640 + l, by omega⟩)) (fun l => g (ix2 0 l)) (fun l => c (ix2 r l)) (fun l => s (ix2 r l)) d := by
  have e : k0_pay64 k0_pay7 k0_pay11 c s (k0_pay61 P) (k0_pay62 g) (k0_pay63 P) = k0_pay21 k0_pay7 k0_pay11 c s (extractStridedSlice S256x128 ![0, 640] P Gen.slices_S256x2560_o0_640_S256x128)
    (shapeCast S1x128 g Gen.shapeCasts_S1x128_S1x128) := by rfl
  rw [e, q_of]
  simp only [slice_at640]
  exact congrArg (fun f => query _ f _ _ d) (funext fun l => gain_at g l)

theorem qBot6 (c s : FVec Ideal S256x128 .f32) (P : FVec Ideal S256x2560 .f32) (g : Vec Ideal S1x128 .f32) (d : Fin 256) (r : Fin 256) :
    k0_pay67 k0_pay11 c s (k0_pay65 P g) (k0_pay66 k0_pay7 P g) (ix4 0 0 d r)
      = query (fun l => P (ix2 r ⟨768 + l, by omega⟩)) (fun l => g (ix2 0 l)) (fun l => c (ix2 r l)) (fun l => s (ix2 r l)) d := by
  have e : k0_pay67 k0_pay11 c s (k0_pay65 P g) (k0_pay66 k0_pay7 P g) = k0_pay21 k0_pay7 k0_pay11 c s (extractStridedSlice S256x128 ![0, 768] P Gen.slices_S256x2560_o0_768_S256x128)
    (shapeCast S1x128 g Gen.shapeCasts_S1x128_S1x128) := by rfl
  rw [e, q_of]
  simp only [slice_at768]
  exact congrArg (fun f => query _ f _ _ d) (funext fun l => gain_at g l)

theorem qBot7 (c s : FVec Ideal S256x128 .f32) (P : FVec Ideal S256x2560 .f32) (g : Vec Ideal S1x128 .f32) (d : Fin 256) (r : Fin 256) :
    k0_pay68 k0_pay7 k0_pay11 P c s g (ix4 0 0 d r)
      = query (fun l => P (ix2 r ⟨896 + l, by omega⟩)) (fun l => g (ix2 0 l)) (fun l => c (ix2 r l)) (fun l => s (ix2 r l)) d := by
  have e : k0_pay68 k0_pay7 k0_pay11 P c s g = k0_pay21 k0_pay7 k0_pay11 c s (extractStridedSlice S256x128 ![0, 896] P Gen.slices_S256x2560_o0_896_S256x128)
    (shapeCast S1x128 g Gen.shapeCasts_S1x128_S1x128) := by rfl
  rw [e, q_of]
  simp only [slice_at896]
  exact congrArg (fun f => query _ f _ _ d) (funext fun l => gain_at g l)

/-- The key heads. -/
theorem kTop0 (c s : FVec Ideal S256x128 .f32) (P : FVec Ideal S256x2560 .f32) (sh : FVec Ideal S256x128 .bf16) (σ : EReal)
    (hs : ∀ (r : Fin 256) (d : Fin 128), sh (ix2 r d) = (if (d : ℕ) = 0 then -σ else 0 : EReal)) (g : Vec Ideal S1x128 .f32) (d : Fin 256) (r : Fin 256) :
    k0_pay38 k0_pay7 sh c s (k0_pay34 P) (k0_pay35 g) (k0_pay36 P) k0_pay37 (ix4 0 0 r d)
      = key (fun l => P (ix2 r ⟨1024 + l, by omega⟩)) (fun l => g (ix2 0 l)) (fun l => c (ix2 r l)) (fun l => s (ix2 r l)) σ d := by
  have e : k0_pay38 k0_pay7 sh c s (k0_pay34 P) (k0_pay35 g) (k0_pay36 P) k0_pay37 = k0_pay70 k0_pay7 sh c s (extractStridedSlice S256x128 ![0, 1024] P Gen.slices_S256x2560_o0_1024_S256x128) g := by rfl
  rw [e, k_of _ _ _ _ _ σ hs]
  simp only [slice_at1024]

theorem kTop1 (c s : FVec Ideal S256x128 .f32) (P : FVec Ideal S256x2560 .f32) (sh : FVec Ideal S256x128 .bf16) (σ : EReal)
    (hs : ∀ (r : Fin 256) (d : Fin 128), sh (ix2 r d) = (if (d : ℕ) = 0 then -σ else 0 : EReal)) (g : Vec Ideal S1x128 .f32) (d : Fin 256) (r : Fin 256) :
    k0_pay41 k0_pay7 sh c s (k0_pay40 P g) 127#32 (ix4 0 0 r d)
      = key (fun l => P (ix2 r ⟨1152 + l, by omega⟩)) (fun l => g (ix2 0 l)) (fun l => c (ix2 r l)) (fun l => s (ix2 r l)) σ d := by
  have e : k0_pay41 k0_pay7 sh c s (k0_pay40 P g) 127#32 = k0_pay70 k0_pay7 sh c s (extractStridedSlice S256x128 ![0, 1152] P Gen.slices_S256x2560_o0_1152_S256x128) g := by rfl
  rw [e, k_of _ _ _ _ _ σ hs]
  simp only [slice_at1152]

theorem kBot0 (c s : FVec Ideal S256x128 .f32) (P : FVec Ideal S256x2560 .f32) (sh : FVec Ideal S256x128 .bf16) (σ : EReal)
    (hs : ∀ (r : Fin 256) (d : Fin 128), sh (ix2 r d) = (if (d : ℕ) = 0 then -σ else 0 : EReal)) (g : Vec Ideal S1x128 .f32) (d : Fin 256) (r : Fin 256) :
    k0_pay70 k0_pay7 sh c s (k0_pay69 P) g (ix4 0 0 r d)
      = key (fun l => P (ix2 r ⟨1024 + l, by omega⟩)) (fun l => g (ix2 0 l)) (fun l => c (ix2 r l)) (fun l => s (ix2 r l)) σ d := by
  have e : k0_pay70 k0_pay7 sh c s (k0_pay69 P) g = k0_pay70 k0_pay7 sh c s (extractStridedSlice S256x128 ![0, 1024] P Gen.slices_S256x2560_o0_1024_S256x128) g := by rfl
  rw [e, k_of _ _ _ _ _ σ hs]
  simp only [slice_at1024]

theorem kBot1 (c s : FVec Ideal S256x128 .f32) (P : FVec Ideal S256x2560 .f32) (sh : FVec Ideal S256x128 .bf16) (σ : EReal)
    (hs : ∀ (r : Fin 256) (d : Fin 128), sh (ix2 r d) = (if (d : ℕ) = 0 then -σ else 0 : EReal)) (g : Vec Ideal S1x128 .f32) (d : Fin 256) (r : Fin 256) :
    k0_pay76 k0_pay7 sh c s (k0_pay72 P) (k0_pay73 g) (k0_pay74 P) k0_pay75 (ix4 0 0 r d)
      = key (fun l => P (ix2 r ⟨1152 + l, by omega⟩)) (fun l => g (ix2 0 l)) (fun l => c (ix2 r l)) (fun l => s (ix2 r l)) σ d := by
  have e : k0_pay76 k0_pay7 sh c s (k0_pay72 P) (k0_pay73 g) (k0_pay74 P) k0_pay75 = k0_pay70 k0_pay7 sh c s (extractStridedSlice S256x128 ![0, 1152] P Gen.slices_S256x2560_o0_1152_S256x128) g := by rfl
  rw [e, k_of _ _ _ _ _ σ hs]
  simp only [slice_at1152]

/-- The value heads of the second half's rows. -/
theorem vBot0 (p : FVec Ideal S256x2560 .f32) (d : Fin 144) (r : Fin 256) :
    k0_pay71 k0_pay8 p (ix4 0 0 d r) = value (fun l => p (ix2 r ⟨1280 + l, by omega⟩)) d :=
  Eq.trans (by rfl) (v_of p d r)

theorem vBot1 (p : FVec Ideal S256x2560 .f32) (d : Fin 144) (r : Fin 256) :
    k0_pay77 k0_pay8 p (ix4 0 0 d r) = value (fun l => p (ix2 r ⟨1408 + l, by omega⟩)) d :=
  Eq.trans (by rfl) (v_of' p d r)

end Cert.MidIdeal.Hand

end
-- ==== Proof.MidIdealOutX.lean ====
/- The middle kernel: the sums and the gate's preimage a grid point leaves. -/
module

public import proofs.«01_k».proof.Proof.MidIdealArgs
public import proofs.«01_k».proof.Proof.MidIdealHeads

@[expose] public section

set_option maxRecDepth 16384

noncomputable section

namespace Cert.MidIdeal.Hand

open Cert.MidIdeal Cert.MidIdeal.Gen
open Idealize.ShloMosaic Idealize.ShloMosaic.TcCoe Idealize.ShloMosaic.Tactic
open Idealize.ShloMosaic.Pipeline (Dat Cfg Window)
open Cert.MidRow

variable (m : (ℓ : Loc nD τ sig) → Buf (Elt Ideal) ℓ) (c : Dev nD) (t : Fin cfg0.N)

theorem x1_out (ht : t.val < 32) (R : Fin 16384) (j : Fin 1024) (y : S512x1024.Idx) (hR : (R : ℕ) = 512 * t.val + y 0) (hj : (j : ℕ) = y 1) :
    (outsAt0 m c t.val t.isLt).1 y = (args m c).x1 R j := by
  by_cases h : t.val % 32 = 0
  · rw [outsAt0_A m c t h h]
    frame_out
    canon_tiles x u
    case piece0 =>
      rw [pay1_eq]
      obtain ⟨r, hr⟩ : ∃ r : Fin 256, (R : ℕ) = 512 * t.val + (256 + r) :=
        ⟨⟨(R : ℕ) - (512 * t.val + 256), by omega⟩, by show (R : ℕ) = 512 * t.val + (256 + ((R : ℕ) - (512 * t.val + 256))); omega⟩
      obtain rfl : x = ix2 r j := by blk_ext
      exact (x1Bot_at m c t r j ht).trans (congrArg (fun k => (args m c).x1 k j) (Fin.ext hr.symm))
    case piece1 =>
      rw [pay1_eq]
      obtain ⟨r, hr⟩ : ∃ r : Fin 256, (R : ℕ) = 512 * t.val + r :=
        ⟨⟨(R : ℕ) - (512 * t.val), by omega⟩, by show (R : ℕ) = 512 * t.val + (((R : ℕ) - (512 * t.val))); omega⟩
      obtain rfl : x = ix2 r j := by blk_ext
      exact (x1Top_at m c t r j ht).trans (congrArg (fun k => (args m c).x1 k j) (Fin.ext hr.symm))
  · rw [outsAt0_B m c t h h, (scr m c _ _).1, (scr m c _ _).2]
    frame_out
    canon_tiles x u
    case piece0 =>
      rw [show View.read (Elt Ideal) (View.whole cc0_scratch0) _ = wto m c from Memref.IsWhole.read_unread _ _]
      obtain ⟨r, hr⟩ : ∃ r : Fin 256, (R : ℕ) = 512 * t.val + (256 + r) :=
        ⟨⟨(R : ℕ) - (512 * t.val + 256), by omega⟩, by show (R : ℕ) = 512 * t.val + (256 + ((R : ℕ) - (512 * t.val + 256))); omega⟩
      obtain rfl : x = ix2 r j := by blk_ext
      exact (x1Bot_at m c t r j ht).trans (congrArg (fun k => (args m c).x1 k j) (Fin.ext hr.symm))
    case piece1 =>
      rw [show View.read (Elt Ideal) (View.whole cc0_scratch0) _ = wto m c from Memref.IsWhole.read_unread _ _]
      obtain ⟨r, hr⟩ : ∃ r : Fin 256, (R : ℕ) = 512 * t.val + r :=
        ⟨⟨(R : ℕ) - (512 * t.val), by omega⟩, by show (R : ℕ) = 512 * t.val + (((R : ℕ) - (512 * t.val))); omega⟩
      obtain rfl : x = ix2 r j := by blk_ext
      exact (x1Top_at m c t r j ht).trans (congrArg (fun k => (args m c).x1 k j) (Fin.ext hr.symm))

theorem z_out (ht : t.val < 32) (R : Fin 16384) (j : Fin 1024) (y : S512x1024.Idx) (hR : (R : ℕ) = 512 * t.val + y 0) (hj : (j : ℕ) = y 1) :
    (outsAt0 m c t.val t.isLt).2.2.2.2.1 y = (args m c).z R j := by
  by_cases h : t.val % 32 = 0
  · rw [outsAt0_A m c t h h]
    frame_out
    canon_tiles x u
    case piece0 =>
      rw [pay1_eq, pay2_eq]
      obtain ⟨r, hr⟩ : ∃ r : Fin 256, (R : ℕ) = 512 * t.val + (256 + r) :=
        ⟨⟨(R : ℕ) - (512 * t.val + 256), by omega⟩, by show (R : ℕ) = 512 * t.val + (256 + ((R : ℕ) - (512 * t.val + 256))); omega⟩
      obtain rfl : x = ix2 r j := by blk_ext
      exact ((z_bot (pBot m c t) r j).trans (pBot_at m c t r _ ht)).trans (congrArg (fun k => (args m c).z k j) (Fin.ext hr.symm))
    case piece1 =>
      rw [pay1_eq, pay2_eq]
      obtain ⟨r, hr⟩ : ∃ r : Fin 256, (R : ℕ) = 512 * t.val + r :=
        ⟨⟨(R : ℕ) - (512 * t.val), by omega⟩, by show (R : ℕ) = 512 * t.val + (((R : ℕ) - (512 * t.val))); omega⟩
      obtain rfl : x = ix2 r j := by blk_ext
      exact ((z_top (pTop m c t) r j).trans (pTop_at m c t r _ ht)).trans (congrArg (fun k => (args m c).z k j) (Fin.ext hr.symm))
  · rw [outsAt0_B m c t h h, (scr m c _ _).1, (scr m c _ _).2]
    frame_out
    canon_tiles x u
    case piece0 =>
      rw [show View.read (Elt Ideal) (View.whole cc0_scratch0) _ = wto m c from Memref.IsWhole.read_unread _ _]
      rw [show View.read (Elt Ideal) (View.whole cc0_scratch1) _ = wti m c from Memref.IsWhole.read_unread _ _]
      obtain ⟨r, hr⟩ : ∃ r : Fin 256, (R : ℕ) = 512 * t.val + (256 + r) :=
        ⟨⟨(R : ℕ) - (512 * t.val + 256), by omega⟩, by show (R : ℕ) = 512 * t.val + (256 + ((R : ℕ) - (512 * t.val + 256))); omega⟩
      obtain rfl : x = ix2 r j := by blk_ext
      exact ((z_bot (pBot m c t) r j).trans (pBot_at m c t r _ ht)).trans (congrArg (fun k => (args m c).z k j) (Fin.ext hr.symm))
    case piece1 =>
      rw [show View.read (Elt Ideal) (View.whole cc0_scratch0) _ = wto m c from Memref.IsWhole.read_unread _ _]
      rw [show View.read (Elt Ideal) (View.whole cc0_scratch1) _ = wti m c from Memref.IsWhole.read_unread _ _]
      obtain ⟨r, hr⟩ : ∃ r : Fin 256, (R : ℕ) = 512 * t.val + r :=
        ⟨⟨(R : ℕ) - (512 * t.val), by omega⟩, by show (R : ℕ) = 512 * t.val + (((R : ℕ) - (512 * t.val))); omega⟩
      obtain rfl : x = ix2 r j := by blk_ext
      exact ((z_top (pTop m c t) r j).trans (pTop_at m c t r _ ht)).trans (congrArg (fun k => (args m c).z k j) (Fin.ext hr.symm))

end Cert.MidIdeal.Hand

end
-- ==== Proof.MidIdealOutQ.lean ====
/- The middle kernel: the query heads a grid point leaves. -/
module

public import proofs.«01_k».proof.Proof.MidIdealArgs
public import proofs.«01_k».proof.Proof.MidIdealHeads

@[expose] public section

set_option maxRecDepth 16384

noncomputable section

namespace Cert.MidIdeal.Hand

open Cert.MidIdeal Cert.MidIdeal.Gen
open Idealize.ShloMosaic Idealize.ShloMosaic.TcCoe Idealize.ShloMosaic.Tactic
open Idealize.ShloMosaic.Pipeline (Dat Cfg Window)
open Cert.MidRow

variable (m : (ℓ : Loc nD τ sig) → Buf (Elt Ideal) ℓ) (c : Dev nD) (t : Fin cfg0.N)

theorem q_rowTop (ht : t.val < 32) (b : Fin 2) (h : Fin 8) (d : Fin 256) (s : Fin 8192) (r : Fin 256) (hb : (b : ℕ) = t.val / 16)
    (hs : (s : ℕ) = 512 * (t.val % 16) + r) :
    query (fun l => pTop m c t (ix2 r ⟨128 * h + l, by omega⟩)) (fun l => (iblk m c 11 t : Vec Ideal S1x128 .f32) (ix2 0 l))
      (fun l => k0_pay16 (cTop m c t) (ix2 r l)) (fun l => k0_pay17 (sTop m c t) (ix2 r l)) d = (args m c).q b h d s :=
  query_congr (fun l => (pTop_at m c t r _ ht).trans (congrArg (fun k => (args m c).p k _) (Fin.ext (by show 512 * t.val + r = 8192 * (b : ℕ) + s; omega))))
    (fun l => qg_blk m c t l) (fun l => (cTop_at m c t r l ht).trans (congrArg (fun k => (args m c).c k l) (Fin.ext hs.symm)))
    (fun l => (sTop_at m c t r l ht).trans (congrArg (fun k => (args m c).sn k l) (Fin.ext hs.symm))) d

theorem q_rowBot (ht : t.val < 32) (b : Fin 2) (h : Fin 8) (d : Fin 256) (s : Fin 8192) (r : Fin 256) (hb : (b : ℕ) = t.val / 16)
    (hs : (s : ℕ) = 512 * (t.val % 16) + (256 + r)) :
    query (fun l => pBot m c t (ix2 r ⟨128 * h + l, by omega⟩)) (fun l => (iblk m c 11 t : Vec Ideal S1x128 .f32) (ix2 0 l))
      (fun l => k0_pay49 (cBot m c t) (ix2 r l)) (fun l => k0_pay50 (sBot m c t) (ix2 r l)) d = (args m c).q b h d s :=
  query_congr (fun l => (pBot_at m c t r _ ht).trans (congrArg (fun k => (args m c).p k _) (Fin.ext (by show 512 * t.val + (256 + r) = 8192 * (b : ℕ) + s; omega))))
    (fun l => qg_blk m c t l) (fun l => (cBot_at m c t r l ht).trans (congrArg (fun k => (args m c).c k l) (Fin.ext hs.symm)))
    (fun l => (sBot_at m c t r l ht).trans (congrArg (fun k => (args m c).sn k l) (Fin.ext hs.symm))) d

set_option maxHeartbeats 1600000 in
theorem q_out (ht : t.val < 32) (b : Fin 2) (h' : Fin 8) (d : Fin 256) (s : Fin 8192) (y : S1x8x256x512.Idx) (hb : (b : ℕ) = t.val / 16)
    (hh : (h' : ℕ) = y 1) (hd : (d : ℕ) = y 2) (hs : (s : ℕ) = 512 * (t.val % 16) + y 3) :
    (outsAt0 m c t.val t.isLt).2.1 y = (args m c).q b h' d s := by
  by_cases h : t.val % 32 = 0
  · rw [outsAt0_A m c t h h]
    frame_out
    canon_tiles x u
    case piece0 =>
      rw [pay1_eq, pay2_eq]
      obtain rfl : h' = 7 := Fin.ext (by show (h' : ℕ) = 7; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (qBot7 (k0_pay49 (cBot m c t)) (k0_pay50 (sBot m c t)) (pBot m c t) (iblk m c 11 t) d r).trans (q_rowBot m c t ht b 7 d s r hb hr)
    case piece1 =>
      rw [pay1_eq, pay2_eq]
      obtain rfl : h' = 6 := Fin.ext (by show (h' : ℕ) = 6; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (qBot6 (k0_pay49 (cBot m c t)) (k0_pay50 (sBot m c t)) (pBot m c t) (iblk m c 11 t) d r).trans (q_rowBot m c t ht b 6 d s r hb hr)
    case piece2 =>
      rw [pay1_eq, pay2_eq]
      obtain rfl : h' = 5 := Fin.ext (by show (h' : ℕ) = 5; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (qBot5 (k0_pay49 (cBot m c t)) (k0_pay50 (sBot m c t)) (pBot m c t) (iblk m c 11 t) d r).trans (q_rowBot m c t ht b 5 d s r hb hr)
    case piece3 =>
      rw [pay1_eq, pay2_eq]
      obtain rfl : h' = 4 := Fin.ext (by show (h' : ℕ) = 4; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (qBot4 (k0_pay49 (cBot m c t)) (k0_pay50 (sBot m c t)) (pBot m c t) (iblk m c 11 t) d r).trans (q_rowBot m c t ht b 4 d s r hb hr)
    case piece4 =>
      rw [pay1_eq, pay2_eq]
      obtain rfl : h' = 3 := Fin.ext (by show (h' : ℕ) = 3; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (qBot3 (k0_pay49 (cBot m c t)) (k0_pay50 (sBot m c t)) (pBot m c t) (iblk m c 11 t) d r).trans (q_rowBot m c t ht b 3 d s r hb hr)
    case piece5 =>
      rw [pay1_eq, pay2_eq]
      obtain rfl : h' = 2 := Fin.ext (by show (h' : ℕ) = 2; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (qBot2 (k0_pay49 (cBot m c t)) (k0_pay50 (sBot m c t)) (pBot m c t) (iblk m c 11 t) d r).trans (q_rowBot m c t ht b 2 d s r hb hr)
    case piece6 =>
      rw [pay1_eq, pay2_eq]
      obtain rfl : h' = 1 := Fin.ext (by show (h' : ℕ) = 1; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (qBot1 (k0_pay49 (cBot m c t)) (k0_pay50 (sBot m c t)) (pBot m c t) (iblk m c 11 t) d r).trans (q_rowBot m c t ht b 1 d s r hb hr)
    case piece7 =>
      rw [pay1_eq, pay2_eq]
      obtain rfl : h' = 0 := Fin.ext (by show (h' : ℕ) = 0; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (qBot0 (k0_pay44 (yBlk m c t) (xBot m c t) (wto m c)) (k0_pay45 (iblk m c 9 t)) (k0_pay46 (yBlk m c t) (xBot m c t) (wto m c)) k0_pay47 (wti m c) (cBot m c t) (sBot m c t) (iblk m c 11 t) d r).trans (q_rowBot m c t ht b 0 d s r hb hr)
    case piece8 =>
      rw [pay1_eq, pay2_eq]
      obtain rfl : h' = 7 := Fin.ext (by show (h' : ℕ) = 7; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (qTop7 (k0_pay16 (cTop m c t)) (k0_pay17 (sTop m c t)) (pTop m c t) (iblk m c 11 t) d r).trans (q_rowTop m c t ht b 7 d s r hb hr)
    case piece9 =>
      rw [pay1_eq, pay2_eq]
      obtain rfl : h' = 6 := Fin.ext (by show (h' : ℕ) = 6; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (qTop6 (k0_pay16 (cTop m c t)) (k0_pay17 (sTop m c t)) (pTop m c t) (iblk m c 11 t) d r).trans (q_rowTop m c t ht b 6 d s r hb hr)
    case piece10 =>
      rw [pay1_eq, pay2_eq]
      obtain rfl : h' = 5 := Fin.ext (by show (h' : ℕ) = 5; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (qTop5 (k0_pay16 (cTop m c t)) (k0_pay17 (sTop m c t)) (pTop m c t) (iblk m c 11 t) d r).trans (q_rowTop m c t ht b 5 d s r hb hr)
    case piece11 =>
      rw [pay1_eq, pay2_eq]
      obtain rfl : h' = 4 := Fin.ext (by show (h' : ℕ) = 4; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (qTop4 (k0_pay16 (cTop m c t)) (k0_pay17 (sTop m c t)) (pTop m c t) (iblk m c 11 t) d r).trans (q_rowTop m c t ht b 4 d s r hb hr)
    case piece12 =>
      rw [pay1_eq, pay2_eq]
      obtain rfl : h' = 3 := Fin.ext (by show (h' : ℕ) = 3; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (qTop3 (k0_pay16 (cTop m c t)) (k0_pay17 (sTop m c t)) (pTop m c t) (iblk m c 11 t) d r).trans (q_rowTop m c t ht b 3 d s r hb hr)
    case piece13 =>
      rw [pay1_eq, pay2_eq]
      obtain rfl : h' = 2 := Fin.ext (by show (h' : ℕ) = 2; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (qTop2 (k0_pay16 (cTop m c t)) (k0_pay17 (sTop m c t)) (pTop m c t) (iblk m c 11 t) d r).trans (q_rowTop m c t ht b 2 d s r hb hr)
    case piece14 =>
      rw [pay1_eq, pay2_eq]
      obtain rfl : h' = 1 := Fin.ext (by show (h' : ℕ) = 1; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (qTop1 (k0_pay16 (cTop m c t)) (k0_pay17 (sTop m c t)) (k0_pay14 (yBlk m c t) (xTop m c t) (wto m c) (iblk m c 9 t)) (wti m c) (iblk m c 11 t) d r).trans (q_rowTop m c t ht b 1 d s r hb hr)
    case piece15 =>
      rw [pay1_eq, pay2_eq]
      obtain rfl : h' = 0 := Fin.ext (by show (h' : ℕ) = 0; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (qTop0 (k0_pay14 (yBlk m c t) (xTop m c t) (wto m c) (iblk m c 9 t)) (wti m c) (cTop m c t) (sTop m c t) (iblk m c 11 t) d r).trans (q_rowTop m c t ht b 0 d s r hb hr)
  · rw [outsAt0_B m c t h h, (scr m c _ _).1, (scr m c _ _).2]
    frame_out
    canon_tiles x u
    case piece0 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 7 := Fin.ext (by show (h' : ℕ) = 7; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (qBot7 (k0_pay49 (cBot m c t)) (k0_pay50 (sBot m c t)) (pBot m c t) (iblk m c 11 t) d r).trans (q_rowBot m c t ht b 7 d s r hb hr)
    case piece1 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 6 := Fin.ext (by show (h' : ℕ) = 6; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (qBot6 (k0_pay49 (cBot m c t)) (k0_pay50 (sBot m c t)) (pBot m c t) (iblk m c 11 t) d r).trans (q_rowBot m c t ht b 6 d s r hb hr)
    case piece2 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 5 := Fin.ext (by show (h' : ℕ) = 5; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (qBot5 (k0_pay49 (cBot m c t)) (k0_pay50 (sBot m c t)) (pBot m c t) (iblk m c 11 t) d r).trans (q_rowBot m c t ht b 5 d s r hb hr)
    case piece3 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 4 := Fin.ext (by show (h' : ℕ) = 4; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (qBot4 (k0_pay49 (cBot m c t)) (k0_pay50 (sBot m c t)) (pBot m c t) (iblk m c 11 t) d r).trans (q_rowBot m c t ht b 4 d s r hb hr)
    case piece4 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 3 := Fin.ext (by show (h' : ℕ) = 3; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (qBot3 (k0_pay49 (cBot m c t)) (k0_pay50 (sBot m c t)) (pBot m c t) (iblk m c 11 t) d r).trans (q_rowBot m c t ht b 3 d s r hb hr)
    case piece5 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 2 := Fin.ext (by show (h' : ℕ) = 2; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (qBot2 (k0_pay49 (cBot m c t)) (k0_pay50 (sBot m c t)) (pBot m c t) (iblk m c 11 t) d r).trans (q_rowBot m c t ht b 2 d s r hb hr)
    case piece6 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 1 := Fin.ext (by show (h' : ℕ) = 1; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (qBot1 (k0_pay49 (cBot m c t)) (k0_pay50 (sBot m c t)) (pBot m c t) (iblk m c 11 t) d r).trans (q_rowBot m c t ht b 1 d s r hb hr)
    case piece7 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 0 := Fin.ext (by show (h' : ℕ) = 0; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (qBot0 (k0_pay44 (yBlk m c t) (xBot m c t) (wto m c)) (k0_pay45 (iblk m c 9 t)) (k0_pay46 (yBlk m c t) (xBot m c t) (wto m c)) k0_pay47 (wti m c) (cBot m c t) (sBot m c t) (iblk m c 11 t) d r).trans (q_rowBot m c t ht b 0 d s r hb hr)
    case piece8 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 7 := Fin.ext (by show (h' : ℕ) = 7; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (qTop7 (k0_pay16 (cTop m c t)) (k0_pay17 (sTop m c t)) (pTop m c t) (iblk m c 11 t) d r).trans (q_rowTop m c t ht b 7 d s r hb hr)
    case piece9 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 6 := Fin.ext (by show (h' : ℕ) = 6; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (qTop6 (k0_pay16 (cTop m c t)) (k0_pay17 (sTop m c t)) (pTop m c t) (iblk m c 11 t) d r).trans (q_rowTop m c t ht b 6 d s r hb hr)
    case piece10 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 5 := Fin.ext (by show (h' : ℕ) = 5; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (qTop5 (k0_pay16 (cTop m c t)) (k0_pay17 (sTop m c t)) (pTop m c t) (iblk m c 11 t) d r).trans (q_rowTop m c t ht b 5 d s r hb hr)
    case piece11 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 4 := Fin.ext (by show (h' : ℕ) = 4; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (qTop4 (k0_pay16 (cTop m c t)) (k0_pay17 (sTop m c t)) (pTop m c t) (iblk m c 11 t) d r).trans (q_rowTop m c t ht b 4 d s r hb hr)
    case piece12 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 3 := Fin.ext (by show (h' : ℕ) = 3; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (qTop3 (k0_pay16 (cTop m c t)) (k0_pay17 (sTop m c t)) (pTop m c t) (iblk m c 11 t) d r).trans (q_rowTop m c t ht b 3 d s r hb hr)
    case piece13 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 2 := Fin.ext (by show (h' : ℕ) = 2; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (qTop2 (k0_pay16 (cTop m c t)) (k0_pay17 (sTop m c t)) (pTop m c t) (iblk m c 11 t) d r).trans (q_rowTop m c t ht b 2 d s r hb hr)
    case piece14 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 1 := Fin.ext (by show (h' : ℕ) = 1; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (qTop1 (k0_pay16 (cTop m c t)) (k0_pay17 (sTop m c t)) (k0_pay14 (yBlk m c t) (xTop m c t) (wto m c) (iblk m c 9 t)) (wti m c) (iblk m c 11 t) d r).trans (q_rowTop m c t ht b 1 d s r hb hr)
    case piece15 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 0 := Fin.ext (by show (h' : ℕ) = 0; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (qTop0 (k0_pay14 (yBlk m c t) (xTop m c t) (wto m c) (iblk m c 9 t)) (wti m c) (cTop m c t) (sTop m c t) (iblk m c 11 t) d r).trans (q_rowTop m c t ht b 0 d s r hb hr)

end Cert.MidIdeal.Hand

end
-- ==== Proof.MidIdealOutKV.lean ====
/- The middle kernel: the key and value heads a grid point leaves. -/
module

public import proofs.«01_k».proof.Proof.MidIdealArgs
public import proofs.«01_k».proof.Proof.MidIdealHeads

@[expose] public section

set_option maxRecDepth 16384

noncomputable section

namespace Cert.MidIdeal.Hand

open Cert.MidIdeal Cert.MidIdeal.Gen
open Idealize.ShloMosaic Idealize.ShloMosaic.TcCoe Idealize.ShloMosaic.Tactic
open Idealize.ShloMosaic.Pipeline (Dat Cfg Window)
open Cert.MidRow

variable (m : (ℓ : Loc nD τ sig) → Buf (Elt Ideal) ℓ) (c : Dev nD) (t : Fin cfg0.N)

theorem k_rowTop (ht : t.val < 32) (b : Fin 2) (h : Fin 2) (s : Fin 8192) (d : Fin 256) (r : Fin 256) (hb : (b : ℕ) = t.val / 16)
    (hs : (s : ℕ) = 512 * (t.val % 16) + r) :
    key (fun l => pTop m c t (ix2 r ⟨1024 + 128 * h + l, by omega⟩)) (fun l => (iblk m c 12 t : Vec Ideal S1x128 .f32) (ix2 0 l))
      (fun l => k0_pay16 (cTop m c t) (ix2 r l)) (fun l => k0_pay17 (sTop m c t) (ix2 r l)) (shift (args m c).qg (args m c).kg) d = (args m c).k b h s d :=
  key_congr (fun l => (pTop_at m c t r _ ht).trans (congrArg (fun k => (args m c).p k _) (Fin.ext (by show 512 * t.val + r = 8192 * (b : ℕ) + s; omega))))
    (fun l => kg_blk m c t l) (fun l => (cTop_at m c t r l ht).trans (congrArg (fun k => (args m c).c k l) (Fin.ext hs.symm)))
    (fun l => (sTop_at m c t r l ht).trans (congrArg (fun k => (args m c).sn k l) (Fin.ext hs.symm))) rfl d

theorem k_rowBot (ht : t.val < 32) (b : Fin 2) (h : Fin 2) (s : Fin 8192) (d : Fin 256) (r : Fin 256) (hb : (b : ℕ) = t.val / 16)
    (hs : (s : ℕ) = 512 * (t.val % 16) + (256 + r)) :
    key (fun l => pBot m c t (ix2 r ⟨1024 + 128 * h + l, by omega⟩)) (fun l => (iblk m c 12 t : Vec Ideal S1x128 .f32) (ix2 0 l))
      (fun l => k0_pay49 (cBot m c t) (ix2 r l)) (fun l => k0_pay50 (sBot m c t) (ix2 r l)) (shift (args m c).qg (args m c).kg) d = (args m c).k b h s d :=
  key_congr (fun l => (pBot_at m c t r _ ht).trans (congrArg (fun k => (args m c).p k _) (Fin.ext (by show 512 * t.val + (256 + r) = 8192 * (b : ℕ) + s; omega))))
    (fun l => kg_blk m c t l) (fun l => (cBot_at m c t r l ht).trans (congrArg (fun k => (args m c).c k l) (Fin.ext hs.symm)))
    (fun l => (sBot_at m c t r l ht).trans (congrArg (fun k => (args m c).sn k l) (Fin.ext hs.symm))) rfl d

theorem v_rowTop (ht : t.val < 32) (b : Fin 2) (h : Fin 2) (d : Fin 144) (s : Fin 8192) (r : Fin 256) (hb : (b : ℕ) = t.val / 16)
    (hs : (s : ℕ) = 512 * (t.val % 16) + r) :
    value (fun l => pTop m c t (ix2 r ⟨1280 + 128 * h + l, by omega⟩)) d = (args m c).v b h d s :=
  value_congr (fun l => (pTop_at m c t r _ ht).trans (congrArg (fun k => (args m c).p k _) (Fin.ext (by show 512 * t.val + r = 8192 * (b : ℕ) + s; omega)))) d

theorem v_rowBot (ht : t.val < 32) (b : Fin 2) (h : Fin 2) (d : Fin 144) (s : Fin 8192) (r : Fin 256) (hb : (b : ℕ) = t.val / 16)
    (hs : (s : ℕ) = 512 * (t.val % 16) + (256 + r)) :
    value (fun l => pBot m c t (ix2 r ⟨1280 + 128 * h + l, by omega⟩)) d = (args m c).v b h d s :=
  value_congr (fun l => (pBot_at m c t r _ ht).trans (congrArg (fun k => (args m c).p k _) (Fin.ext (by show 512 * t.val + (256 + r) = 8192 * (b : ℕ) + s; omega)))) d

set_option maxHeartbeats 1600000 in
theorem k_out (ht : t.val < 32) (b : Fin 2) (h' : Fin 2) (s : Fin 8192) (d : Fin 256) (y : S1x2x512x256.Idx) (hb : (b : ℕ) = t.val / 16)
    (hh : (h' : ℕ) = y 1) (hs : (s : ℕ) = 512 * (t.val % 16) + y 2) (hd : (d : ℕ) = y 3) :
    (outsAt0 m c t.val t.isLt).2.2.1 y = (args m c).k b h' s d := by
  by_cases h : t.val % 32 = 0
  · rw [outsAt0_A m c t h h]
    frame_out
    canon_tiles x u
    case piece0 =>
      rw [pay1_eq, pay2_eq]
      obtain rfl : h' = 1 := Fin.ext (by show (h' : ℕ) = 1; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 r d := by blk_ext
      exact (kBot1 (k0_pay49 (cBot m c t)) (k0_pay50 (sBot m c t)) (pBot m c t) (k0_pay12 (k0_pay9 (iblk m c 12 t)) (k0_pay10 (iblk m c 11 t))) _ (sh_at m c t) (iblk m c 12 t) d r).trans (k_rowBot m c t ht b 1 s d r hb hr)
    case piece1 =>
      rw [pay1_eq, pay2_eq]
      obtain rfl : h' = 0 := Fin.ext (by show (h' : ℕ) = 0; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 r d := by blk_ext
      exact (kBot0 (k0_pay49 (cBot m c t)) (k0_pay50 (sBot m c t)) (pBot m c t) (k0_pay12 (k0_pay9 (iblk m c 12 t)) (k0_pay10 (iblk m c 11 t))) _ (sh_at m c t) (iblk m c 12 t) d r).trans (k_rowBot m c t ht b 0 s d r hb hr)
    case piece2 =>
      rw [pay1_eq, pay2_eq]
      obtain rfl : h' = 1 := Fin.ext (by show (h' : ℕ) = 1; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 r d := by blk_ext
      exact (kTop1 (k0_pay16 (cTop m c t)) (k0_pay17 (sTop m c t)) (pTop m c t) (k0_pay12 (k0_pay9 (iblk m c 12 t)) (k0_pay10 (iblk m c 11 t))) _ (sh_at m c t) (iblk m c 12 t) d r).trans (k_rowTop m c t ht b 1 s d r hb hr)
    case piece3 =>
      rw [pay1_eq, pay2_eq]
      obtain rfl : h' = 0 := Fin.ext (by show (h' : ℕ) = 0; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 r d := by blk_ext
      exact (kTop0 (k0_pay16 (cTop m c t)) (k0_pay17 (sTop m c t)) (pTop m c t) (k0_pay12 (k0_pay9 (iblk m c 12 t)) (k0_pay10 (iblk m c 11 t))) _ (sh_at m c t) (iblk m c 12 t) d r).trans (k_rowTop m c t ht b 0 s d r hb hr)
  · rw [outsAt0_B m c t h h, (scr m c _ _).1, (scr m c _ _).2]
    frame_out
    canon_tiles x u
    case piece0 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 1 := Fin.ext (by show (h' : ℕ) = 1; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 r d := by blk_ext
      exact (kBot1 (k0_pay49 (cBot m c t)) (k0_pay50 (sBot m c t)) (pBot m c t) (k0_pay12 (k0_pay9 (iblk m c 12 t)) (k0_pay10 (iblk m c 11 t))) _ (sh_at m c t) (iblk m c 12 t) d r).trans (k_rowBot m c t ht b 1 s d r hb hr)
    case piece1 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 0 := Fin.ext (by show (h' : ℕ) = 0; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 r d := by blk_ext
      exact (kBot0 (k0_pay49 (cBot m c t)) (k0_pay50 (sBot m c t)) (pBot m c t) (k0_pay12 (k0_pay9 (iblk m c 12 t)) (k0_pay10 (iblk m c 11 t))) _ (sh_at m c t) (iblk m c 12 t) d r).trans (k_rowBot m c t ht b 0 s d r hb hr)
    case piece2 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 1 := Fin.ext (by show (h' : ℕ) = 1; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 r d := by blk_ext
      exact (kTop1 (k0_pay16 (cTop m c t)) (k0_pay17 (sTop m c t)) (pTop m c t) (k0_pay12 (k0_pay9 (iblk m c 12 t)) (k0_pay10 (iblk m c 11 t))) _ (sh_at m c t) (iblk m c 12 t) d r).trans (k_rowTop m c t ht b 1 s d r hb hr)
    case piece3 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 0 := Fin.ext (by show (h' : ℕ) = 0; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 r d := by blk_ext
      exact (kTop0 (k0_pay16 (cTop m c t)) (k0_pay17 (sTop m c t)) (pTop m c t) (k0_pay12 (k0_pay9 (iblk m c 12 t)) (k0_pay10 (iblk m c 11 t))) _ (sh_at m c t) (iblk m c 12 t) d r).trans (k_rowTop m c t ht b 0 s d r hb hr)

set_option maxHeartbeats 1600000 in
theorem v_out (ht : t.val < 32) (b : Fin 2) (h' : Fin 2) (d : Fin 144) (s : Fin 8192) (y : S1x2x144x512.Idx) (hb : (b : ℕ) = t.val / 16)
    (hh : (h' : ℕ) = y 1) (hd : (d : ℕ) = y 2) (hs : (s : ℕ) = 512 * (t.val % 16) + y 3) :
    (outsAt0 m c t.val t.isLt).2.2.2.1 y = (args m c).v b h' d s := by
  by_cases h : t.val % 32 = 0
  · rw [outsAt0_A m c t h h]
    frame_out
    canon_tiles x u
    case piece0 =>
      rw [pay1_eq, pay2_eq]
      obtain rfl : h' = 1 := Fin.ext (by show (h' : ℕ) = 1; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (vBot1 (pBot m c t) d r).trans (v_rowBot m c t ht b 1 d s r hb hr)
    case piece1 =>
      rw [pay1_eq, pay2_eq]
      obtain rfl : h' = 0 := Fin.ext (by show (h' : ℕ) = 0; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (vBot0 (pBot m c t) d r).trans (v_rowBot m c t ht b 0 d s r hb hr)
    case piece2 =>
      rw [pay1_eq, pay2_eq]
      obtain rfl : h' = 1 := Fin.ext (by show (h' : ℕ) = 1; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (v_of' (pTop m c t) d r).trans (v_rowTop m c t ht b 1 d s r hb hr)
    case piece3 =>
      rw [pay1_eq, pay2_eq]
      obtain rfl : h' = 0 := Fin.ext (by show (h' : ℕ) = 0; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (v_of (pTop m c t) d r).trans (v_rowTop m c t ht b 0 d s r hb hr)
  · rw [outsAt0_B m c t h h, (scr m c _ _).1, (scr m c _ _).2]
    frame_out
    canon_tiles x u
    case piece0 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 1 := Fin.ext (by show (h' : ℕ) = 1; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (vBot1 (pBot m c t) d r).trans (v_rowBot m c t ht b 1 d s r hb hr)
    case piece1 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 0 := Fin.ext (by show (h' : ℕ) = 0; omega)
      obtain ⟨r, hr⟩ : ∃ r : Fin 256, (s : ℕ) = 512 * (t.val % 16) + (256 + r) :=
        ⟨⟨(s : ℕ) - (512 * (t.val % 16) + 256), by omega⟩, by show (s : ℕ) = 512 * (t.val % 16) + (256 + ((s : ℕ) - (512 * (t.val % 16) + 256))); omega⟩
      obtain rfl : x = ix4 0 0 d r := by blk_ext
      exact (vBot0 (pBot m c t) d r).trans (v_rowBot m c t ht b 0 d s r hb hr)
    case piece2 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 1 := Fin.ext (by show (h' : ℕ) = 1; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (v_of' (pTop m c t) d r).trans (v_rowTop m c t ht b 1 d s r hb hr)
    case piece3 =>
      rw [show View.read (Elt Ideal) (View.whole cc0_scratch0) _ = wto m c from Memref.IsWhole.read_unread _ _]
      rw [show View.read (Elt Ideal) (View.whole cc0_scratch1) _ = wti m c from Memref.IsWhole.read_unread _ _]
      obtain rfl : h' = 0 := Fin.ext (by show (h' : ℕ) = 0; omega)
      obtain ⟨r, hr⟩ : ∃ r : Fin 256, (s : ℕ) = 512 * (t.val % 16) + r :=
        ⟨⟨(s : ℕ) - (512 * (t.val % 16)), by omega⟩, by show (s : ℕ) = 512 * (t.val % 16) + (((s : ℕ) - (512 * (t.val % 16)))); omega⟩
      obtain rfl : x = ix4 0 0 d r := by blk_ext
      exact (v_of (pTop m c t) d r).trans (v_rowTop m c t ht b 0 d s r hb hr)

end Cert.MidIdeal.Hand

end
-- ==== Proof.MidIdealValue.lean ====
/- The middle kernel: the arrays it leaves. -/
module

public import proofs.«01_k».proof.Proof.MidIdealOutX
public import proofs.«01_k».proof.Proof.MidIdealOutQ
public import proofs.«01_k».proof.Proof.MidIdealOutKV

@[expose] public section

set_option maxRecDepth 16384

noncomputable section

namespace Cert.MidIdeal.Hand

open Cert.MidIdeal Cert.MidIdeal.Gen
open Idealize.ShloMosaic Idealize.ShloMosaic.TcCoe Idealize.ShloMosaic.Tactic
open Idealize.ShloMosaic.Pipeline (Dat Cfg Window)
open Cert.MidRow

/-- The results over the arguments, as arrays. -/
def x1Arr (a : Args) : FVec Ideal S16384x1024 .f32 := fun i => a.x1 (i 0) (i 1)
def qArr (a : Args) : FVec Ideal S2x8x256x8192 .bf16 := fun i => a.q (i 0) (i 1) (i 2) (i 3)
def kArr (a : Args) : FVec Ideal S2x2x8192x256 .bf16 := fun i => a.k (i 0) (i 1) (i 2) (i 3)
def vArr (a : Args) : FVec Ideal S2x2x144x8192 .bf16 := fun i => a.v (i 0) (i 1) (i 2) (i 3)
def zArr (a : Args) : FVec Ideal S16384x1024 .bf16 := fun i => a.z (i 0) (i 1)

variable (m : (ℓ : Loc nD τ sig) → Buf (Elt Ideal) ℓ) (c : Dev nD)

/-- The sums' array after the run. -/
theorem final15 : (dats m 0 c).arrAt 15 (cfgs 0).N = x1Arr (args m c) := by
  refine (dats m 0 c).arrAt_eq_of_covers 15 _ (by decide +kernel) fun t _ y => ?_
  have ht : t.val < 32 := t.isLt
  have e0 : ((((cfg0.win 15).blk t).view.emb y) 0 : ℕ) = 512 * t.val + (y 0 : ℕ) := by blk_simp [idx t]; try omega
  have e1 : ((((cfg0.win 15).blk t).view.emb y) 1 : ℕ) = (y 1 : ℕ) := by blk_simp [idx t]; try omega
  blk_simp
  rw [after0_15]
  exact x1_out m c t ht _ _ y e0 e1

/-- The query heads'. -/
theorem final16 : (dats m 0 c).arrAt 16 (cfgs 0).N = qArr (args m c) := by
  refine (dats m 0 c).arrAt_eq_of_covers 16 _ (by decide +kernel) fun t _ y => ?_
  have ht : t.val < 32 := t.isLt
  have y0 : (y 0 : ℕ) < 1 := (y 0).isLt
  have e0 : ((((cfg0.win 16).blk t).view.emb y) 0 : ℕ) = t.val / 16 := by blk_simp [idx t]; try omega
  have e1 : ((((cfg0.win 16).blk t).view.emb y) 1 : ℕ) = (y 1 : ℕ) := by blk_simp [idx t]; try omega
  have e2 : ((((cfg0.win 16).blk t).view.emb y) 2 : ℕ) = (y 2 : ℕ) := by blk_simp [idx t]; try omega
  have e3 : ((((cfg0.win 16).blk t).view.emb y) 3 : ℕ) = 512 * (t.val % 16) + (y 3 : ℕ) := by blk_simp [idx t]; try omega
  blk_simp
  rw [after0_16]
  exact q_out m c t ht _ _ _ _ y e0 e1 e2 e3

/-- The key heads'. -/
theorem final17 : (dats m 0 c).arrAt 17 (cfgs 0).N = kArr (args m c) := by
  refine (dats m 0 c).arrAt_eq_of_covers 17 _ (by decide +kernel) fun t _ y => ?_
  have ht : t.val < 32 := t.isLt
  have y0 : (y 0 : ℕ) < 1 := (y 0).isLt
  have e0 : ((((cfg0.win 17).blk t).view.emb y) 0 : ℕ) = t.val / 16 := by blk_simp [idx t]; try omega
  have e1 : ((((cfg0.win 17).blk t).view.emb y) 1 : ℕ) = (y 1 : ℕ) := by blk_simp [idx t]; try omega
  have e2 : ((((cfg0.win 17).blk t).view.emb y) 2 : ℕ) = 512 * (t.val % 16) + (y 2 : ℕ) := by blk_simp [idx t]; try omega
  have e3 : ((((cfg0.win 17).blk t).view.emb y) 3 : ℕ) = (y 3 : ℕ) := by blk_simp [idx t]; try omega
  blk_simp
  rw [after0_17]
  exact k_out m c t ht _ _ _ _ y e0 e1 e2 e3

/-- The value heads'. -/
theorem final18 : (dats m 0 c).arrAt 18 (cfgs 0).N = vArr (args m c) := by
  refine (dats m 0 c).arrAt_eq_of_covers 18 _ (by decide +kernel) fun t _ y => ?_
  have ht : t.val < 32 := t.isLt
  have y0 : (y 0 : ℕ) < 1 := (y 0).isLt
  have e0 : ((((cfg0.win 18).blk t).view.emb y) 0 : ℕ) = t.val / 16 := by blk_simp [idx t]; try omega
  have e1 : ((((cfg0.win 18).blk t).view.emb y) 1 : ℕ) = (y 1 : ℕ) := by blk_simp [idx t]; try omega
  have e2 : ((((cfg0.win 18).blk t).view.emb y) 2 : ℕ) = (y 2 : ℕ) := by blk_simp [idx t]; try omega
  have e3 : ((((cfg0.win 18).blk t).view.emb y) 3 : ℕ) = 512 * (t.val % 16) + (y 3 : ℕ) := by blk_simp [idx t]; try omega
  blk_simp
  rw [after0_18]
  exact v_out m c t ht _ _ _ _ y e0 e1 e2 e3

/-- The gate's preimage's. -/
theorem final19 : (dats m 0 c).arrAt 19 (cfgs 0).N = zArr (args m c) := by
  refine (dats m 0 c).arrAt_eq_of_covers 19 _ (by decide +kernel) fun t _ y => ?_
  have ht : t.val < 32 := t.isLt
  have e0 : ((((cfg0.win 19).blk t).view.emb y) 0 : ℕ) = 512 * t.val + (y 0 : ℕ) := by blk_simp [idx t]; try omega
  have e1 : ((((cfg0.win 19).blk t).view.emb y) 1 : ℕ) = (y 1 : ℕ) := by blk_simp [idx t]; try omega
  blk_simp
  rw [after0_19]
  exact z_out m c t ht _ _ y e0 e1

end Cert.MidIdeal.Hand

end
-- ==== Proof.MidRef.lean ====
/- The reference of the middle call, at an index. -/
module

public import proofs.«01_k».proof.Proof.Gen.MidRefIdeal.Run
public import proofs.«01_k».proof.Proof.MidRow
public import proofs.«01_k».proof.Proof.MidIdealPay
public import Idealize.ShloMosaic.Lib.Pointwise

@[expose] public section

set_option maxRecDepth 16384

noncomputable section

namespace Cert.MidRefIdeal.Hand

open Cert.MidRefIdeal Cert.MidRefIdeal.Gen
open Idealize.ShloMosaic Idealize.ShloMosaic.TcCoe Idealize.ShloMosaic.Tactic
open Cert.MidRefIdeal.Facts
open Cert.MidRow
open Cert.MidIdeal.Hand (halves select_eq eq_bit)

/-- A half as two sequences of rows. -/
def rows (a : FVec Ideal S16384x512 .bf16) : FVec Ideal S2x8192x512 .f32 :=
  extf .f32 (shapeCast S2x8192x512 a shapeCasts_S16384x512_S2x8192x512) bitsLt_bf16_f32

/-- The convolved half with a row of zeros before and behind each sequence. -/
def padded (a : FVec Ideal S16384x512 .bf16) : FVec Ideal S2x8194x512 .f32 :=
  pad S2x8194x512 ![0, 1, 0] ![0, 1, 0] ![0, 0, 0] (rows a) (sitofp .f32 (constantI S_ 32 0#32)) pads_S2x8192x512_S2x8194x512_000_110_000 h_S_

/-- A tap in every row. -/
def tap (w : FVec Ideal S1x512 .f32) : FVec Ideal S2x8192x512 .f32 :=
  broadcastInDim S2x8192x512 ![0, 1, 2] bcast_S1x1x512_S2x8192x512_0_1_2 (broadcastInDim S1x1x512 ![2] bcast_S512_S1x1x512_2 (shapeCast S512 w shapeCasts_S1x512_S512))

/-- The gated rows. -/
def gatedRows (cx ga f gb : FVec Ideal S16384x512 .bf16) (t : FVec Ideal S1x3x512 .f32) : FVec Ideal S2x8192x1024 .f32 :=
  concatenate S2x8192x1024 2 [⟨S2x8192x512, (mulf (rows ga) (addf (addf
    (mulf (extractStridedSlice S2x8192x512 ![0, 0, 0] (padded cx) slices_S2x8194x512_S2x8192x512_0_0_0)
      (tap (extractStridedSlice S1x512 ![0, 0] (shapeCast S3x512 t shapeCasts_S1x3x512_S3x512) slices_S3x512_S1x512_0_0)))
    (mulf (extractStridedSlice S2x8192x512 ![0, 1, 0] (padded cx) slices_S2x8194x512_S2x8192x512_0_1_0)
      (tap (extractStridedSlice S1x512 ![1, 0] (shapeCast S3x512 t shapeCasts_S1x3x512_S3x512) slices_S3x512_S1x512_1_0))))
    (mulf (extractStridedSlice S2x8192x512 ![0, 2, 0] (padded cx) slices_S2x8194x512_S2x8192x512_0_2_0)
      (tap (extractStridedSlice S1x512 ![2, 0] (shapeCast S3x512 t shapeCasts_S1x3x512_S3x512) slices_S3x512_S1x512_2_0)))))⟩,
    ⟨S2x8192x512, (mulf (rows f) (rows gb))⟩] concatenates_S2x8192x512_S2x8192x512_S2x8192x1024_d2

/-- The input plus the output projection. -/
def sum1 (x y : FVec Ideal S2x8192x1024 .f32) (w : FVec Ideal S1x1024x1024 .f32) : FVec Ideal S2x8192x1024 .f32 :=
  addf x (Host.dotGeneral dot_S2x8192x1024_S1024x1024_S2x8192x1024_2_0_01_1_n_n none y (shapeCast S1024x1024 w shapeCasts_S1x1024x1024_S1024x1024))

/-- The normed sum. -/
def norm (x : FVec Ideal S2x8192x1024 .f32) (g : FVec Ideal S1x1024 .f32) : FVec Ideal S2x8192x1024 .f32 :=
  mulf (mulf x (broadcastInDim S2x8192x1024 ![0, 1, 2] bcast_S2x8192x1_S2x8192x1024_0_1_2 (Host.rsqrt (addf
      (Host.divf (broadcastInDim S2x8192x1 ![0, 1] bcast_S2x8192_S2x8192x1_0_1 (Host.reduceAdd (mulf x x) (constant S_ .f32 0x00000000#32) reducesTo_S2x8192x1024_S2x8192_d2 h_S_))
        (broadcastInDim S2x8192x1 ![] bcast_S_S2x8192x1 (constant S_ .f32 0x44800000#32)))
      (broadcastInDim S2x8192x1 ![] bcast_S_S2x8192x1 (constant S_ .f32 0x358637BD#32))))))
    (broadcastInDim S2x8192x1024 ![0, 1, 2] bcast_S1x1x1024_S2x8192x1024_0_1_2
      (broadcastInDim S1x1x1024 ![2] bcast_S1024_S1x1x1024_2 (shapeCast S1024 g shapeCasts_S1x1024_S1024)))

/-- Its projection. -/
def proj (x : FVec Ideal S2x8192x1024 .f32) (g : FVec Ideal S1x1024 .f32) (w : FVec Ideal S1x1024x2560 .f32) : FVec Ideal S2x8192x2560 .f32 :=
  Host.dotGeneral dot_S2x8192x1024_S1024x2560_S2x8192x2560_2_0_01_1_n_n none (norm x g) (shapeCast S1024x2560 w shapeCasts_S1x1024x2560_S1024x2560)

/-- The query heads and the key heads before their norm. -/
def heads8 (p : FVec Ideal S2x8192x2560 .f32) : FVec Ideal S2x8192x8x128 .f32 :=
  shapeCast S2x8192x8x128 (extractStridedSlice S2x8192x1024 ![0, 0, 0] p slices_S2x8192x2560_S2x8192x1024_0_0_0) shapeCasts_S2x8192x1024_S2x8192x8x128

def heads2 (p : FVec Ideal S2x8192x2560 .f32) : FVec Ideal S2x8192x2x128 .f32 :=
  shapeCast S2x8192x2x128 (extractStridedSlice S2x8192x256 ![0, 0, 1024] p slices_S2x8192x2560_S2x8192x256_0_0_1024) shapeCasts_S2x8192x256_S2x8192x2x128

/-- The normed heads. -/
def normed8 (x : FVec Ideal S2x8192x8x128 .f32) (g : FVec Ideal S1x128 .f32) : FVec Ideal S2x8192x8x128 .f32 :=
  mulf (mulf x (broadcastInDim S2x8192x8x128 ![0, 1, 2, 3] bcast_S2x8192x8x1_S2x8192x8x128_0_1_2_3 (Host.rsqrt (addf
      (Host.divf (broadcastInDim S2x8192x8x1 ![0, 1, 2] bcast_S2x8192x8_S2x8192x8x1_0_1_2 (Host.reduceAdd (mulf x x) (constant S_ .f32 0x00000000#32) reducesTo_S2x8192x8x128_S2x8192x8_d3 h_S_))
        (broadcastInDim S2x8192x8x1 ![] bcast_S_S2x8192x8x1 (constant S_ .f32 0x43000000#32)))
      (broadcastInDim S2x8192x8x1 ![] bcast_S_S2x8192x8x1 (constant S_ .f32 0x358637BD#32))))))
    (broadcastInDim S2x8192x8x128 ![0, 1, 2, 3] bcast_S1x1x1x128_S2x8192x8x128_0_1_2_3
      (broadcastInDim S1x1x1x128 ![3] bcast_S128_S1x1x1x128_3 (shapeCast S128 g shapeCasts_S1x128_S128)))

def normed2 (x : FVec Ideal S2x8192x2x128 .f32) (g : FVec Ideal S1x128 .f32) : FVec Ideal S2x8192x2x128 .f32 :=
  mulf (mulf x (broadcastInDim S2x8192x2x128 ![0, 1, 2, 3] bcast_S2x8192x2x1_S2x8192x2x128_0_1_2_3 (Host.rsqrt (addf
      (Host.divf (broadcastInDim S2x8192x2x1 ![0, 1, 2] bcast_S2x8192x2_S2x8192x2x1_0_1_2 (Host.reduceAdd (mulf x x) (constant S_ .f32 0x00000000#32) reducesTo_S2x8192x2x128_S2x8192x2_d3 h_S_))
        (broadcastInDim S2x8192x2x1 ![] bcast_S_S2x8192x2x1 (constant S_ .f32 0x43000000#32)))
      (broadcastInDim S2x8192x2x1 ![] bcast_S_S2x8192x2x1 (constant S_ .f32 0x358637BD#32))))))
    (broadcastInDim S2x8192x2x128 ![0, 1, 2, 3] bcast_S1x1x1x128_S2x8192x2x128_0_1_2_3
      (broadcastInDim S1x1x1x128 ![3] bcast_S128_S1x1x1x128_3 (shapeCast S128 g shapeCasts_S1x128_S128)))

/-- The even and the odd lanes. -/
def even8 (x : FVec Ideal S2x8192x8x128 .f32) : FVec Ideal S2x8192x8x64 .f32 :=
  shapeCast S2x8192x8x64 (extractStridedSlice S2x8192x8x64x1 ![0, 0, 0, 0, 0] (shapeCast S2x8192x8x64x2 x shapeCasts_S2x8192x8x128_S2x8192x8x64x2)
    slices_S2x8192x8x64x2_S2x8192x8x64x1_0_0_0_0_0) shapeCasts_S2x8192x8x64x1_S2x8192x8x64

def odd8 (x : FVec Ideal S2x8192x8x128 .f32) : FVec Ideal S2x8192x8x64 .f32 :=
  shapeCast S2x8192x8x64 (extractStridedSlice S2x8192x8x64x1 ![0, 0, 0, 0, 1] (shapeCast S2x8192x8x64x2 x shapeCasts_S2x8192x8x128_S2x8192x8x64x2)
    slices_S2x8192x8x64x2_S2x8192x8x64x1_0_0_0_0_1) shapeCasts_S2x8192x8x64x1_S2x8192x8x64

def even2 (x : FVec Ideal S2x8192x2x128 .f32) : FVec Ideal S2x8192x2x64 .f32 :=
  shapeCast S2x8192x2x64 (extractStridedSlice S2x8192x2x64x1 ![0, 0, 0, 0, 0] (shapeCast S2x8192x2x64x2 x shapeCasts_S2x8192x2x128_S2x8192x2x64x2)
    slices_S2x8192x2x64x2_S2x8192x2x64x1_0_0_0_0_0) shapeCasts_S2x8192x2x64x1_S2x8192x2x64

def odd2 (x : FVec Ideal S2x8192x2x128 .f32) : FVec Ideal S2x8192x2x64 .f32 :=
  shapeCast S2x8192x2x64 (extractStridedSlice S2x8192x2x64x1 ![0, 0, 0, 0, 1] (shapeCast S2x8192x2x64x2 x shapeCasts_S2x8192x2x128_S2x8192x2x64x2)
    slices_S2x8192x2x64x2_S2x8192x2x64x1_0_0_0_0_1) shapeCasts_S2x8192x2x64x1_S2x8192x2x64

/-- A table in every head. -/
def table8 (c : FVec Ideal S8192x64 .f32) : FVec Ideal S2x8192x8x64 .f32 :=
  broadcastInDim S2x8192x8x64 ![0, 1, 2, 3] bcast_S1x8192x1x64_S2x8192x8x64_0_1_2_3 (broadcastInDim S1x8192x1x64 ![1, 3] bcast_S8192x64_S1x8192x1x64_1_3 c)

def table2 (c : FVec Ideal S8192x64 .f32) : FVec Ideal S2x8192x2x64 .f32 :=
  broadcastInDim S2x8192x2x64 ![0, 1, 2, 3] bcast_S1x8192x1x64_S2x8192x2x64_0_1_2_3 (broadcastInDim S1x8192x1x64 ![1, 3] bcast_S8192x64_S1x8192x1x64_1_3 c)

/-- The turned heads. -/
def turned8 (x : FVec Ideal S2x8192x8x128 .f32) (c s : FVec Ideal S8192x64 .f32) : FVec Ideal S2x8192x8x128 .f32 :=
  shapeCast S2x8192x8x128 (concatenate S2x8192x8x64x2 4
    [⟨S2x8192x8x64x1, (broadcastInDim S2x8192x8x64x1 ![0, 1, 2, 3] bcast_S2x8192x8x64_S2x8192x8x64x1_0_1_2_3 (subf (mulf (even8 x) (table8 c)) (mulf (odd8 x) (table8 s))))⟩,
      ⟨S2x8192x8x64x1, (broadcastInDim S2x8192x8x64x1 ![0, 1, 2, 3] bcast_S2x8192x8x64_S2x8192x8x64x1_0_1_2_3 (addf (mulf (even8 x) (table8 s)) (mulf (odd8 x) (table8 c))))⟩]
    concatenates_S2x8192x8x64x1_S2x8192x8x64x1_S2x8192x8x64x2_d4) shapeCasts_S2x8192x8x64x2_S2x8192x8x128

def turned2 (x : FVec Ideal S2x8192x2x128 .f32) (c s : FVec Ideal S8192x64 .f32) : FVec Ideal S2x8192x2x128 .f32 :=
  shapeCast S2x8192x2x128 (concatenate S2x8192x2x64x2 4
    [⟨S2x8192x2x64x1, (broadcastInDim S2x8192x2x64x1 ![0, 1, 2, 3] bcast_S2x8192x2x64_S2x8192x2x64x1_0_1_2_3 (subf (mulf (even2 x) (table2 c)) (mulf (odd2 x) (table2 s))))⟩,
      ⟨S2x8192x2x64x1, (broadcastInDim S2x8192x2x64x1 ![0, 1, 2, 3] bcast_S2x8192x2x64_S2x8192x2x64x1_0_1_2_3 (addf (mulf (even2 x) (table2 s)) (mulf (odd2 x) (table2 c))))⟩]
    concatenates_S2x8192x2x64x1_S2x8192x2x64x1_S2x8192x2x64x2_d4) shapeCasts_S2x8192x2x64x2_S2x8192x2x128

/-- The scaled query heads, transposed. -/
def scaled (x : FVec Ideal S2x8192x8x128 .f32) : FVec Ideal S2x8x128x8192 .f32 :=
  transpose S2x8x128x8192 [0, 2, 3, 1] (mulf x (broadcastInDim S2x8192x8x128 ![] bcast_S_S2x8192x8x128 (constant S_ .f32 0x3E0293EE#32)))
    transposes_S2x8192x8x128_S2x8x128x8192_0_2_3_1

/-- The five results, over the sum and the projection. -/
def x1 (x : FVec Ideal S2x8192x1024 .f32) : FVec Ideal S16384x1024 .f32 := shapeCast S16384x1024 x shapeCasts_S2x8192x1024_S16384x1024

def q (p : FVec Ideal S2x8192x2560 .f32) (g : FVec Ideal S1x128 .f32) (c s : FVec Ideal S8192x64 .f32) : FVec Ideal S2x8x256x8192 .bf16 :=
  truncf .bf16 (concatenate S2x8x256x8192 2 [⟨S2x8x128x8192, scaled (turned8 (normed8 (heads8 p) g) c s)⟩,
    ⟨S2x8x128x8192, (broadcastInDim S2x8x128x8192 ![2, 3] bcast_S128x1_S2x8x128x8192_2_3 (uitofp .f32 (broadcastInDim S128x1 ![0] bcast_S128_S128x1_0
      (cmpi .eq (iotaInDim S128 32 0) (broadcastInDim S128 ![] bcast_S_S128 (constantI S_ 32 0#32))))))⟩]
    concatenates_S2x8x128x8192_S2x8x128x8192_S2x8x256x8192_d2) bitsLt_bf16_f32

def lim (g k : FVec Ideal S1x128 .f32) : FVec Ideal S_ .f32 :=
  mulf (mulf (constant S_ .f32 0x4183E235#32) (Host.reduce FloatOps.maximumf (Host.absf (shapeCast S128 g shapeCasts_S1x128_S128)) (constant S_ .f32 0xFF800000#32) reducesTo_S128_S_d0 h_S_))
    (Host.reduce FloatOps.maximumf (Host.absf (shapeCast S128 k shapeCasts_S1x128_S128)) (constant S_ .f32 0xFF800000#32) reducesTo_S128_S_d0 h_S_)

def k (p : FVec Ideal S2x8192x2560 .f32) (g h : FVec Ideal S1x128 .f32) (c s : FVec Ideal S8192x64 .f32) : FVec Ideal S2x2x8192x256 .bf16 :=
  truncf .bf16 (concatenate S2x2x8192x256 3 [⟨S2x2x8192x128, (transpose S2x2x8192x128 [0, 2, 1, 3] (turned2 (normed2 (heads2 p) h) c s) transposes_S2x8192x2x128_S2x2x8192x128_0_2_1_3)⟩,
    ⟨S2x2x8192x128, (broadcastInDim S2x2x8192x128 ![3] bcast_S128_S2x2x8192x128_3 (select (cmpi .eq (iotaInDim S128 32 0) (broadcastInDim S128 ![] bcast_S_S128 (constantI S_ 32 0#32)))
      (broadcastInDim S128 ![] bcast_S_S128 (Host.negf (lim g h))) (broadcastInDim S128 ![] bcast_S_S128 (id (constant S_ .f32 0x00000000#32)))))⟩]
    concatenates_S2x2x8192x128_S2x2x8192x128_S2x2x8192x256_d3) bitsLt_bf16_f32

def v (p : FVec Ideal S2x8192x2560 .f32) : FVec Ideal S2x2x144x8192 .bf16 :=
  truncf .bf16 (concatenate S2x2x144x8192 2 [⟨S2x2x128x8192, (transpose S2x2x128x8192 [0, 2, 3, 1] (shapeCast S2x8192x2x128
      (extractStridedSlice S2x8192x256 ![0, 0, 1280] p slices_S2x8192x2560_S2x8192x256_0_0_1280) shapeCasts_S2x8192x256_S2x8192x2x128) transposes_S2x8192x2x128_S2x2x128x8192_0_2_3_1)⟩,
    ⟨S2x2x16x8192, (broadcastInDim S2x2x16x8192 ![2, 3] bcast_S16x1_S2x2x16x8192_2_3 (uitofp .f32 (broadcastInDim S16x1 ![0] bcast_S16_S16x1_0
      (cmpi .eq (iotaInDim S16 32 0) (broadcastInDim S16 ![] bcast_S_S16 (constantI S_ 32 0#32))))))⟩]
    concatenates_S2x2x128x8192_S2x2x16x8192_S2x2x144x8192_d2) bitsLt_bf16_f32

def z (p : FVec Ideal S2x8192x2560 .f32) : FVec Ideal S16384x1024 .bf16 :=
  truncf .bf16 (shapeCast S16384x1024 (extractStridedSlice S2x8192x1024 ![0, 0, 1536] p slices_S2x8192x2560_S2x8192x1024_0_0_1536) shapeCasts_S2x8192x1024_S16384x1024) bitsLt_bf16_f32

end Cert.MidRefIdeal.Hand

end
-- ==== Proof.MidRefHeads.lean ====
/- The reference of the middle call, at an index. -/
module

public import proofs.«01_k».proof.Proof.MidRef

@[expose] public section

set_option maxRecDepth 16384

noncomputable section

namespace Cert.MidRefIdeal.Hand

open Cert.MidRefIdeal Cert.MidRefIdeal.Gen
open Idealize.ShloMosaic Idealize.ShloMosaic.TcCoe Idealize.ShloMosaic.Tactic
open Cert.MidRefIdeal.Facts
open Cert.MidRow
open Cert.MidIdeal.Hand (halves select_eq eq_bit)

theorem normed8_at (p : FVec Ideal S2x8192x2560 .f32) (g : FVec Ideal S1x128 .f32) (b : Fin 2) (s : Fin 8192) (h : Fin 8) (d : Fin 128) :
    normed8 (heads8 p) g (ix4 b s h d) = headNormed (fun l => p (ix3 b s ⟨128 * h + l, by omega⟩)) (fun l => g (ix2 0 l)) d := by
  have e : (fun l : Fin 128 => p (ix3 b s ⟨128 * h + l, by omega⟩)) = fun l : Fin 128 => p (ix3 b s ⟨h * 128 + l, by omega⟩) :=
    funext fun l => congrArg (fun k => p (ix3 b s k)) (Fin.ext (by show 128 * (h : ℕ) + l = ((h : ℕ) * 128 + l); omega))
  rw [e]
  pointwise [normed8, heads8]
  rfl

theorem even8_at (x : FVec Ideal S2x8192x8x128 .f32) (b : Fin 2) (s : Fin 8192) (h : Fin 8) (d : Fin 64) :
    even8 x (ix4 b s h d) = x (ix4 b s h ⟨d * 2, by omega⟩) := by
  pointwise [even8]

theorem odd8_at (x : FVec Ideal S2x8192x8x128 .f32) (b : Fin 2) (s : Fin 8192) (h : Fin 8) (d : Fin 64) :
    odd8 x (ix4 b s h d) = x (ix4 b s h ⟨d * 2 + 1, by omega⟩) := by
  pointwise [odd8]

theorem table8_at (c : FVec Ideal S8192x64 .f32) (b : Fin 2) (s : Fin 8192) (h : Fin 8) (d : Fin 64) :
    table8 c (ix4 b s h d) = c (ix2 s d) := by
  pointwise [table8]

theorem turned8_at (x : FVec Ideal S2x8192x8x128 .f32) (c s : FVec Ideal S8192x64 .f32) (b : Fin 2) (r : Fin 8192) (h : Fin 8) (d : Fin 128) :
    turned8 x c s (ix4 b r h d) = turned (fun l => x (ix4 b r h l)) (fun l => c (ix2 r ⟨l / 2, by omega⟩))
      (fun l => if (l : ℕ) % 2 = 0 then -s (ix2 r ⟨l / 2, by omega⟩) else s (ix2 r ⟨l / 2, by omega⟩)) d := by
  unfold turned partner
  pointwise [turned8]
  simp only [even8_at, odd8_at, table8_at]
  by_cases hd : (d : ℕ) % 2 = 0
  · rw [dif_pos (by omega), if_pos hd, if_pos hd]
    have e1 : (⟨(d : ℕ) / 2 * 2, by omega⟩ : Fin 128) = d := Fin.ext (by show (d : ℕ) / 2 * 2 = d; omega)
    have e2 : (⟨(d : ℕ) / 2 * 2 + 1, by omega⟩ : Fin 128) = ⟨((d : ℕ) + 1) % 128, by omega⟩ := Fin.ext (by show (d : ℕ) / 2 * 2 + 1 = ((d : ℕ) + 1) % 128; omega)
    rw [e1, e2, mul_neg, ← sub_eq_add_neg]
  · rw [dif_neg (by omega), if_neg hd, if_neg hd]
    have e1 : (⟨(d : ℕ) / 2 * 2 + 1, by omega⟩ : Fin 128) = d := Fin.ext (by show (d : ℕ) / 2 * 2 + 1 = d; omega)
    have e2 : (⟨(d : ℕ) / 2 * 2, by omega⟩ : Fin 128) = ⟨((d : ℕ) + 127) % 128, by omega⟩ := Fin.ext (by show (d : ℕ) / 2 * 2 = ((d : ℕ) + 127) % 128; omega)
    rw [e1, e2, add_comm]

theorem normed2_at (p : FVec Ideal S2x8192x2560 .f32) (g : FVec Ideal S1x128 .f32) (b : Fin 2) (s : Fin 8192) (h : Fin 2) (d : Fin 128) :
    normed2 (heads2 p) g (ix4 b s h d) = headNormed (fun l => p (ix3 b s ⟨1024 + 128 * h + l, by omega⟩)) (fun l => g (ix2 0 l)) d := by
  have e : (fun l : Fin 128 => p (ix3 b s ⟨1024 + 128 * h + l, by omega⟩)) = fun l : Fin 128 => p (ix3 b s ⟨1024 + (h * 128 + l), by omega⟩) :=
    funext fun l => congrArg (fun k => p (ix3 b s k)) (Fin.ext (by show 1024 + 128 * (h : ℕ) + l = 1024 + ((h : ℕ) * 128 + l); omega))
  rw [e]
  pointwise [normed2, heads2]
  rfl

theorem even2_at (x : FVec Ideal S2x8192x2x128 .f32) (b : Fin 2) (s : Fin 8192) (h : Fin 2) (d : Fin 64) :
    even2 x (ix4 b s h d) = x (ix4 b s h ⟨d * 2, by omega⟩) := by
  pointwise [even2]

theorem odd2_at (x : FVec Ideal S2x8192x2x128 .f32) (b : Fin 2) (s : Fin 8192) (h : Fin 2) (d : Fin 64) :
    odd2 x (ix4 b s h d) = x (ix4 b s h ⟨d * 2 + 1, by omega⟩) := by
  pointwise [odd2]

theorem table2_at (c : FVec Ideal S8192x64 .f32) (b : Fin 2) (s : Fin 8192) (h : Fin 2) (d : Fin 64) :
    table2 c (ix4 b s h d) = c (ix2 s d) := by
  pointwise [table2]

theorem turned2_at (x : FVec Ideal S2x8192x2x128 .f32) (c s : FVec Ideal S8192x64 .f32) (b : Fin 2) (r : Fin 8192) (h : Fin 2) (d : Fin 128) :
    turned2 x c s (ix4 b r h d) = turned (fun l => x (ix4 b r h l)) (fun l => c (ix2 r ⟨l / 2, by omega⟩))
      (fun l => if (l : ℕ) % 2 = 0 then -s (ix2 r ⟨l / 2, by omega⟩) else s (ix2 r ⟨l / 2, by omega⟩)) d := by
  unfold turned partner
  pointwise [turned2]
  simp only [even2_at, odd2_at, table2_at]
  by_cases hd : (d : ℕ) % 2 = 0
  · rw [dif_pos (by omega), if_pos hd, if_pos hd]
    have e1 : (⟨(d : ℕ) / 2 * 2, by omega⟩ : Fin 128) = d := Fin.ext (by show (d : ℕ) / 2 * 2 = d; omega)
    have e2 : (⟨(d : ℕ) / 2 * 2 + 1, by omega⟩ : Fin 128) = ⟨((d : ℕ) + 1) % 128, by omega⟩ := Fin.ext (by show (d : ℕ) / 2 * 2 + 1 = ((d : ℕ) + 1) % 128; omega)
    rw [e1, e2, mul_neg, ← sub_eq_add_neg]
  · rw [dif_neg (by omega), if_neg hd, if_neg hd]
    have e1 : (⟨(d : ℕ) / 2 * 2 + 1, by omega⟩ : Fin 128) = d := Fin.ext (by show (d : ℕ) / 2 * 2 + 1 = d; omega)
    have e2 : (⟨(d : ℕ) / 2 * 2, by omega⟩ : Fin 128) = ⟨((d : ℕ) + 127) % 128, by omega⟩ := Fin.ext (by show (d : ℕ) / 2 * 2 = ((d : ℕ) + 127) % 128; omega)
    rw [e1, e2, add_comm]

end Cert.MidRefIdeal.Hand

end
-- ==== Proof.MidRefBit.lean ====
/- The reference of the middle call, at an index. -/
module

public import proofs.«01_k».proof.Proof.MidRefHeads

@[expose] public section

set_option maxRecDepth 16384

noncomputable section

namespace Cert.MidRefIdeal.Hand

open Cert.MidRefIdeal Cert.MidRefIdeal.Gen
open Idealize.ShloMosaic Idealize.ShloMosaic.TcCoe Idealize.ShloMosaic.Tactic
open Cert.MidRefIdeal.Facts
open Cert.MidRow
open Cert.MidIdeal.Hand (halves select_eq eq_bit)

/-- The row of ones, read as a number. -/
theorem bit_at (n : ℕ) (h : n < 2 ^ 32) :
    (FloatOps.uitofp (F := Ideal) .f32 (IntOp.cmpi .eq (BitVec.ofNat 32 n) 0#32) : EReal) = first n := by
  have e : IntOp.cmpi .eq (BitVec.ofNat 32 n) 0#32 = if n = 0 then 1#1 else 0#1 := eq_bit n 0 h (by norm_num)
  rw [e]
  unfold first
  by_cases hn : n = 0
  · rw [if_pos hn, if_pos hn]
    show (((1#1 : BitVec 1).toNat : ℝ) : EReal) = 1
    norm_num
  · rw [if_neg hn, if_neg hn]
    show (((0#1 : BitVec 1).toNat : ℝ) : EReal) = 0
    norm_num

end Cert.MidRefIdeal.Hand

end
-- ==== Proof.MidRefOutQ.lean ====
/- The reference of the middle call, at an index. -/
module

public import proofs.«01_k».proof.Proof.MidRefBit

@[expose] public section

set_option maxRecDepth 16384

noncomputable section

namespace Cert.MidRefIdeal.Hand

open Cert.MidRefIdeal Cert.MidRefIdeal.Gen
open Idealize.ShloMosaic Idealize.ShloMosaic.TcCoe Idealize.ShloMosaic.Tactic
open Cert.MidRefIdeal.Facts
open Cert.MidRow
open Cert.MidIdeal.Hand (halves select_eq eq_bit)

theorem scaled_at (x : FVec Ideal S2x8192x8x128 .f32) (b : Fin 2) (h : Fin 8) (d : Fin 128) (r : Fin 8192) :
    scaled x (ix4 b h d r) = x (ix4 b r h d) * Ideal.ofBits .f32 0x3E0293EE#32 := by
  pointwise [scaled]

theorem q_at (p : FVec Ideal S2x8192x2560 .f32) (g : FVec Ideal S1x128 .f32) (c s : FVec Ideal S8192x64 .f32) (b : Fin 2) (h : Fin 8) (d : Fin 256) (r : Fin 8192) :
    q p g c s (ix4 b h d r) = query (fun l => p (ix3 b r ⟨128 * h + l, by omega⟩)) (fun l => g (ix2 0 l)) (fun l => c (ix2 r ⟨l / 2, by omega⟩))
      (fun l => if (l : ℕ) % 2 = 0 then -s (ix2 r ⟨l / 2, by omega⟩) else s (ix2 r ⟨l / 2, by omega⟩)) d := by
  revert d
  refine halves 128 128 rfl _ (fun e => ?_) fun e => ?_
  · unfold query
    rw [dif_pos (show (e : ℕ) < 128 from e.isLt)]
    have a : q p g c s (ix4 b h ⟨e, by omega⟩ r) = scaled (turned8 (normed8 (heads8 p) g) c s) (ix4 b h e r) := by
      pointwise [q]
    rw [a, scaled_at, turned8_at]
    exact congrArg (fun f => turned f _ _ e * Ideal.ofBits .f32 0x3E0293EE#32) (funext fun l => normed8_at p g b r h l)
  · unfold query
    rw [dif_neg (show ¬ 128 + (e : ℕ) < 128 by omega)]
    have a : q p g c s (ix4 b h ⟨128 + e, by omega⟩ r) = (FloatOps.uitofp (F := Ideal) .f32 (IntOp.cmpi .eq (BitVec.ofNat 32 e) 0#32) : EReal) := by
      pointwise [q]
    rw [a, bit_at _ (by omega)]
    exact congrArg first (by show (e : ℕ) = 128 + e - 128; omega)

end Cert.MidRefIdeal.Hand

end
-- ==== Proof.MidRefOutK.lean ====
/- The reference of the middle call, at an index. -/
module

public import proofs.«01_k».proof.Proof.MidRefBit

@[expose] public section

set_option maxRecDepth 16384

noncomputable section

namespace Cert.MidRefIdeal.Hand

open Cert.MidRefIdeal Cert.MidRefIdeal.Gen
open Idealize.ShloMosaic Idealize.ShloMosaic.TcCoe Idealize.ShloMosaic.Tactic
open Cert.MidRefIdeal.Facts
open Cert.MidRow
open Cert.MidIdeal.Hand (halves select_eq eq_bit)

theorem lim_at (g k : FVec Ideal S1x128 .f32) (i : S_.Idx) : lim g k i = shift (fun l => g (ix2 0 l)) (fun l => k (ix2 0 l)) := by
  pointwise [lim]
  rfl

theorem k_at (p : FVec Ideal S2x8192x2560 .f32) (g g' : FVec Ideal S1x128 .f32) (c s : FVec Ideal S8192x64 .f32) (b : Fin 2) (h : Fin 2) (d : Fin 256) (r : Fin 8192) :
    k p g g' c s (ix4 b h r d) = key (fun l => p (ix3 b r ⟨1024 + 128 * h + l, by omega⟩)) (fun l => g' (ix2 0 l)) (fun l => c (ix2 r ⟨l / 2, by omega⟩))
      (fun l => if (l : ℕ) % 2 = 0 then -s (ix2 r ⟨l / 2, by omega⟩) else s (ix2 r ⟨l / 2, by omega⟩))
      (shift (fun l => g (ix2 0 l)) (fun l => g' (ix2 0 l))) d := by
  revert d
  refine halves 128 128 rfl _ (fun e => ?_) fun e => ?_
  · unfold key
    rw [dif_pos (show (e : ℕ) < 128 from e.isLt)]
    have a : k p g g' c s (ix4 b h r ⟨e, by omega⟩) = turned2 (normed2 (heads2 p) g') c s (ix4 b r h e) := by
      pointwise [k]
    rw [a, turned2_at]
    exact congrArg (fun f => turned f _ _ e) (funext fun l => normed2_at p g' b r h l)
  · unfold key
    rw [dif_neg (show ¬ 128 + (e : ℕ) < 128 by omega)]
    have a : k p g g' c s (ix4 b h r ⟨128 + e, by omega⟩)
        = (Scalar.select (IntOp.cmpi .eq (BitVec.ofNat 32 e) 0#32) (-lim g g' ix0 : EReal) 0 : EReal) := by
      pointwise [k]
      exact congrArg (fun w : EReal => (Scalar.select (IntOp.cmpi .eq (BitVec.ofNat 32 e) 0#32) (-lim g g' ix0 : EReal) w : EReal)) (Ideal.ofBits_zero .f32)
    rw [a]
    refine (select_eq e 0 (by omega) (by norm_num) _ _).trans ?_
    by_cases he : (e : ℕ) = 0
    · rw [if_pos he, if_pos (by show 128 + (e : ℕ) = 128; omega), lim_at]
    · rw [if_neg he, if_neg (by show ¬ 128 + (e : ℕ) = 128; omega)]

end Cert.MidRefIdeal.Hand

end
-- ==== Proof.MidRefOutV.lean ====
/- The reference of the middle call, at an index. -/
module

public import proofs.«01_k».proof.Proof.MidRefBit

@[expose] public section

set_option maxRecDepth 16384

noncomputable section

namespace Cert.MidRefIdeal.Hand

open Cert.MidRefIdeal Cert.MidRefIdeal.Gen
open Idealize.ShloMosaic Idealize.ShloMosaic.TcCoe Idealize.ShloMosaic.Tactic
open Cert.MidRefIdeal.Facts
open Cert.MidRow
open Cert.MidIdeal.Hand (halves select_eq eq_bit)

theorem v_at (p : FVec Ideal S2x8192x2560 .f32) (b : Fin 2) (h : Fin 2) (d : Fin 144) (r : Fin 8192) :
    v p (ix4 b h d r) = value (fun l => p (ix3 b r ⟨1280 + 128 * h + l, by omega⟩)) d := by
  revert d
  refine halves 128 16 rfl _ (fun e => ?_) fun e => ?_
  · unfold value
    rw [dif_pos (show (e : ℕ) < 128 from e.isLt)]
    have a : v p (ix4 b h ⟨e, by omega⟩ r) = p (ix3 b r ⟨1280 + (h * 128 + e), by omega⟩) := by
      pointwise [v]
    rw [a]
    exact congrArg (fun k => p (ix3 b r k)) (Fin.ext (by show 1280 + ((h : ℕ) * 128 + e) = 1280 + 128 * h + e; omega))
  · unfold value
    rw [dif_neg (show ¬ 128 + (e : ℕ) < 128 by omega)]
    have a : v p (ix4 b h ⟨128 + e, by omega⟩ r) = (FloatOps.uitofp (F := Ideal) .f32 (IntOp.cmpi .eq (BitVec.ofNat 32 e) 0#32) : EReal) := by
      pointwise [v]
    rw [a, bit_at _ (by omega)]
    exact congrArg first (by show (e : ℕ) = 128 + e - 128; omega)

theorem z_at (p : FVec Ideal S2x8192x2560 .f32) (r : Fin 16384) (j : Fin 1024) :
    z p (ix2 r j) = p (ix3 ⟨r / 8192, by omega⟩ ⟨r % 8192, by omega⟩ ⟨1536 + j, by omega⟩) := by
  pointwise [z]

theorem x1_at (x : FVec Ideal S2x8192x1024 .f32) (r : Fin 16384) (j : Fin 1024) :
    x1 x (ix2 r j) = x (ix3 ⟨r / 8192, by omega⟩ ⟨r % 8192, by omega⟩ j) := by
  pointwise [x1]

end Cert.MidRefIdeal.Hand

end
-- ==== Proof.MidRefGated.lean ====
/- The reference of the middle call, at an index. -/
module

public import proofs.«01_k».proof.Proof.MidRef

@[expose] public section

set_option maxRecDepth 16384

noncomputable section

namespace Cert.MidRefIdeal.Hand

open Cert.MidRefIdeal Cert.MidRefIdeal.Gen
open Idealize.ShloMosaic Idealize.ShloMosaic.TcCoe Idealize.ShloMosaic.Tactic
open Cert.MidRefIdeal.Facts
open Cert.MidRow
open Cert.MidIdeal.Hand (halves select_eq eq_bit)

theorem rows_at (a : FVec Ideal S16384x512 .bf16) (b : Fin 2) (s : Fin 8192) (j : Fin 512) (r : Fin 16384) (hr : (r : ℕ) = 8192 * b + s) :
    rows a (ix3 b s j) = a (ix2 r j) := by
  have e : rows a (ix3 b s j) = a (ix2 ⟨b * 8192 + s, by omega⟩ j) := by pointwise [rows]
  rw [e]
  exact congrArg (fun k => a (ix2 k j)) (Fin.ext (by show (b : ℕ) * 8192 + s = r; omega))

theorem padded_at (a : FVec Ideal S16384x512 .bf16) (b : Fin 2) (s : Fin 8194) (j : Fin 512) :
    padded a (ix3 b s j) = if h : 1 ≤ (s : ℕ) ∧ (s : ℕ) - 1 < 8192 then rows a (ix3 b ⟨(s : ℕ) - 1, h.2⟩ j) else (0 : EReal) := by
  have z : (FloatOps.sitofp (F := Ideal) .f32 0#32 : EReal) = 0 := by
    show (((0#32 : BitVec 32).toInt : ℝ) : EReal) = 0
    norm_num
  rw [← z]
  pointwise [padded]

theorem tap_at (w : FVec Ideal S1x512 .f32) (b : Fin 2) (s : Fin 8192) (j : Fin 512) : tap w (ix3 b s j) = w (ix2 0 j) := by
  pointwise [tap]

theorem taps_at (k : Fin 3) (t : FVec Ideal S1x3x512 .f32) (j : Fin 512) :
    shapeCast S3x512 t shapeCasts_S1x3x512_S3x512 (ix2 k j) = t (ix3 0 k j) := by
  pointwise

theorem gatedRows_at (cx ga f gb : FVec Ideal S16384x512 .bf16) (t : FVec Ideal S1x3x512 .f32) (b : Fin 2) (s : Fin 8192) (j : Fin 1024)
    (r : Fin 16384) (hr : (r : ℕ) = 8192 * b + s) (u w : Fin 512 → EReal)
    (hu : ∀ j, u j = if (r : ℕ) % 8192 = 0 then 0 else cx (ix2 ⟨(r : ℕ) - 1, by omega⟩ j))
    (hw : ∀ j, w j = if h : (r : ℕ) % 8192 = 8191 then 0 else cx (ix2 ⟨(r : ℕ) + 1, by omega⟩ j)) :
    gatedRows cx ga f gb t (ix3 b s j) = gated u (fun l => cx (ix2 r l)) w (fun l => ga (ix2 r l)) (fun l => f (ix2 r l)) (fun l => gb (ix2 r l))
      (fun k l => t (ix3 0 k l)) j := by
  revert j
  refine halves 512 512 rfl _ (fun e => ?_) fun e => ?_
  · unfold gated
    rw [dif_pos (show (e : ℕ) < 512 from e.isLt), hu, hw]
    have e1 : padded cx (ix3 b ⟨s, by omega⟩ e) = (if (r : ℕ) % 8192 = 0 then 0 else cx (ix2 ⟨(r : ℕ) - 1, by omega⟩ e) : EReal) := by
      rw [padded_at]
      by_cases h : (r : ℕ) % 8192 = 0
      · rw [if_pos h, dif_neg (by show ¬ (1 ≤ (s : ℕ) ∧ (s : ℕ) - 1 < 8192); omega)]
      · rw [if_neg h, dif_pos (by show 1 ≤ (s : ℕ) ∧ (s : ℕ) - 1 < 8192; omega)]
        exact rows_at cx b _ e _ (by show (r : ℕ) - 1 = 8192 * b + (s - 1); omega)
    have e2 : padded cx (ix3 b ⟨1 + s, by omega⟩ e) = cx (ix2 r e) := by
      rw [padded_at, dif_pos (by show 1 ≤ 1 + (s : ℕ) ∧ 1 + (s : ℕ) - 1 < 8192; omega)]
      exact rows_at cx b _ e _ (by show (r : ℕ) = 8192 * b + (1 + s - 1); omega)
    have e3 : padded cx (ix3 b ⟨2 + s, by omega⟩ e) = (if h : (r : ℕ) % 8192 = 8191 then 0 else cx (ix2 ⟨(r : ℕ) + 1, by omega⟩ e) : EReal) := by
      rw [padded_at]
      by_cases h : (r : ℕ) % 8192 = 8191
      · rw [dif_pos h, dif_neg (by show ¬ (1 ≤ 2 + (s : ℕ) ∧ 2 + (s : ℕ) - 1 < 8192); omega)]
      · rw [dif_neg h, dif_pos (by show 1 ≤ 2 + (s : ℕ) ∧ 2 + (s : ℕ) - 1 < 8192; omega)]
        exact rows_at cx b _ e _ (by show (r : ℕ) + 1 = 8192 * b + (2 + s - 1); omega)
    show _ = (ga (ix2 r e) * ((if (r : ℕ) % 8192 = 0 then 0 else cx (ix2 ⟨(r : ℕ) - 1, by omega⟩ e)) * t (ix3 0 0 e) + cx (ix2 r e) * t (ix3 0 1 e)
      + (if h : (r : ℕ) % 8192 = 8191 then 0 else cx (ix2 ⟨(r : ℕ) + 1, by omega⟩ e)) * t (ix3 0 2 e)) : EReal)
    rw [← e1, ← e2, ← e3, ← rows_at ga b s e r hr]
    pointwise [gatedRows]
    simp only [tap_at]
    pointwise
  · unfold gated
    rw [dif_neg (show ¬ 512 + (e : ℕ) < 512 by omega)]
    have e1 : (⟨512 + (e : ℕ) - 512, by omega⟩ : Fin 512) = e := Fin.ext (by show 512 + (e : ℕ) - 512 = e; omega)
    refine Eq.trans ?_ (congrArg (fun l : Fin 512 => (f (ix2 r l) * gb (ix2 r l) : EReal)) e1).symm
    show _ = (f (ix2 r e) * gb (ix2 r e) : EReal)
    rw [← rows_at f b s e r hr, ← rows_at gb b s e r hr]
    pointwise [gatedRows]

end Cert.MidRefIdeal.Hand

end
-- ==== Proof.MidRefProj.lean ====
/- The reference of the middle call, at an index. -/
module

public import proofs.«01_k».proof.Proof.MidRef

@[expose] public section

set_option maxRecDepth 16384

noncomputable section

namespace Cert.MidRefIdeal.Hand

open Cert.MidRefIdeal Cert.MidRefIdeal.Gen
open Idealize.ShloMosaic Idealize.ShloMosaic.TcCoe Idealize.ShloMosaic.Tactic
open Cert.MidRefIdeal.Facts
open Cert.MidRow
open Cert.MidIdeal.Hand (halves select_eq eq_bit)

theorem sum1_at (x y : FVec Ideal S2x8192x1024 .f32) (w : FVec Ideal S1x1024x1024 .f32) (b : Fin 2) (s : Fin 8192) (j : Fin 1024) :
    sum1 x y w (ix3 b s j) = added (fun l => x (ix3 b s l)) (fun l => y (ix3 b s l)) (fun k l => w (ix3 0 k l)) j := by
  pointwise [sum1]
  rfl

theorem norm_at (x : FVec Ideal S2x8192x1024 .f32) (g : FVec Ideal S1x1024 .f32) (b : Fin 2) (s : Fin 8192) (k : Fin 1024) :
    norm x g (ix3 b s k) = Cert.Norm.normed (fun l => x (ix3 b s l)) (fun l => g (ix2 0 l)) k := by
  pointwise [norm]
  rfl

theorem proj_at (x : FVec Ideal S2x8192x1024 .f32) (g : FVec Ideal S1x1024 .f32) (w : FVec Ideal S1x1024x2560 .f32) (b : Fin 2) (s : Fin 8192) (j : Fin 2560) :
    proj x g w (ix3 b s j) = projected (fun l => x (ix3 b s l)) (fun l => g (ix2 0 l)) (fun k l => w (ix3 0 k l)) j := by
  unfold projected
  simp only [← norm_at]
  pointwise [proj]

end Cert.MidRefIdeal.Hand

end
-- ==== Proof.MidRefRun.lean ====
/- The reference of the middle call: its run, over the call's arguments. -/
module

public import proofs.«01_k».proof.Proof.MidRef

@[expose] public section

set_option maxRecDepth 16384

noncomputable section

namespace Cert.MidRefIdeal.Hand

open Cert.MidRefIdeal Cert.MidRefIdeal.Gen
open Idealize.ShloMosaic Idealize.ShloMosaic.TcCoe Idealize.ShloMosaic.Tactic Idealize.ShloMosaic.StableHlo
open Cert.MidRefIdeal.Value

/-- The sum and the projection over an arguments' valuation. -/
theorem sum_of (V : Valuation τ sig (Elt Ideal)) : (show FVec Ideal S2x8192x1024 .f32 from res_main_v35 V)
    = sum1 (V (Proc.devRef .tc main_arg0)) (gatedRows (V (Proc.devRef .tc main_arg1)) (V (Proc.devRef .tc main_arg2)) (V (Proc.devRef .tc main_arg3))
        (V (Proc.devRef .tc main_arg4)) (V (Proc.devRef .tc main_arg5))) (V (Proc.devRef .tc main_arg6)) := rfl

theorem proj_of (V : Valuation τ sig (Elt Ideal)) : (show FVec Ideal S2x8192x2560 .f32 from res_main_v51 V)
    = proj (show FVec Ideal S2x8192x1024 .f32 from res_main_v35 V) (V (Proc.devRef .tc main_arg7)) (V (Proc.devRef .tc main_arg8)) := rfl

variable (m : (ℓ : Loc nD τ sig) → Buf (Elt Ideal) ℓ) (c : Dev nD)

/-- The sum and the projection of a core. -/
def sumM : FVec Ideal S2x8192x1024 .f32 := res_main_v35 (launchContents m c)

def projM : FVec Ideal S2x8192x2560 .f32 := res_main_v51 (launchContents m c)

set_option maxHeartbeats 1600000 in
/-- The run. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v163) = x1 (sumM m c)
      ∧ r.2.mem ((c.tc : Thread nD τ).loc main_v164) = q (projM m c) (m ((c.tc : Thread nD τ).loc main_arg9)) (m ((c.tc : Thread nD τ).loc main_arg11)) (m ((c.tc : Thread nD τ).loc main_arg12))
      ∧ r.2.mem ((c.tc : Thread nD τ).loc main_v165) = k (projM m c) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v166) = v (projM m c)
      ∧ r.2.mem ((c.tc : Thread nD τ).loc main_v168) = z (projM m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c).1, (h c).2.1, (h c).2.2.1, (h c).2.2.2.1, (h c).2.2.2.2.1, (h c).2.2.2.2.2⟩) (Value.run m ρ)

end Cert.MidRefIdeal.Hand

end
-- ==== Proof.MidValue.lean ====
/- The middle kernel and its reference leave the same five arrays. -/
module

public import proofs.«01_k».proof.Proof.MidIdealValue
public import proofs.«01_k».proof.Proof.MidRefOutQ
public import proofs.«01_k».proof.Proof.MidRefOutK
public import proofs.«01_k».proof.Proof.MidRefOutV
public import proofs.«01_k».proof.Proof.MidRefGated
public import proofs.«01_k».proof.Proof.MidRefProj
public import proofs.«01_k».proof.Proof.MidRefRun
public import proofs.«01_k».proof.Defs
public import Idealize.ShloMosaic.Lib.Claim

@[expose] public section

set_option maxRecDepth 16384

noncomputable section

namespace Cert.MidValue

open Idealize.ShloMosaic Idealize.ShloMosaic.TcCoe Idealize.ShloMosaic.Tactic
open Cert.MidRow Cert.MidRefIdeal
open Cert.MidIdeal.Hand (added_congr projected_congr query_congr key_congr value_congr)

section

variable (x : FVec Ideal S2x8192x1024 .f32) (cx ga f gb : FVec Ideal S16384x512 .bf16) (t : FVec Ideal S1x3x512 .f32) (wo : FVec Ideal S1x1024x1024 .f32)
  (g : FVec Ideal S1x1024 .f32) (wi : FVec Ideal S1x1024x2560 .f32) (qg kg : FVec Ideal S1x128 .f32) (cos sin : FVec Ideal S8192x64 .f32)

/-- Thirteen arrays as the call's arguments. -/
def argsOf : Args where
  x b s l := x (ix3 b s l)
  cx r j := cx (ix2 r j)
  ga r j := ga (ix2 r j)
  f r j := f (ix2 r j)
  gb r j := gb (ix2 r j)
  t i j := t (ix3 0 i j)
  wo k l := wo (ix3 0 k l)
  g l := g (ix2 0 l)
  wi k l := wi (ix3 0 k l)
  qg l := qg (ix2 0 l)
  kg l := kg (ix2 0 l)
  cos s d := cos (ix2 s d)
  sin s d := sin (ix2 s d)

/-- The reference's sum is the kernel's. -/
theorem sum_at (b : Fin 2) (s : Fin 8192) (j : Fin 1024) (r : Fin 16384) (hr : (r : ℕ) = 8192 * b + s) :
    Hand.sum1 x (Hand.gatedRows cx ga f gb t) wo (ix3 b s j) = (argsOf x cx ga f gb t wo g wi qg kg cos sin).x1 r j := by
  rw [Hand.sum1_at]
  have eb : (⟨r / 8192, by omega⟩ : Fin 2) = b := Fin.ext (by show (r : ℕ) / 8192 = b; omega)
  have es : (⟨r % 8192, by omega⟩ : Fin 8192) = s := Fin.ext (by show (r : ℕ) % 8192 = s; omega)
  refine added_congr (fun l => ?_) (fun l => ?_) (fun k l => rfl) j
  · show x (ix3 b s l) = x (ix3 ⟨r / 8192, _⟩ ⟨r % 8192, _⟩ l)
    rw [eb, es]
  · exact Hand.gatedRows_at cx ga f gb t b s l r hr _ _ (fun _ => rfl) (fun _ => rfl)

/-- The reference's projection is the kernel's. -/
theorem proj_at (b : Fin 2) (s : Fin 8192) (l : Fin 2560) (r : Fin 16384) (hr : (r : ℕ) = 8192 * b + s) :
    Hand.proj (Hand.sum1 x (Hand.gatedRows cx ga f gb t) wo) g wi (ix3 b s l) = (argsOf x cx ga f gb t wo g wi qg kg cos sin).p r l :=
  (Hand.proj_at _ g wi b s l).trans (projected_congr (fun j => sum_at x cx ga f gb t wo g wi qg kg cos sin b s j r hr) (fun _ => rfl) (fun _ _ => rfl) l)

/-- The first result. -/
theorem x1_eq : Hand.x1 (Hand.sum1 x (Hand.gatedRows cx ga f gb t) wo) = Cert.MidIdeal.Hand.x1Arr (argsOf x cx ga f gb t wo g wi qg kg cos sin) := by
  funext i
  rw [eq_ix2 i]
  refine (Hand.x1_at _ (i 0) (i 1)).trans ?_
  exact sum_at x cx ga f gb t wo g wi qg kg cos sin _ _ _ (i 0) (by show ((i 0 : Fin 16384) : ℕ) = 8192 * ((i 0 : ℕ) / 8192) + (i 0 : ℕ) % 8192; omega)

/-- The second. -/
theorem q_eq : Hand.q (Hand.proj (Hand.sum1 x (Hand.gatedRows cx ga f gb t) wo) g wi) qg cos sin = Cert.MidIdeal.Hand.qArr (argsOf x cx ga f gb t wo g wi qg kg cos sin) := by
  funext i
  rw [eq_ix4 i]
  refine (Hand.q_at _ qg cos sin (i 0) (i 1) (i 2) (i 3)).trans ?_
  exact query_congr (fun l => proj_at x cx ga f gb t wo g wi qg kg cos sin (i 0) (i 3) _ _ rfl) (fun _ => rfl) (fun _ => rfl) (fun _ => rfl) (i 2)

/-- The third. -/
theorem k_eq : Hand.k (Hand.proj (Hand.sum1 x (Hand.gatedRows cx ga f gb t) wo) g wi) qg kg cos sin = Cert.MidIdeal.Hand.kArr (argsOf x cx ga f gb t wo g wi qg kg cos sin) := by
  funext i
  rw [eq_ix4 i]
  refine (Hand.k_at _ qg kg cos sin (i 0) (i 1) (i 3) (i 2)).trans ?_
  exact key_congr (fun l => proj_at x cx ga f gb t wo g wi qg kg cos sin (i 0) (i 2) _ _ rfl) (fun _ => rfl) (fun _ => rfl) (fun _ => rfl) rfl (i 3)

/-- The fourth. -/
theorem v_eq : Hand.v (Hand.proj (Hand.sum1 x (Hand.gatedRows cx ga f gb t) wo) g wi) = Cert.MidIdeal.Hand.vArr (argsOf x cx ga f gb t wo g wi qg kg cos sin) := by
  funext i
  rw [eq_ix4 i]
  refine (Hand.v_at _ (i 0) (i 1) (i 2) (i 3)).trans ?_
  exact value_congr (fun l => proj_at x cx ga f gb t wo g wi qg kg cos sin (i 0) (i 3) _ _ rfl) (i 2)

/-- The fifth. -/
theorem z_eq : Hand.z (Hand.proj (Hand.sum1 x (Hand.gatedRows cx ga f gb t) wo) g wi) = Cert.MidIdeal.Hand.zArr (argsOf x cx ga f gb t wo g wi qg kg cos sin) := by
  funext i
  rw [eq_ix2 i]
  refine (Hand.z_at _ (i 0) (i 1)).trans ?_
  exact proj_at x cx ga f gb t wo g wi qg kg cos sin _ _ _ (i 0) (by show ((i 0 : Fin 16384) : ℕ) = 8192 * ((i 0 : ℕ) / 8192) + (i 0 : ℕ) % 8192; omega)

end

section

variable (m : (ℓ : Loc Cert.MidIdeal.nD Cert.MidIdeal.τ Cert.MidIdeal.sig) → Buf (Elt Ideal) ℓ)
  (m' : (ℓ : Loc nD τ sig) → Buf (Elt Ideal) ℓ) (c : Dev nD)

/-- The kernel's run: the five results over the call's arguments. -/
theorem kernel_run (ρ : Dev Cert.MidIdeal.nD → PrngReg) :
    θ_run (Cert.MidIdeal.defs (F := Ideal)) (onTc (τ := Cert.MidIdeal.τ) (Cert.MidIdeal.main (F := Ideal))) ⟨m, fun _ => 0, ρ⟩ fun r => ∀ c : Dev Cert.MidIdeal.nD,
      r.2.mem ((c.tc : Thread Cert.MidIdeal.nD Cert.MidIdeal.τ).loc Cert.MidIdeal.main_v19_0) = Cert.MidIdeal.Hand.x1Arr (Cert.MidIdeal.Hand.args m c)
      ∧ r.2.mem ((c.tc : Thread Cert.MidIdeal.nD Cert.MidIdeal.τ).loc Cert.MidIdeal.main_v19_1) = Cert.MidIdeal.Hand.qArr (Cert.MidIdeal.Hand.args m c)
      ∧ r.2.mem ((c.tc : Thread Cert.MidIdeal.nD Cert.MidIdeal.τ).loc Cert.MidIdeal.main_v19_2) = Cert.MidIdeal.Hand.kArr (Cert.MidIdeal.Hand.args m c)
      ∧ r.2.mem ((c.tc : Thread Cert.MidIdeal.nD Cert.MidIdeal.τ).loc Cert.MidIdeal.main_v19_3) = Cert.MidIdeal.Hand.vArr (Cert.MidIdeal.Hand.args m c)
      ∧ r.2.mem ((c.tc : Thread Cert.MidIdeal.nD Cert.MidIdeal.τ).loc Cert.MidIdeal.main_v19_4) = Cert.MidIdeal.Hand.zArr (Cert.MidIdeal.Hand.args m c) :=
  (θ_run Cert.MidIdeal.defs _ _).mono (fun _ h c => ⟨((h c).1 15).trans (Cert.MidIdeal.Hand.final15 m c), ((h c).1 16).trans (Cert.MidIdeal.Hand.final16 m c),
    ((h c).1 17).trans (Cert.MidIdeal.Hand.final17 m c), ((h c).1 18).trans (Cert.MidIdeal.Hand.final18 m c), ((h c).1 19).trans (Cert.MidIdeal.Hand.final19 m c)⟩)
    (Cert.MidIdeal.Gen.run_main m ρ)

/-- The reference's arguments, from its own memory. -/
def refArgs : Args := argsOf (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12))

theorem ref_x1 : Hand.x1 (Hand.sumM m' c) = Cert.MidIdeal.Hand.x1Arr (refArgs m' c) :=
  x1_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12))

theorem ref_q : Hand.q (Hand.projM m' c) (m' ((c.tc : Thread nD τ).loc main_arg9)) (m' ((c.tc : Thread nD τ).loc main_arg11)) (m' ((c.tc : Thread nD τ).loc main_arg12)) = Cert.MidIdeal.Hand.qArr (refArgs m' c) :=
  q_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12))

theorem ref_k : Hand.k (Hand.projM m' c) (m' ((c.tc : Thread nD τ).loc main_arg9)) (m' ((c.tc : Thread nD τ).loc main_arg10)) (m' ((c.tc : Thread nD τ).loc main_arg11)) (m' ((c.tc : Thread nD τ).loc main_arg12)) = Cert.MidIdeal.Hand.kArr (refArgs m' c) :=
  k_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12))

theorem ref_v : Hand.v (Hand.projM m' c) = Cert.MidIdeal.Hand.vArr (refArgs m' c) :=
  v_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12))

theorem ref_z : Hand.z (Hand.projM m' c) = Cert.MidIdeal.Hand.zArr (refArgs m' c) :=
  z_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9)) (m' ((c.tc : Thread nD τ).loc main_arg10)) (m' ((c.tc : Thread nD τ).loc main_arg11)) (m' ((c.tc : Thread nD τ).loc main_arg12))

/-- The arguments of two memories that agree. -/
theorem args_eq
    (h0 : m' ((c.tc : Thread nD τ).loc main_arg0) = m ((c.tc : Thread Cert.MidIdeal.nD Cert.MidIdeal.τ).loc Cert.MidIdeal.main_arg0))
    (h1 : m' ((c.tc : Thread nD τ).loc main_arg1) = m ((c.tc : Thread Cert.MidIdeal.nD Cert.MidIdeal.τ).loc Cert.MidIdeal.main_arg1))
    (h2 : m' ((c.tc : Thread nD τ).loc main_arg2) = m ((c.tc : Thread Cert.MidIdeal.nD Cert.MidIdeal.τ).loc Cert.MidIdeal.main_arg2))
    (h3 : m' ((c.tc : Thread nD τ).loc main_arg3) = m ((c.tc : Thread Cert.MidIdeal.nD Cert.MidIdeal.τ).loc Cert.MidIdeal.main_arg3))
    (h4 : m' ((c.tc : Thread nD τ).loc main_arg4) = m ((c.tc : Thread Cert.MidIdeal.nD Cert.MidIdeal.τ).loc Cert.MidIdeal.main_arg4))
    (h5 : m' ((c.tc : Thread nD τ).loc main_arg5) = m ((c.tc : Thread Cert.MidIdeal.nD Cert.MidIdeal.τ).loc Cert.MidIdeal.main_arg5))
    (h6 : m' ((c.tc : Thread nD τ).loc main_arg6) = m ((c.tc : Thread Cert.MidIdeal.nD Cert.MidIdeal.τ).loc Cert.MidIdeal.main_arg6))
    (h7 : m' ((c.tc : Thread nD τ).loc main_arg7) = m ((c.tc : Thread Cert.MidIdeal.nD Cert.MidIdeal.τ).loc Cert.MidIdeal.main_arg7))
    (h8 : m' ((c.tc : Thread nD τ).loc main_arg8) = m ((c.tc : Thread Cert.MidIdeal.nD Cert.MidIdeal.τ).loc Cert.MidIdeal.main_arg8))
    (h9 : m' ((c.tc : Thread nD τ).loc main_arg9) = m ((c.tc : Thread Cert.MidIdeal.nD Cert.MidIdeal.τ).loc Cert.MidIdeal.main_arg9))
    (h10 : m' ((c.tc : Thread nD τ).loc main_arg10) = m ((c.tc : Thread Cert.MidIdeal.nD Cert.MidIdeal.τ).loc Cert.MidIdeal.main_arg10))
    (h11 : m' ((c.tc : Thread nD τ).loc main_arg11) = m ((c.tc : Thread Cert.MidIdeal.nD Cert.MidIdeal.τ).loc Cert.MidIdeal.main_arg11))
    (h12 : m' ((c.tc : Thread nD τ).loc main_arg12) = m ((c.tc : Thread Cert.MidIdeal.nD Cert.MidIdeal.τ).loc Cert.MidIdeal.main_arg12))    :
    refArgs m' c = Cert.MidIdeal.Hand.args m c := by
  unfold refArgs
  rw [h0, h1, h2, h3, h4, h5, h6, h7, h8, h9, h10, h11, h12]
  rfl

end

/-- The kernel and the reference end with the same five arrays. -/
theorem algebraic : Cert.algebraic_MidIdeal_MidRefIdeal := by
  intro m g m' g' hpre hagree
  refine ⟨fun c => Cert.MidIdeal.Hand.x1Arr (Cert.MidIdeal.Hand.args m c), fun c => Cert.MidIdeal.Hand.qArr (Cert.MidIdeal.Hand.args m c),
    fun c => Cert.MidIdeal.Hand.kArr (Cert.MidIdeal.Hand.args m c), fun c => Cert.MidIdeal.Hand.vArr (Cert.MidIdeal.Hand.args m c),
    fun c => Cert.MidIdeal.Hand.zArr (Cert.MidIdeal.Hand.args m c), ?_, ?_⟩
  · refine (θ_run Cert.MidIdeal.defs _ _).mono (fun r h c => ?_) (θ_run_and (kernel_run m g) (Cert.MidIdeal.Gen.unchanged m g))
    obtain ⟨h0, h1, h2, h3, h4⟩ := h.1 c
    exact ⟨h0, h1, h2, h3, h4, h.2 c⟩
  · refine (θ_run defs _ _).mono (fun r h c => ?_) (Hand.run m' g')
    obtain ⟨h0, h1, h2, h3, h4, h5⟩ := h c
    have e := args_eq m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2
    refine ⟨h0.trans ?_, h1.trans ?_, h2.trans ?_, h3.trans ?_, h4.trans ?_, h5⟩
    · exact (ref_x1 m' c).trans (congrArg Cert.MidIdeal.Hand.x1Arr e)
    · exact (ref_q m' c).trans (congrArg Cert.MidIdeal.Hand.qArr e)
    · exact (ref_k m' c).trans (congrArg Cert.MidIdeal.Hand.kArr e)
    · exact (ref_v m' c).trans (congrArg Cert.MidIdeal.Hand.vArr e)
    · exact (ref_z m' c).trans (congrArg Cert.MidIdeal.Hand.zArr e)

end Cert.MidValue

end
-- ==== Proof.lean ====
/- The proof of the claims: each frame, each preserved named constant, and each value claim, from the modules under `Proof/`. -/
module

public import proofs.«01_k».proof.Defs
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutRefIdeal
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInRefIdeal
public import proofs.«01_k».proof.Proof.Gen.Mid
public import proofs.«01_k».proof.Proof.Gen.Mid.Skeleton
public import proofs.«01_k».proof.Proof.Gen.Mid.Launch
public import proofs.«01_k».proof.Proof.Gen.Mid.Points
public import proofs.«01_k».proof.Proof.Gen.Mid.Frame
public import proofs.«01_k».proof.Proof.Gen.MidIdeal
public import proofs.«01_k».proof.Proof.Gen.MidIdeal.Skeleton
public import proofs.«01_k».proof.Proof.Gen.MidIdeal.Launch
public import proofs.«01_k».proof.Proof.Gen.MidIdeal.Points
public import proofs.«01_k».proof.Proof.Gen.MidIdeal.Frame
public import proofs.«01_k».proof.Proof.Gen.MidRefIdeal
public import proofs.«01_k».proof.Proof.Gen.MidRefIdeal.Run
public import proofs.«01_k».proof.Proof.Gen.Pre_attn_finite
public import proofs.«01_k».proof.Proof.Gen.Pre_odd_finite
public import proofs.«01_k».proof.Proof.Gen.Pre_even_finite
public import proofs.«01_k».proof.Proof.Gen.OddOutIdeal.Value
public import proofs.«01_k».proof.Proof.Gen.EvenInIdeal.Value
public import proofs.«01_k».proof.Proof.Gen.OddOutRefIdeal.Run
public import proofs.«01_k».proof.Proof.Gen.EvenInRefIdeal.Run
public import proofs.«01_k».proof.Proof.Gen.AttnRefIdeal.Run
public import proofs.«01_k».proof.Proof.AttnFrame
public import proofs.«01_k».proof.Proof.AttnIdealFrame
public import proofs.«01_k».proof.Proof.AttnValue
public import proofs.«01_k».proof.Proof.OddOutValue
public import proofs.«01_k».proof.Proof.EvenInValue
public import proofs.«01_k».proof.Proof.MidValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Attn

theorem attn_ref : Cert.quiescent_AttnRefIdeal := fun m g _ =>
  (θ_run _ _ _).mono (fun _ h => ⟨fun c => (h c).2, sem_eq_zero_of_no_sems (by decide) _⟩) (Cert.AttnRefIdeal.Value.run m g)

theorem attn : Cert.quiescent_Attn := fun m g _ => Cert.Attn.Hand.frame m g

theorem attn_ideal : Cert.quiescent_AttnIdeal := fun m g _ => Cert.AttnIdeal.Hand.frame m g

theorem attn_ideal_pre : Cert.quiescent_AttnIdeal_pre_attn_finite := fun m g _ => Cert.AttnIdeal.Hand.frame m g

theorem attn_ref_pre : Cert.quiescent_AttnRefIdeal_pre_attn_finite := fun m g _ => attn_ref m g trivial

theorem oddOut_ref : Cert.quiescent_OddOutRefIdeal := fun m g _ =>
  (θ_run _ _ _).mono (fun _ h => ⟨fun c => (h c).2, sem_eq_zero_of_no_sems (by decide) _⟩) (Cert.OddOutRefIdeal.Value.run m g)

theorem oddOut : Cert.quiescent_OddOut := fun m g _ => Cert.OddOut.Gen.frame m g

theorem oddOut_ideal : Cert.quiescent_OddOutIdeal := fun m g _ => Cert.OddOutIdeal.Gen.frame m g

theorem oddOut_ideal_pre : Cert.quiescent_OddOutIdeal_pre_odd_finite := fun m g _ => Cert.OddOutIdeal.Gen.frame m g

theorem oddOut_ref_pre : Cert.quiescent_OddOutRefIdeal_pre_odd_finite := fun m g _ => oddOut_ref m g trivial

theorem evenIn_ref : Cert.quiescent_EvenInRefIdeal := fun m g _ =>
  (θ_run _ _ _).mono (fun _ h => ⟨fun c => (h c).2.2.2.2, sem_eq_zero_of_no_sems (by decide) _⟩) (Cert.EvenInRefIdeal.Value.run m g)

theorem evenIn : Cert.quiescent_EvenIn := fun m g _ => Cert.EvenIn.Gen.frame m g

theorem evenIn_ideal : Cert.quiescent_EvenInIdeal := fun m g _ => Cert.EvenInIdeal.Gen.frame m g

theorem evenIn_ideal_pre : Cert.quiescent_EvenInIdeal_pre_even_finite := fun m g _ => Cert.EvenInIdeal.Gen.frame m g

theorem evenIn_ref_pre : Cert.quiescent_EvenInRefIdeal_pre_even_finite := fun m g _ => evenIn_ref m g trivial

theorem mid_ref : Cert.quiescent_MidRefIdeal := fun m g _ =>
  (θ_run _ _ _).mono (fun _ h => ⟨fun c => (h c).2.2.2.2.2, sem_eq_zero_of_no_sems (by decide) _⟩) (Cert.MidRefIdeal.Value.run m g)

theorem mid : Cert.quiescent_Mid := fun m g _ => Cert.Mid.Gen.frame m g

theorem mid_ideal : Cert.quiescent_MidIdeal := fun m g _ => Cert.MidIdeal.Gen.frame m g

theorem preserves : Cert.preserves_Attn_AttnIdeal := by
  exact IdealRules.named_const.statement Cert.AttnIdeal.κ "q_scale" .f32 0x3E0293EE#32 _ rfl

theorem claim : Cert.Claim := ⟨Cert.Attn.Gen.facts, Cert.AttnIdeal.Gen.facts, Cert.AttnRefIdeal.Gen.facts, Cert.OddOut.Gen.facts, Cert.OddOutIdeal.Gen.facts, Cert.OddOutRefIdeal.Gen.facts, Cert.EvenIn.Gen.facts, Cert.EvenInIdeal.Gen.facts, Cert.EvenInRefIdeal.Gen.facts, Cert.Mid.Gen.facts, Cert.MidIdeal.Gen.facts, Cert.MidRefIdeal.Gen.facts, Cert.Pre_attn_finite.Gen.facts, Cert.Pre_odd_finite.Gen.facts, Cert.Pre_even_finite.Gen.facts,
  attn,
  attn_ideal,
  attn_ideal_pre,
  attn_ref,
  attn_ref_pre,
  oddOut,
  oddOut_ideal,
  oddOut_ideal_pre,
  oddOut_ref,
  oddOut_ref_pre,
  evenIn,
  evenIn_ideal,
  evenIn_ideal_pre,
  evenIn_ref,
  evenIn_ref_pre,
  mid,
  mid_ideal,
  mid_ref,
  preserves,
  Cert.AttnValue.algebraic,
  trivial,
  Cert.OddOutValue.algebraic,
  trivial,
  Cert.EvenInValue.algebraic,
  trivial,
  Cert.MidValue.algebraic⟩

end Cert.Proof

end
